-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_scores_finite [hPre_scores_finite : Cert.Pre_scores_finite.Facts] (m : (ℓ : Loc Cert.MobaIdeal.nD Cert.MobaIdeal.τ Cert.MobaIdeal.sig) → Buf (Elt Ideal) ℓ) : Prop :=
  ∀ c : Dev Cert.MobaIdeal.nD,
    (Cert.Pre_scores_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_scores_finite [hPre_scores_finite : Cert.Pre_scores_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_scores_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_projection_finite [hPre_projection_finite : Cert.Pre_projection_finite.Facts] (m : (ℓ : Loc Cert.InprojIdeal.nD Cert.InprojIdeal.τ Cert.InprojIdeal.sig) → Buf (Elt Ideal) ℓ) : Prop :=
  ∀ c : Dev Cert.InprojIdeal.nD,
    (Cert.Pre_projection_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_projection_finite [hPre_projection_finite : Cert.Pre_projection_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_projection_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_scores_finite [hMobaIdeal : Cert.MobaIdeal.Facts] [hPre_scores_finite : Cert.Pre_scores_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_scores_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_scores_finite [hMobaRefIdeal : Cert.MobaRefIdeal.Facts] [hPre_scores_finite : Cert.Pre_scores_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_scores_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_projection_finite [hInprojIdeal : Cert.InprojIdeal.Facts] [hPre_projection_finite : Cert.Pre_projection_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_projection_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_projection_finite [hInprojRefIdeal : Cert.InprojRefIdeal.Facts] [hPre_projection_finite : Cert.Pre_projection_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_projection_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def preserves_Moba_MobaIdeal : Prop :=
  IdealRules.named_const.Statement Cert.MobaIdeal.κ "mask" .f32 0xF149F2CA#32 ⊥

def algebraic_MobaIdeal_MobaRefIdeal_pre_scores_finite [hMobaIdeal : Cert.MobaIdeal.Facts] [hMobaRefIdeal : Cert.MobaRefIdeal.Facts] [hPre_scores_finite : Cert.Pre_scores_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_scores_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v78) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Inproj_InprojIdeal : Prop :=
  True

def algebraic_InprojIdeal_InprojRefIdeal_pre_projection_finite [hInprojIdeal : Cert.InprojIdeal.Facts] [hInprojRefIdeal : Cert.InprojRefIdeal.Facts] [hPre_projection_finite : Cert.Pre_projection_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_projection_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v32_0)) (v1 : (c : Dev Cert.InprojIdeal.nD) → Buf (Elt Ideal) ((c.tc : Thread Cert.InprojIdeal.nD Cert.InprojIdeal.τ).loc Cert.InprojIdeal.main_v32_1)) (v2 : (c : Dev Cert.InprojIdeal.nD) → Buf (Elt Ideal) ((c.tc : Thread Cert.InprojIdeal.nD Cert.InprojIdeal.τ).loc Cert.InprojIdeal.main_v32_2)) (v3 : (c : Dev Cert.InprojIdeal.nD) → Buf (Elt Ideal) ((c.tc : Thread Cert.InprojIdeal.nD Cert.InprojIdeal.τ).loc Cert.InprojIdeal.main_v32_3)) (v4 : (c : Dev Cert.InprojIdeal.nD) → Buf (Elt Ideal) ((c.tc : Thread Cert.InprojIdeal.nD Cert.InprojIdeal.τ).loc Cert.InprojIdeal.main_v32_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v32_0) = v0 c
          ∧ r.2.mem ((c.tc : Thread Cert.InprojIdeal.nD Cert.InprojIdeal.τ).loc Cert.InprojIdeal.main_v32_1) = v1 c
          ∧ r.2.mem ((c.tc : Thread Cert.InprojIdeal.nD Cert.InprojIdeal.τ).loc Cert.InprojIdeal.main_v32_2) = v2 c
          ∧ r.2.mem ((c.tc : Thread Cert.InprojIdeal.nD Cert.InprojIdeal.τ).loc Cert.InprojIdeal.main_v32_3) = v3 c
          ∧ r.2.mem ((c.tc : Thread Cert.InprojIdeal.nD Cert.InprojIdeal.τ).loc Cert.InprojIdeal.main_v32_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v196) = v0 c
          ∧ r.2.mem ((c.tc : Thread Cert.InprojRefIdeal.nD Cert.InprojRefIdeal.τ).loc Cert.InprojRefIdeal.main_v197) = v1 c
          ∧ r.2.mem ((c.tc : Thread Cert.InprojRefIdeal.nD Cert.InprojRefIdeal.τ).loc Cert.InprojRefIdeal.main_v198) = v2 c
          ∧ r.2.mem ((c.tc : Thread Cert.InprojRefIdeal.nD Cert.InprojRefIdeal.τ).loc Cert.InprojRefIdeal.main_v199) = v3 c
          ∧ r.2.mem ((c.tc : Thread Cert.InprojRefIdeal.nD Cert.InprojRefIdeal.τ).loc Cert.InprojRefIdeal.main_v200) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def Claim : Prop :=
  ∃ (hMoba : Cert.Moba.Facts) (hMobaIdeal : Cert.MobaIdeal.Facts) (hMobaRefIdeal : Cert.MobaRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_scores_finite : Cert.Pre_scores_finite.Facts) (hPre_projection_finite : Cert.Pre_projection_finite.Facts),
    quiescent_Moba (hMoba := hMoba)
    ∧ quiescent_MobaIdeal (hMobaIdeal := hMobaIdeal)
    ∧ quiescent_MobaIdeal_pre_scores_finite (hMobaIdeal := hMobaIdeal) (hPre_scores_finite := hPre_scores_finite)
    ∧ quiescent_MobaRefIdeal (hMobaRefIdeal := hMobaRefIdeal)
    ∧ quiescent_MobaRefIdeal_pre_scores_finite (hMobaRefIdeal := hMobaRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojIdeal_pre_projection_finite (hInprojIdeal := hInprojIdeal) (hPre_projection_finite := hPre_projection_finite)
    ∧ quiescent_InprojRefIdeal (hInprojRefIdeal := hInprojRefIdeal)
    ∧ quiescent_InprojRefIdeal_pre_projection_finite (hInprojRefIdeal := hInprojRefIdeal) (hPre_projection_finite := hPre_projection_finite)
    ∧ preserves_Moba_MobaIdeal
    ∧ algebraic_MobaIdeal_MobaRefIdeal_pre_scores_finite (hMobaIdeal := hMobaIdeal) (hMobaRefIdeal := hMobaRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal_pre_projection_finite (hInprojIdeal := hInprojIdeal) (hInprojRefIdeal := hInprojRefIdeal) (hPre_projection_finite := hPre_projection_finite)
-- ==== Pre_projection_finite.lean ====
abbrev S8x2048x1024 : Shape := ⟨3, ![8, 2048, 1024]⟩
abbrev S1x1024x4096 : Shape := ⟨3, ![1, 1024, 4096]⟩
abbrev S1x2048 : Shape := ⟨2, ![1, 2048]⟩
abbrev S1x4x128x128 : Shape := ⟨4, ![1, 4, 128, 128]⟩
abbrev S1x512 : Shape := ⟨2, ![1, 512]⟩
abbrev S_ : Shape := ⟨0, ![]⟩
abbrev S1x1024x512 : Shape := ⟨3, ![1, 1024, 512]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S1x1024x4096_S1x1024x512_0_0_1536 : S1x1024x4096.Slices ![0, 0, 1536] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S8x2048x1024 .f32) (main_arg1 : FVec F S1x1024x4096 .f32) (main_arg2 : FVec F S1x2048 .f32) (main_arg3 : FVec F S1x4x128x128 .f32) (main_arg4 : FVec F S1x512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024x512 .f32 := (extractStridedSlice S1x1024x512 ![0, 0, 1536] · slices_S1x1024x4096_S1x1024x512_0_0_1536) main_arg1
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  main_v9
-- ==== Pre_scores_finite.lean ====
abbrev S8x2048x512 : Shape := ⟨3, ![8, 2048, 512]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .bf16) (main_arg1 : FVec F S8x2048x512 .bf16) (main_arg2 : FVec F S8x2048x512 .bf16) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  main_v10
-- ==== Moba.lean ====
abbrev S8x2048x512 : Shape := ⟨3, ![8, 2048, 512]⟩
abbrev S1x256x128 : Shape := ⟨3, ![1, 256, 128]⟩
abbrev S1x2048x128 : Shape := ⟨3, ![1, 2048, 128]⟩
abbrev S128x128 : Shape := ⟨2, ![128, 128]⟩
abbrev S2048x128 : Shape := ⟨2, ![2048, 128]⟩
abbrev S8x256x128 : Shape := ⟨3, ![8, 256, 128]⟩
abbrev S8x128 : Shape := ⟨2, ![8, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S128x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v11 : BitVec 32 := Scalar.muli arg2 c256_i32
  v11
def k0_off1 (i : grid0.Coords) : Fin 3 → Nat :=
  let c0_66 : Index := 0#32
  let arg2 : BitVec 32 := BitVec.ofNat 32 (i 2).val
  let c256_i32 : BitVec 32 := 256#32
  let v11 : BitVec 32 := Scalar.muli arg2 c256_i32
  let v12 : BitVec 32 := v11
  let v221 : Index := Scalar.indexCast v12
  let c0_67 : Index := 0#32
  ![0, v221.toNat, 0]
@[reducible] def k0_t1_loop (i : grid0.Coords) : Scf.Loop 32 :=
  let c0_i32_75 : BitVec 32 := 0#32
  let arg2 : BitVec 32 := BitVec.ofNat 32 (i 2).val
  let v239 : BitVec 32 := Scalar.subi arg2 c0_i32_75
  let c1_i32_76 : BitVec 32 := 1#32
  let v241 : BitVec 32 := Scalar.divsi v239 c1_i32_76
  let v242 : BitVec 32 := Scalar.muli v241 c1_i32_76
  let v243 : BitVec 32 := Scalar.addi c0_i32_75 v242
  let c1_i32_77 : BitVec 32 := 1#32
  ⟨c0_i32_75, v243, c1_i32_77⟩
def k0_mult2 (i : grid0.Coords) (k0_t1 : Fin (k0_t1_loop i).trips) : BitVec 32 :=
  let c0_i32_75 : BitVec 32 := 0#32
  let c1_i32_77 : BitVec 32 := 1#32
  let arg8 : BitVec 32 := Scf.iv c0_i32_75 c1_i32_77 k0_t1
  let c256_i32_174 : BitVec 32 := 256#32
  let v514 : BitVec 32 := Scalar.muli arg8 c256_i32_174
  v514
def k0_off2 (i : grid0.Coords) (k0_t1 : Fin (k0_t1_loop i).trips) : Fin 3 → Nat :=
  let c0_178 : Index := 0#32
  let c0_i32_75 : BitVec 32 := 0#32
  let c1_i32_77 : BitVec 32 := 1#32
  let arg8 : BitVec 32 := Scf.iv c0_i32_75 c1_i32_77 k0_t1
  let c256_i32_174 : BitVec 32 := 256#32
  let v514 : BitVec 32 := Scalar.muli arg8 c256_i32_174
  let v515 : BitVec 32 := v514
  let v524 : Index := Scalar.indexCast v515
  let c0_179 : Index := 0#32
  ![0, v524.toNat, 0]
@[reducible] def k0_t2_loop (i : grid0.Coords) : Scf.Loop 32 :=
  let c0_i32_75 : BitVec 32 := 0#32
  let arg2 : BitVec 32 := BitVec.ofNat 32 (i 2).val
  let v239 : BitVec 32 := Scalar.subi arg2 c0_i32_75
  let c1_i32_76 : BitVec 32 := 1#32
  let v241 : BitVec 32 := Scalar.divsi v239 c1_i32_76
  let v242 : BitVec 32 := Scalar.muli v241 c1_i32_76
  let v243 : BitVec 32 := Scalar.addi c0_i32_75 v242
  let v240 : BitVec 32 := Scalar.addi c0_i32_75 v239
  let c1_i32_78 : BitVec 32 := 1#32
  ⟨v243, v240, c1_i32_78⟩
def k0_mult3 (i : grid0.Coords) (k0_t2 : Fin (k0_t2_loop i).trips) : BitVec 32 :=
  let c0_i32_75 : BitVec 32 := 0#32
  let arg2 : BitVec 32 := BitVec.ofNat 32 (i 2).val
  let v239 : BitVec 32 := Scalar.subi arg2 c0_i32_75
  let c1_i32_76 : BitVec 32 := 1#32
  let v241 : BitVec 32 := Scalar.divsi v239 c1_i32_76
  let v242 : BitVec 32 := Scalar.muli v241 c1_i32_76
  let v243 : BitVec 32 := Scalar.addi c0_i32_75 v242
  let c1_i32_78 : BitVec 32 := 1#32
  let arg8 : BitVec 32 := Scf.iv v243 c1_i32_78 k0_t2
  let c256_i32_174 : BitVec 32 := 256#32
  let v514 : BitVec 32 := Scalar.muli arg8 c256_i32_174
  v514
def k0_off3 (i : grid0.Coords) (k0_t2 : Fin (k0_t2_loop i).trips) : Fin 3 → Nat :=
  let c0_178 : Index := 0#32
  let c0_i32_75 : BitVec 32 := 0#32
  let arg2 : BitVec 32 := BitVec.ofNat 32 (i 2).val
  let v239 : BitVec 32 := Scalar.subi arg2 c0_i32_75
  let c1_i32_76 : BitVec 32 := 1#32
  let v241 : BitVec 32 := Scalar.divsi v239 c1_i32_76
  let v242 : BitVec 32 := Scalar.muli v241 c1_i32_76
  let v243 : BitVec 32 := Scalar.addi c0_i32_75 v242
  let c1_i32_78 : BitVec 32 := 1#32
  let arg8 : BitVec 32 := Scf.iv v243 c1_i32_78 k0_t2
  let c256_i32_174 : BitVec 32 := 256#32
  let v514 : BitVec 32 := Scalar.muli arg8 c256_i32_174
  let v515 : BitVec 32 := v514
  let v524 : Index := Scalar.indexCast v515
  let c0_179 : Index := 0#32
  ![0, v524.toNat, 0]
@[reducible] def k0_t3_loop (i : grid0.Coords) : Scf.Loop 32 :=
  let c0_i32_159 : BitVec 32 := 0#32
  let arg2 : BitVec 32 := BitVec.ofNat 32 (i 2).val
  let v474 : BitVec 32 := Scalar.subi arg2 c0_i32_159
  let c1_i32_160 : BitVec 32 := 1#32
  let v476 : BitVec 32 := Scalar.divsi v474 c1_i32_160
  let v477 : BitVec 32 := Scalar.muli v476 c1_i32_160
  let v478 : BitVec 32 := Scalar.addi c0_i32_159 v477
  let c1_i32_161 : BitVec 32 := 1#32
  ⟨c0_i32_159, v478, c1_i32_161⟩
def k0_mult4 (i : grid0.Coords) (k0_t3 : Fin (k0_t3_loop i).trips) : BitVec 32 :=
  let c0_i32_159 : BitVec 32 := 0#32
  let c1_i32_161 : BitVec 32 := 1#32
  let arg8 : BitVec 32 := Scf.iv c0_i32_159 c1_i32_161 k0_t3
  let c256_i32_174 : BitVec 32 := 256#32
  let v514 : BitVec 32 := Scalar.muli arg8 c256_i32_174
  v514
def k0_off4 (i : grid0.Coords) (k0_t3 : Fin (k0_t3_loop i).trips) : Fin 3 → Nat :=
  let c0_178 : Index := 0#32
  let c0_i32_159 : BitVec 32 := 0#32
  let c1_i32_161 : BitVec 32 := 1#32
  let arg8 : BitVec 32 := Scf.iv c0_i32_159 c1_i32_161 k0_t3
  let c256_i32_174 : BitVec 32 := 256#32
  let v514 : BitVec 32 := Scalar.muli arg8 c256_i32_174
  let v515 : BitVec 32 := v514
  let v524 : Index := Scalar.indexCast v515
  let c0_179 : Index := 0#32
  ![0, v524.toNat, 0]
@[reducible] def k0_t4_loop (i : grid0.Coords) : Scf.Loop 32 :=
  let c0_i32_159 : BitVec 32 := 0#32
  let arg2 : BitVec 32 := BitVec.ofNat 32 (i 2).val
  let v474 : BitVec 32 := Scalar.subi arg2 c0_i32_159
  let c1_i32_160 : BitVec 32 := 1#32
  let v476 : BitVec 32 := Scalar.divsi v474 c1_i32_160
  let v477 : BitVec 32 := Scalar.muli v476 c1_i32_160
  let v478 : BitVec 32 := Scalar.addi c0_i32_159 v477
  let v475 : BitVec 32 := Scalar.addi c0_i32_159 v474
  let c1_i32_162 : BitVec 32 := 1#32
  ⟨v478, v475, c1_i32_162⟩
def k0_mult5 (i : grid0.Coords) (k0_t4 : Fin (k0_t4_loop i).trips) : BitVec 32 :=
  let c0_i32_159 : BitVec 32 := 0#32
  let arg2 : BitVec 32 := BitVec.ofNat 32 (i 2).val
  let v474 : BitVec 32 := Scalar.subi arg2 c0_i32_159
  let c1_i32_160 : BitVec 32 := 1#32
  let v476 : BitVec 32 := Scalar.divsi v474 c1_i32_160
  let v477 : BitVec 32 := Scalar.muli v476 c1_i32_160
  let v478 : BitVec 32 := Scalar.addi c0_i32_159 v477
  let c1_i32_162 : BitVec 32 := 1#32
  let arg8 : BitVec 32 := Scf.iv v478 c1_i32_162 k0_t4
  let c256_i32_174 : BitVec 32 := 256#32
  let v514 : BitVec 32 := Scalar.muli arg8 c256_i32_174
  v514
def k0_off5 (i : grid0.Coords) (k0_t4 : Fin (k0_t4_loop i).trips) : Fin 3 → Nat :=
  let c0_178 : Index := 0#32
  let c0_i32_159 : BitVec 32 := 0#32
  let arg2 : BitVec 32 := BitVec.ofNat 32 (i 2).val
  let v474 : BitVec 32 := Scalar.subi arg2 c0_i32_159
  let c1_i32_160 : BitVec 32 := 1#32
  let v476 : BitVec 32 := Scalar.divsi v474 c1_i32_160
  let v477 : BitVec 32 := Scalar.muli v476 c1_i32_160
  let v478 : BitVec 32 := Scalar.addi c0_i32_159 v477
  let c1_i32_162 : BitVec 32 := 1#32
  let arg8 : BitVec 32 := Scf.iv v478 c1_i32_162 k0_t4
  let c256_i32_174 : BitVec 32 := 256#32
  let v514 : BitVec 32 := Scalar.muli arg8 c256_i32_174
  let v515 : BitVec 32 := v514
  let v524 : Index := Scalar.indexCast v515
  let c0_179 : Index := 0#32
  ![0, v524.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S8x8x8x256x64 : Shape := ⟨5, ![8, 8, 8, 256, 64]⟩
abbrev S_ : Shape := ⟨0, ![]⟩
abbrev S8x8x8x64 : Shape := ⟨4, ![8, 8, 8, 64]⟩
abbrev S2048 : Shape := ⟨1, ![2048]⟩
abbrev S8x8x2048x8 : Shape := ⟨4, ![8, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S1x1x2048x1 : Shape := ⟨4, ![1, 1, 2048, 1]⟩
abbrev S8x8x2048x3x1 : Shape := ⟨5, ![8, 8, 2048, 3, 1]⟩
abbrev S8x8x2048x3x256x64 : Shape := ⟨6, ![8, 8, 2048, 3, 256, 64]⟩
abbrev S8x8x2048x3x256 : Shape := ⟨5, ![8, 8, 2048, 3, 256]⟩
abbrev S8x8x2048x768 : Shape := ⟨4, ![8, 8, 2048, 768]⟩
abbrev S8x8x8x256x256 : Shape := ⟨5, ![8, 8, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x8x2048x256 : Shape := ⟨4, ![8, 8, 2048, 256]⟩
abbrev S8x8x2048x1024 : Shape := ⟨4, ![8, 8, 2048, 1024]⟩
abbrev S8x8x2048 : Shape := ⟨3, ![8, 8, 2048]⟩
abbrev S8x8x2048x1 : Shape := ⟨4, ![8, 8, 2048, 1]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .f32⟩
  | .hbm, ⟨4, _⟩ => ⟨S8x2048x8x64, .f32⟩
  | .hbm, ⟨5, _⟩ => ⟨S8x8x2048x64, .f32⟩
  | .hbm, ⟨6, _⟩ => ⟨S8x2048x512, .f32⟩
  | .hbm, ⟨7, _⟩ => ⟨S8x2048x8x64, .f32⟩
  | .hbm, ⟨8, _⟩ => ⟨S8x8x2048x64, .f32⟩
  | .hbm, ⟨9, _⟩ => ⟨S8x2048x512, .f32⟩
  | .hbm, ⟨10, _⟩ => ⟨S8x2048x8x64, .f32⟩
  | .hbm, ⟨11, _⟩ => ⟨S8x8x2048x64, .f32⟩
  | .hbm, ⟨12, _⟩ => ⟨S8x8x8x256x64, .f32⟩
  | .hbm, ⟨13, _⟩ => ⟨S8x8x8x256x64, .f32⟩
  | .hbm, ⟨14, _⟩ => ⟨S_, .f32⟩
  | .hbm, ⟨15, _⟩ => ⟨S8x8x8x64, .f32⟩
  | .hbm, ⟨16, _⟩ => ⟨S_, .f32⟩
  | .hbm, ⟨17, _⟩ => ⟨S8x8x8x64, .f32⟩
  | .hbm, ⟨18, _⟩ => ⟨S8x8x8x64, .f32⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S8x8x2048x8, .f32⟩
  | .hbm, ⟨39, _⟩ => ⟨S8, .i32⟩
  | .hbm, ⟨40, _⟩ => ⟨S1x8, .i32⟩
  | .hbm, ⟨41, _⟩ => ⟨S2048x1, .i32⟩
  | .hbm, ⟨42, _⟩ => ⟨S2048x8, .i32⟩
  | .hbm, ⟨43, _⟩ => ⟨S2048x8, .i32⟩
  | .hbm, ⟨44, _⟩ => ⟨S2048x8, .i1⟩
  | .hbm, ⟨45, _⟩ => ⟨S_, .f32⟩
  | .hbm, ⟨46, _⟩ => ⟨S_, .f32⟩
  | .hbm, ⟨47, _⟩ => ⟨S8x8x2048x8, .i1⟩
  | .hbm, ⟨48, _⟩ => ⟨S8x8x2048x8, .f32⟩
  | .hbm, ⟨49, _⟩ => ⟨S8x8x2048x8, .f32⟩
  | .hbm, ⟨50, _⟩ => ⟨S8x8x2048x3, .f32⟩
  | .hbm, ⟨51, _⟩ => ⟨S8x8x2048x3, .i32⟩
  | .hbm, ⟨52, _⟩ => ⟨S2048x1, .i32⟩
  | .hbm, ⟨53, _⟩ => ⟨S1x1x2048x1, .i32⟩
  | .hbm, ⟨54, _⟩ => ⟨S8x8x2048x3, .i32⟩
  | .hbm, ⟨55, _⟩ => ⟨S8x8x2048x3, .i1⟩
  | .hbm, ⟨56, _⟩ => ⟨S_, .i32⟩
  | .hbm, ⟨57, _⟩ => ⟨S8x8x2048x3, .i32⟩
  | .hbm, ⟨58, _⟩ => ⟨S8x8x2048x3, .i1⟩
  | .hbm, ⟨59, _⟩ => ⟨S_, .i32⟩
  | .hbm, ⟨60, _⟩ => ⟨S8x8x2048x3, .i32⟩
  | .hbm, ⟨61, _⟩ => ⟨S8x8x2048x3, .i32⟩
  | .hbm, ⟨62, _⟩ => ⟨S8x8x2048x3, .i32⟩
  | .hbm, ⟨63, _⟩ => ⟨S8x8x2048x3x1, .i32⟩
  | .hbm, ⟨64, _⟩ => ⟨S8x8x2048x3x256x64, .f32⟩
  | .hbm, ⟨65, _⟩ => ⟨S_, .i32⟩
  | .hbm, ⟨66, _⟩ => ⟨S8x8x2048x3, .i32⟩
  | .hbm, ⟨67, _⟩ => ⟨S8x8x2048x3, .i1⟩
  | .hbm, ⟨68, _⟩ => ⟨S_, .i32⟩
  | .hbm, ⟨69, _⟩ => ⟨S8x8x2048x3, .i32⟩
  | .hbm, ⟨70, _⟩ => ⟨S8x8x2048x3, .i32⟩
  | .hbm, ⟨71, _⟩ => ⟨S8x8x2048x3, .i32⟩
  | .hbm, ⟨72, _⟩ => ⟨S8x8x2048x3x1, .i32⟩
  | .hbm, ⟨73, _⟩ => ⟨S8x8x2048x3x256x64, .f32⟩
  | .hbm, ⟨74, _⟩ => ⟨S8x8x2048x3x256, .f32⟩
  | .hbm, ⟨75, _⟩ => ⟨S8x8x2048x3x1, .i1⟩
  | .hbm, ⟨76, _⟩ => ⟨S_, .f32⟩
  | .hbm, ⟨77, _⟩ => ⟨S_, .f32⟩
  | .hbm, ⟨78, _⟩ => ⟨S8x8x2048x3x256, .i1⟩
  | .hbm, ⟨79, _⟩ => ⟨S8x8x2048x3x256, .f32⟩
  | .hbm, ⟨80, _⟩ => ⟨S8x8x2048x3x256, .f32⟩
  | .hbm, ⟨81, _⟩ => ⟨S8x8x2048x768, .f32⟩
  | .hbm, ⟨82, _⟩ => ⟨S8x8x8x256x64, .f32⟩
  | .hbm, ⟨83, _⟩ => ⟨S8x8x8x256x256, .f32⟩
  | .hbm, ⟨84, _⟩ => ⟨S256, .i32⟩
  | .hbm, ⟨85, _⟩ => ⟨S1x256, .i32⟩
  | .hbm, ⟨86, _⟩ => ⟨S256x1, .i32⟩
  | .hbm, ⟨87, _⟩ => ⟨S256x256, .i32⟩
  | .hbm, ⟨88, _⟩ => ⟨S256x256, .i32⟩
  | .hbm, ⟨89, _⟩ => ⟨S256x256, .i1⟩
  | .hbm, ⟨90, _⟩ => ⟨S_, .f32⟩
  | .hbm, ⟨91, _⟩ => ⟨S_, .f32⟩
  | .hbm, ⟨92, _⟩ => ⟨S8x8x8x256x256, .i1⟩
  | .hbm, ⟨93, _⟩ => ⟨S8x8x8x256x256, .f32⟩
  | .hbm, ⟨94, _⟩ => ⟨S8x8x8x256x256, .f32⟩
  | .hbm, ⟨95, _⟩ => ⟨S8x8x2048x256, .f32⟩
  | .hbm, ⟨96, _⟩ => ⟨S8x8x2048x1024, .f32⟩
  | .hbm, ⟨97, _⟩ => ⟨S_, .f32⟩
  | .hbm, ⟨98, _⟩ => ⟨S8x8x2048, .f32⟩
  | .hbm, ⟨99, _⟩ => ⟨S_, .f32⟩
  | .hbm, ⟨100, _⟩ => ⟨S8x8x2048, .f32⟩
  | .hbm, ⟨101, _⟩ => ⟨S8x8x2048, .f32⟩
  | .hbm, ⟨102, _⟩ => ⟨S8x8x2048x1, .f32⟩
  | .hbm, ⟨103, _⟩ => ⟨S8x8x2048x1024, .f32⟩
  | .hbm, ⟨104, _⟩ => ⟨S8x8x2048x1024, .f32⟩
  | .hbm, ⟨105, _⟩ => ⟨S8x8x2048x1024, .f32⟩
  | .hbm, ⟨106, _⟩ => ⟨S_, .f32⟩
  | .hbm, ⟨107, _⟩ => ⟨S8x8x2048, .f32⟩
  | .hbm, ⟨108, _⟩ => ⟨S8x8x2048x1, .f32⟩
  | .hbm, ⟨109, _⟩ => ⟨S8x8x2048x1024, .f32⟩
  | .hbm, ⟨110, _⟩ => ⟨S8x8x2048x1024, .f32⟩
  | .hbm, ⟨111, _⟩ => ⟨S8x8x2048x768, .f32⟩
  | .hbm, ⟨112, _⟩ => ⟨S8x8x2048x3x256, .f32⟩
  | .hbm, ⟨113, _⟩ => ⟨S8x8x2048x256, .f32⟩
  | .hbm, ⟨114, _⟩ => ⟨S8x8x8x256x256, .f32⟩
  | .hbm, ⟨115, _⟩ => ⟨S8x8x2048x64, .f32⟩
  | .hbm, ⟨116, _⟩ => ⟨S8x8x8x256x64, .f32⟩
  | .hbm, ⟨117, _⟩ => ⟨S8x8x2048x64, .f32⟩
  | .hbm, ⟨118, _⟩ => ⟨S8x8x2048x64, .f32⟩
  | .hbm, ⟨119, _⟩ => ⟨S8x2048x8x64, .f32⟩
  | .hbm, ⟨120, _⟩ => ⟨S8x2048x512, .f32⟩
  | .hbm, ⟨121, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_values : Ref sig .tc := ⟨.hbm, 50, rfl⟩
abbrev main_indices : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_c_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_4 : Ref sig .tc := ⟨.hbm, 65, rfl⟩
abbrev main_v35 : Ref sig .tc := ⟨.hbm, 66, rfl⟩
abbrev main_v36 : Ref sig .tc := ⟨.hbm, 67, rfl⟩
abbrev main_c_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_8 : Ref sig .tc := ⟨.hbm, 97, rfl⟩
abbrev main_v57 : Ref sig .tc := ⟨.hbm, 98, rfl⟩
abbrev main_cst_9 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩

abbrev nD : Nat := 1
abbrev τ : Topo := Topo.v7x

variable {F : FTy → Type} [FloatOps F]
-- ==== Ffn.lean ====
abbrev S8x2048x1024 : Shape := ⟨3, ![8, 2048, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x512x1024 : Shape := ⟨3, ![1, 512, 1024]⟩
abbrev S520x256 : Shape := ⟨2, ![520, 256]⟩
abbrev S8x2816 : Shape := ⟨2, ![8, 2816]⟩
abbrev S512x1024 : Shape := ⟨2, ![512, 1024]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩

abbrev nBuf : Space → Nat
  | .hbm => 22
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S3x2816, .f32⟩
  | .hbm, ⟨13, _⟩ => ⟨S2816, .f32⟩
  | .hbm, ⟨14, _⟩ => ⟨S1x2816, .f32⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S520x256, .f32⟩
  | .local _ .vmem, ⟨12, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S8x2048x1024 : Shape := ⟨3, ![8, 2048, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x2816 : Shape := ⟨2, ![1024, 2816]⟩
abbrev S8x2048x2816 : Shape := ⟨3, ![8, 2048, 2816]⟩
abbrev S_ : Shape := ⟨0, ![]⟩
abbrev S8x2050x2816 : Shape := ⟨3, ![8, 2050, 2816]⟩
abbrev S3x2816 : Shape := ⟨2, ![3, 2816]⟩
abbrev S2816 : Shape := ⟨1, ![2816]⟩
abbrev S1x1x2816 : Shape := ⟨3, ![1, 1, 2816]⟩
abbrev S2816x1024 : Shape := ⟨2, ![2816, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S8x2048x2816, .f32⟩
  | .hbm, ⟨10, _⟩ => ⟨S1024x2816, .f32⟩
  | .hbm, ⟨11, _⟩ => ⟨S8x2048x2816, .f32⟩
  | .hbm, ⟨12, _⟩ => ⟨S_, .i32⟩
  | .hbm, ⟨13, _⟩ => ⟨S_, .f32⟩
  | .hbm, ⟨14, _⟩ => ⟨S8x2050x2816, .f32⟩
  | .hbm, ⟨15, _⟩ => ⟨S8x2048x2816, .f32⟩
  | .hbm, ⟨16, _⟩ => ⟨S3x2816, .f32⟩
  | .hbm, ⟨17, _⟩ => ⟨S1x2816, .f32⟩
  | .hbm, ⟨18, _⟩ => ⟨S2816, .f32⟩
  | .hbm, ⟨19, _⟩ => ⟨S1x1x2816, .f32⟩
  | .hbm, ⟨20, _⟩ => ⟨S8x2048x2816, .f32⟩
  | .hbm, ⟨21, _⟩ => ⟨S8x2048x2816, .f32⟩
  | .hbm, ⟨22, _⟩ => ⟨S_, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S3x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S3x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S2816, .f32⟩
  | .hbm, ⟨42, _⟩ => ⟨S1x1x2816, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S2816x1024, .f32⟩
  | .hbm, ⟨56, _⟩ => ⟨S8x2048x1024, .f32⟩
  | .hbm, ⟨57, _⟩ => ⟨S_, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S1x1x1024, .f32⟩
  | .hbm, ⟨90, _⟩ => ⟨S8x2048x1024, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S1x512x512 : Shape := ⟨3, ![1, 512, 512]⟩
abbrev S1x512x2048 : Shape := ⟨3, ![1, 512, 2048]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S8x2048x1024, .bf16⟩
  | .hbm, ⟨10, _⟩ => ⟨S8x2048x1024, .f32⟩
  | .hbm, ⟨11, _⟩ => ⟨S8x2048x1024, .bf16⟩
  | .hbm, ⟨12, _⟩ => ⟨S8x2048x1024, .f32⟩
  | .hbm, ⟨13, _⟩ => ⟨S8x2048x512, .f32⟩
  | .hbm, ⟨14, _⟩ => ⟨S512x1024, .f32⟩
  | .hbm, ⟨15, _⟩ => ⟨S8x2048x1024, .f32⟩
  | .hbm, ⟨16, _⟩ => ⟨S8x2048x512, .f32⟩
  | .hbm, ⟨17, _⟩ => ⟨S512x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S1024x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Inproj.lean ====
abbrev S8x2048x1024 : Shape := ⟨3, ![8, 2048, 1024]⟩
abbrev S1x1024x4096 : Shape := ⟨3, ![1, 1024, 4096]⟩
abbrev S1x2048 : Shape := ⟨2, ![1, 2048]⟩
abbrev S1x4x128x128 : Shape := ⟨4, ![1, 4, 128, 128]⟩
abbrev S1x512 : Shape := ⟨2, ![1, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x4096 : Shape := ⟨2, ![1024, 4096]⟩
abbrev S4x128x128 : Shape := ⟨3, ![4, 128, 128]⟩
abbrev S512 : Shape := ⟨1, ![512]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S512x128 : Shape := ⟨2, ![512, 128]⟩
abbrev S1x512x512 : Shape := ⟨3, ![1, 512, 512]⟩
abbrev S1x512x2048 : Shape := ⟨3, ![1, 512, 2048]⟩
abbrev S528x512 : Shape := ⟨2, ![528, 512]⟩
abbrev S512x1024 : Shape := ⟨2, ![512, 1024]⟩
abbrev S1024x512 : Shape := ⟨2, ![1024, 512]⟩
abbrev S512x512 : Shape := ⟨2, ![512, 512]⟩
abbrev S1x512x128 : Shape := ⟨3, ![1, 512, 128]⟩
abbrev S16x512 : Shape := ⟨2, ![16, 512]⟩
abbrev S512x1 : Shape := ⟨2, ![512, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 45
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1x2048, .f32⟩
  | .hbm, ⟨3, _⟩ => ⟨S1x4x128x128, .f32⟩
  | .hbm, ⟨4, _⟩ => ⟨S1x512, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S1024x4096, .f32⟩
  | .hbm, ⟨33, _⟩ => ⟨S1024x4096, .bf16⟩
  | .hbm, ⟨34, _⟩ => ⟨S2048, .f32⟩
  | .hbm, ⟨35, _⟩ => ⟨S1x2048, .f32⟩
  | .hbm, ⟨36, _⟩ => ⟨S4x128x128, .f32⟩
  | .hbm, ⟨37, _⟩ => ⟨S4x128x128, .bf16⟩
  | .hbm, ⟨38, _⟩ => ⟨S512, .f32⟩
  | .hbm, ⟨39, _⟩ => ⟨S1x512, .f32⟩
  | .hbm, ⟨40, _⟩ => ⟨S8x2048x512, .bf16⟩
  | .hbm, ⟨41, _⟩ => ⟨S8x2048x512, .bf16⟩
  | .hbm, ⟨42, _⟩ => ⟨S8x2048x512, .bf16⟩
  | .hbm, ⟨43, _⟩ => ⟨S8x2048x512, .bf16⟩
  | .hbm, ⟨44, _⟩ => ⟨S8x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1024x4096, .bf16⟩
  | .local _ .vmem, ⟨3, _⟩ => ⟨S1x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4x128x128, .bf16⟩
  | .local _ .vmem, ⟨9, _⟩ => ⟨S1x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x2048, .bf16⟩
  | .local _ .vmem, ⟨19, _⟩ => ⟨S1x512x2048, .bf16⟩
  | .local _ .vmem, ⟨20, _⟩ => ⟨S528x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojRefIdeal.lean ====
abbrev S8x2048x1024 : Shape := ⟨3, ![8, 2048, 1024]⟩
abbrev S1x1024x4096 : Shape := ⟨3, ![1, 1024, 4096]⟩
abbrev S1x2048 : Shape := ⟨2, ![1, 2048]⟩
abbrev S1x4x128x128 : Shape := ⟨4, ![1, 4, 128, 128]⟩
abbrev S1x512 : Shape := ⟨2, ![1, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1024x4096 : Shape := ⟨2, ![1024, 4096]⟩
abbrev S8x2048x4096 : Shape := ⟨3, ![8, 2048, 4096]⟩
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S8x8x2048x32 : Shape := ⟨4, ![8, 8, 2048, 32]⟩
abbrev S1x1x2048x32 : Shape := ⟨4, ![1, 1, 2048, 32]⟩
abbrev S4x128x128 : Shape := ⟨3, ![4, 128, 128]⟩
abbrev S512 : Shape := ⟨1, ![512]⟩
abbrev S8x2049x512 : Shape := ⟨3, ![8, 2049, 512]⟩
abbrev S8x2048x128 : Shape := ⟨3, ![8, 2048, 128]⟩
abbrev S2048x2 : Shape := ⟨2, ![2048, 2]⟩
abbrev S1x2048x1 : Shape := ⟨3, ![1, 2048, 1]⟩
abbrev S8x2048x1x128 : Shape := ⟨4, ![8, 2048, 1, 128]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩
abbrev S8x2048x2048 : Shape := ⟨3, ![8, 2048, 2048]⟩
abbrev S1x1x2048 : Shape := ⟨3, ![1, 1, 2048]⟩

abbrev nBuf : Space → Nat
  | .hbm => 244
  | .vmem => 0
  | .smem => 0
  | _ => 0

abbrev hbmTy0_0 (i : Nat) : BufTy := match i % 128 with
  | 0 => ⟨S8x2048x1024, .f32⟩
  | 1 => ⟨S1x1024x4096, .f32⟩
  | 2 => ⟨S1x2048, .f32⟩
  | 3 => ⟨S1x4x128x128, .f32⟩
  | 4 => ⟨S1x512, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S2048, .f32⟩
  | 16 => ⟨S2048x1, .f32⟩
  | 17 => ⟨S1x32, .f32⟩
  | 18 => ⟨S2048x32, .f32⟩
  | 19 => ⟨S2048x32, .f32⟩
  | 20 => ⟨S2048x32, .f32⟩
  | 21 => ⟨S2048x32, .f32⟩
  | 22 => ⟨S2048x32, .f32⟩
  | 23 => ⟨S1024x4096, .f32⟩
  | 24 => ⟨S8x2048x4096, .f32⟩
  | 25 => ⟨S8x2048x512, .f32⟩
  | 26 => ⟨S8x2048x8x64, .f32⟩
  | 27 => ⟨S8x8x2048x64, .f32⟩
  | 28 => ⟨S8x8x2048x32, .f32⟩
  | 29 => ⟨S8x8x2048x32, .f32⟩
  | 30 => ⟨S1x1x2048x32, .f32⟩
  | 31 => ⟨S8x8x2048x32, .f32⟩
  | 32 => ⟨S8x8x2048x32, .f32⟩
  | 33 => ⟨S1x1x2048x32, .f32⟩
  | 34 => ⟨S8x8x2048x32, .f32⟩
  | 35 => ⟨S8x8x2048x32, .f32⟩
  | 36 => ⟨S8x8x2048x32, .f32⟩
  | 37 => ⟨S1x1x2048x32, .f32⟩
  | 38 => ⟨S8x8x2048x32, .f32⟩
  | 39 => ⟨S8x8x2048x32, .f32⟩
  | 40 => ⟨S1x1x2048x32, .f32⟩
  | 41 => ⟨S8x8x2048x32, .f32⟩
  | 42 => ⟨S8x8x2048x32, .f32⟩
  | 43 => ⟨S8x8x2048x32, .f32⟩
  | 44 => ⟨S8x8x2048x64, .f32⟩
  | 45 => ⟨S_, .f32⟩
  | 46 => ⟨S8x8x2048x64, .f32⟩
  | 47 => ⟨S8x8x2048x64, .f32⟩
  | 48 => ⟨S8x2048x8x64, .f32⟩
  | 49 => ⟨S8x2048x512, .f32⟩
  | 50 => ⟨S8x2048x512, .f32⟩
  | 51 => ⟨S8x2048x8x64, .f32⟩
  | 52 => ⟨S8x8x2048x64, .f32⟩
  | 53 => ⟨S8x8x2048x32, .f32⟩
  | 54 => ⟨S8x8x2048x32, .f32⟩
  | 55 => ⟨S1x1x2048x32, .f32⟩
  | 56 => ⟨S8x8x2048x32, .f32⟩
  | 57 => ⟨S8x8x2048x32, .f32⟩
  | 58 => ⟨S1x1x2048x32, .f32⟩
  | 59 => ⟨S8x8x2048x32, .f32⟩
  | 60 => ⟨S8x8x2048x32, .f32⟩
  | 61 => ⟨S8x8x2048x32, .f32⟩
  | 62 => ⟨S1x1x2048x32, .f32⟩
  | 63 => ⟨S8x8x2048x32, .f32⟩
  | 64 => ⟨S8x8x2048x32, .f32⟩
  | 65 => ⟨S1x1x2048x32, .f32⟩
  | 66 => ⟨S8x8x2048x32, .f32⟩
  | 67 => ⟨S8x8x2048x32, .f32⟩
  | 68 => ⟨S8x8x2048x32, .f32⟩
  | 69 => ⟨S8x8x2048x64, .f32⟩
  | 70 => ⟨S8x2048x8x64, .f32⟩
  | 71 => ⟨S8x2048x512, .f32⟩
  | 72 => ⟨S8x2048x512, .f32⟩
  | 73 => ⟨S8x2048x512, .f32⟩
  | 74 => ⟨S4x128x128, .f32⟩
  | 75 => ⟨S512, .f32⟩
  | 76 => ⟨S_, .f32⟩
  | 77 => ⟨S_, .f32⟩
  | 78 => ⟨S8x2048x512, .f32⟩
  | 79 => ⟨S_, .i32⟩
  | 80 => ⟨S_, .f32⟩
  | 81 => ⟨S8x2049x512, .f32⟩
  | 82 => ⟨S2048, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .i32⟩
  | 96 => ⟨S2048, .f32⟩
  | 97 => ⟨S8x2048x128, .f32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S_, .i32⟩
  | 107 => ⟨S2048x1, .i32⟩
  | 108 => ⟨S2048x2, .i32⟩
  | 109 => ⟨S8x2048x128, .f32⟩
  | 110 => ⟨S8x2048x128, .f32⟩
  | 111 => ⟨S1x2048x1, .f32⟩
  | 112 => ⟨S8x2048x128, .f32⟩
  | 113 => ⟨S8x2048x128, .f32⟩
  | 114 => ⟨S8x2048x128, .f32⟩
  | 115 => ⟨S8x2048x128, .f32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S8x2048x1024, .f32⟩

abbrev hbmTy0_1 (i : Nat) : BufTy := match i % 128 with
  | 0 => ⟨S2048, .i32⟩
  | 1 => ⟨S2048, .f32⟩
  | 2 => ⟨S8x2048x128, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S_, .i32⟩
  | 12 => ⟨S2048x1, .i32⟩
  | 13 => ⟨S2048x2, .i32⟩
  | 14 => ⟨S8x2048x128, .f32⟩
  | 15 => ⟨S8x2048x128, .f32⟩
  | 16 => ⟨S1x2048x1, .f32⟩
  | 17 => ⟨S8x2048x128, .f32⟩
  | 18 => ⟨S8x2048x128, .f32⟩
  | 19 => ⟨S8x2048x128, .f32⟩
  | 20 => ⟨S8x2048x128, .f32⟩
  | 21 => ⟨S_, .i32⟩
  | 22 => ⟨S2048, .i32⟩
  | 23 => ⟨S2048, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S2048, .i32⟩
  | 34 => ⟨S2048, .f32⟩
  | 35 => ⟨S8x2048x128, .f32⟩
  | 36 => ⟨S_, .i32⟩
  | 37 => ⟨S2048, .i32⟩
  | 38 => ⟨S2048, .i1⟩
  | 39 => ⟨S_, .i32⟩
  | 40 => ⟨S2048, .i32⟩
  | 41 => ⟨S2048, .i32⟩
  | 42 => ⟨S2048, .i32⟩
  | 43 => ⟨S2048x1, .i32⟩
  | 44 => ⟨S_, .i32⟩
  | 45 => ⟨S2048x1, .i32⟩
  | 46 => ⟨S2048x2, .i32⟩
  | 47 => ⟨S8x2048x128, .f32⟩
  | 48 => ⟨S8x2048x128, .f32⟩
  | 49 => ⟨S1x2048x1, .f32⟩
  | 50 => ⟨S8x2048x128, .f32⟩
  | 51 => ⟨S8x2048x128, .f32⟩
  | 52 => ⟨S8x2048x128, .f32⟩
  | 53 => ⟨S8x2048x128, .f32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048, .i32⟩
  | 67 => ⟨S2048, .f32⟩
  | 68 => ⟨S8x2048x128, .f32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S_, .i32⟩
  | 78 => ⟨S2048x1, .i32⟩
  | 79 => ⟨S2048x2, .i32⟩
  | 80 => ⟨S8x2048x128, .f32⟩
  | 81 => ⟨S8x2048x128, .f32⟩
  | 82 => ⟨S1x2048x1, .f32⟩
  | 83 => ⟨S8x2048x128, .f32⟩
  | 84 => ⟨S8x2048x128, .f32⟩
  | 85 => ⟨S8x2048x128, .f32⟩
  | 86 => ⟨S8x2048x128, .f32⟩
  | 87 => ⟨S8x2048x1x128, .f32⟩
  | 88 => ⟨S8x2048x1x128, .f32⟩
  | 89 => ⟨S8x2048x1x128, .f32⟩
  | 90 => ⟨S8x2048x1x128, .f32⟩
  | 91 => ⟨S8x2048x4x128, .f32⟩
  | 92 => ⟨S4x128x8x2048, .f32⟩
  | 93 => ⟨S8x2048x4x128, .f32⟩
  | 94 => ⟨S8x2048x512, .f32⟩
  | 95 => ⟨S1x1x512, .f32⟩
  | 96 => ⟨S8x2048x512, .f32⟩
  | 97 => ⟨S8x2048x512, .f32⟩
  | 98 => ⟨S8x2048x2048, .f32⟩
  | 99 => ⟨S2048, .f32⟩
  | 100 => ⟨S1x1x2048, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .f32⟩
  | 108 => ⟨S_, .f32⟩
  | 109 => ⟨S8x2048x2048, .f32⟩
  | 110 => ⟨S8x2048x2048, .f32⟩
  | 111 => ⟨S8x2048x512, .bf16⟩
  | 112 => ⟨S8x2048x512, .bf16⟩
  | 113 => ⟨S8x2048x512, .bf16⟩
  | 114 => ⟨S8x2048x512, .bf16⟩
  | 115 => ⟨S8x2048x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_call0_call0_cst : Ref sig .tc := ⟨.hbm, 76, rfl⟩
abbrev main_call0_call0_v0 : Ref sig .tc := ⟨.hbm, 77, rfl⟩
abbrev main_v67 : Ref sig .tc := ⟨.hbm, 78, rfl⟩
abbrev main_c : Ref sig .tc := ⟨.hbm, 79, rfl⟩
abbrev main_call1_v0 : Ref sig .tc := ⟨.hbm, 80, rfl⟩
abbrev main_v68 : Ref sig .tc := ⟨.hbm, 81, rfl⟩
abbrev main_v69 : Ref sig .tc := ⟨.hbm, 82, rfl⟩
abbrev main_c_3 : Ref sig .tc := ⟨.hbm, 83, rfl⟩
abbrev main_v70 : Ref sig .tc := ⟨.hbm, 84, rfl⟩
abbrev main_v71 : Ref sig .tc := ⟨.hbm, 85, rfl⟩
abbrev main_c_4 : Ref sig .tc := ⟨.hbm, 86, rfl⟩
abbrev main_v72 : Ref sig .tc := ⟨.hbm, 87, rfl⟩
abbrev main_v73 : Ref sig .tc := ⟨.hbm, 88, rfl⟩
abbrev main_c_5 : Ref sig .tc := ⟨.hbm, 89, rfl⟩
abbrev main_v74 : Ref sig .tc := ⟨.hbm, 90, rfl⟩
abbrev main_v75 : Ref sig .tc := ⟨.hbm, 91, rfl⟩
abbrev main_c_6 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_7 : Ref sig .tc := ⟨.hbm, 98, rfl⟩
abbrev main_v81 : Ref sig .tc := ⟨.hbm, 99, rfl⟩
abbrev main_v82 : Ref sig .tc := ⟨.hbm, 100, rfl⟩
abbrev main_c_8 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c_9 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_10 : Ref sig .tc := ⟨.hbm, 116, rfl⟩
abbrev main_v96 : Ref sig .tc := ⟨.hbm, 117, rfl⟩
abbrev main_v97 : Ref sig .tc := ⟨.hbm, 118, rfl⟩
abbrev main_c_11 : Ref sig .tc := ⟨.hbm, 119, rfl⟩
abbrev main_v98 : Ref sig .tc := ⟨.hbm, 120, rfl⟩
abbrev main_v99 : Ref sig .tc := ⟨.hbm, 121, rfl⟩
abbrev main_c_12 : Ref sig .tc := ⟨.hbm, 122, rfl⟩
abbrev main_v100 : Ref sig .tc := ⟨.hbm, 123, rfl⟩
abbrev main_v101 : Ref sig .tc := ⟨.hbm, 124, rfl⟩
abbrev main_c_13 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_c_14 : Ref sig .tc := ⟨.hbm, 131, rfl⟩
abbrev main_v107 : Ref sig .tc := ⟨.hbm, 132, rfl⟩
abbrev main_v108 : Ref sig .tc := ⟨.hbm, 133, rfl⟩
abbrev main_c_15 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_16 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_c_17 : Ref sig .tc := ⟨.hbm, 149, rfl⟩
abbrev main_v122 : Ref sig .tc := ⟨.hbm, 150, rfl⟩
abbrev main_v123 : Ref sig .tc := ⟨.hbm, 151, rfl⟩
abbrev main_c_18 : Ref sig .tc := ⟨.hbm, 152, rfl⟩
abbrev main_v124 : Ref sig .tc := ⟨.hbm, 153, rfl⟩
abbrev main_v125 : Ref sig .tc := ⟨.hbm, 154, rfl⟩
abbrev main_c_19 : Ref sig .tc := ⟨.hbm, 155, rfl⟩
abbrev main_v126 : Ref sig .tc := ⟨.hbm, 156, rfl⟩
abbrev main_v127 : Ref sig .tc := ⟨.hbm, 157, rfl⟩
abbrev main_c_20 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_21 : Ref sig .tc := ⟨.hbm, 164, rfl⟩
abbrev main_v133 : Ref sig .tc := ⟨.hbm, 165, rfl⟩
abbrev main_v134 : Ref sig .tc := ⟨.hbm, 166, rfl⟩
abbrev main_c_22 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_23 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_c_24 : Ref sig .tc := ⟨.hbm, 182, rfl⟩
abbrev main_v148 : Ref sig .tc := ⟨.hbm, 183, rfl⟩
abbrev main_v149 : Ref sig .tc := ⟨.hbm, 184, rfl⟩
abbrev main_c_25 : Ref sig .tc := ⟨.hbm, 185, rfl⟩
abbrev main_v150 : Ref sig .tc := ⟨.hbm, 186, rfl⟩
abbrev main_v151 : Ref sig .tc := ⟨.hbm, 187, rfl⟩
abbrev main_c_26 : Ref sig .tc := ⟨.hbm, 188, rfl⟩
abbrev main_v152 : Ref sig .tc := ⟨.hbm, 189, rfl⟩
abbrev main_v153 : Ref sig .tc := ⟨.hbm, 190, rfl⟩
abbrev main_c_27 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_c_28 : Ref sig .tc := ⟨.hbm, 197, rfl⟩
abbrev main_v159 : Ref sig .tc := ⟨.hbm, 198, rfl⟩
abbrev main_v160 : Ref sig .tc := ⟨.hbm, 199, rfl⟩
abbrev main_c_29 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_c_30 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_31 : Ref sig .tc := ⟨.hbm, 233, rfl⟩
abbrev main_v192 : Ref sig .tc := ⟨.hbm, 234, rfl⟩
abbrev main_v193 : Ref sig .tc := ⟨.hbm, 235, rfl⟩
abbrev main_cst_32 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩

abbrev nD : Nat := 1
abbrev τ : Topo := Topo.v7x

variable {F : FTy → Type} [FloatOps F]
-- ==== Proof.MobaMath.lean ====
/-
  The arithmetic of block attention over the extended reals: a softmax that may be shifted by any real number, the
  running form of it, and the blocks a stable top-3 of the gates selects.
-/
module

public import Idealize.ShloMosaic.Lib.Pipeline.ValueKit
public import Idealize.ShloMosaic.Lib.SortPrefix

@[expose] public section

noncomputable section

namespace Cert.MobaMath

open Idealize.ShloMosaic

/-! ## Sums scaled by a nonnegative real -/

/-- A real number that is not negative distributes over a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A real number that is not negative distributes over a sum of two extended reals. -/
theorem coe_mul_add (c : ℝ) (hc : 0 ≤ c) (a b : EReal) : (c : EReal) * (a + b) = (c : EReal) * a + (c : EReal) * b :=
  EReal.left_distrib_of_nonneg_of_ne_top (EReal.coe_nonneg.mpr hc) (EReal.coe_ne_top c) _ _

/-! ## Shifted exponentials -/

/-- A score: a real number, or the masked one. -/
def IsScore (s : EReal) : Prop := s = ⊥ ∨ ∃ x : ℝ, s = x

/-- The exponential of a score shifted by a real number is the exponential scaled. -/
theorem exp_sub (s : EReal) (hs : IsScore s) (μ : ℝ) :
    Ideal.exp (s - (μ : EReal)) = (Real.exp (-μ) : EReal) * Ideal.exp s := by
  rcases hs with rfl | ⟨x, rfl⟩
  · have h1 : (⊥ : EReal) - (μ : EReal) = ⊥ := by rw [sub_eq_add_neg, EReal.bot_add]
    rw [h1]
    have h2 : Ideal.exp ⊥ = 0 := rfl
    rw [h2, mul_zero]
  · rw [← EReal.coe_sub]
    change ((Real.exp (x - μ) : ℝ) : EReal) = (Real.exp (-μ) : EReal) * ((Real.exp x : ℝ) : EReal)
    rw [← EReal.coe_mul, ← Real.exp_add]
    congr 2
    ring

/-- The exponential of a score is a real number that is not negative. -/
theorem exp_isReal (s : EReal) (hs : IsScore s) : ∃ x : ℝ, 0 ≤ x ∧ Ideal.exp s = x := by
  rcases hs with rfl | ⟨x, rfl⟩
  · exact ⟨0, le_refl _, rfl⟩
  · exact ⟨Real.exp x, (Real.exp_pos x).le, rfl⟩

/-- A finite sum of real numbers that are not negative is one. -/
theorem sum_isReal {ι : Type} (s : Finset ι) (f : ι → EReal) (hf : ∀ k, ∃ x : ℝ, 0 ≤ x ∧ f k = x) :
    ∃ x : ℝ, 0 ≤ x ∧ ∑ k ∈ s, f k = x := by
  choose g hg hfg using hf
  refine ⟨∑ k ∈ s, g k, Finset.sum_nonneg fun k _ => hg k, ?_⟩
  simp only [hfg]
  exact (map_sum (⟨⟨fun x : ℝ => (x : EReal), rfl⟩, EReal.coe_add⟩ : ℝ →+ EReal) g s).symm

/-- A sum of exponentials of scores, all shifted by one real number. -/
theorem sum_exp_sub {ι : Type} [Fintype ι] (s : ι → EReal) (hs : ∀ k, IsScore (s k)) (μ : ℝ) :
    ∑ k, Ideal.exp (s k - (μ : EReal)) = (Real.exp (-μ) : EReal) * ∑ k, Ideal.exp (s k) := by
  rw [coe_mul_sum _ _ (Real.exp_pos _).le]
  exact Finset.sum_congr rfl fun k _ => exp_sub _ (hs k) μ

/-- The same with each exponential weighing a value. -/
theorem sum_exp_sub_mul {ι : Type} [Fintype ι] (s v : ι → EReal) (hs : ∀ k, IsScore (s k)) (μ : ℝ) :
    ∑ k, Ideal.exp (s k - (μ : EReal)) * v k = (Real.exp (-μ) : EReal) * ∑ k, Ideal.exp (s k) * v k := by
  rw [coe_mul_sum _ _ (Real.exp_pos _).le]
  exact Finset.sum_congr rfl fun k _ => by rw [exp_sub _ (hs k) μ, mul_assoc]

/-- The greatest of finitely many scores and a real number is a real number. -/
theorem max_isReal {ι : Type} (t : Finset ι) (s : ι → EReal) (hs : ∀ k, IsScore (s k)) (μ : ℝ) :
    ∃ x : ℝ, max (μ : EReal) (t.fold max ⊥ s) = x := by
  classical
  induction t using Finset.induction_on with
  | empty => exact ⟨μ, by simp⟩
  | insert a t ha ih =>
    obtain ⟨x, hx⟩ := ih
    rw [Finset.fold_insert ha, ← max_assoc, max_comm (μ : EReal), max_assoc, hx]
    rcases hs a with h | ⟨y, h⟩
    · exact ⟨x, by rw [h]; simp⟩
    · exact ⟨max y x, by rw [h]; exact (EReal.coe_strictMono.monotone.map_max).symm⟩

/-- The greatest of finitely many scores, one of which is a real number, is a real number. -/
theorem fold_isReal {ι : Type} [Fintype ι] (s : ι → EReal) (hs : ∀ k, IsScore (s k)) (a : ι) (x : ℝ) (ha : s a = x) :
    ∃ y : ℝ, Finset.univ.fold max ⊥ s = y := by
  have hle : (x : EReal) ≤ Finset.univ.fold max ⊥ s := by
    rw [← ha]
    exact (Finset.le_fold_max _).mpr (Or.inr ⟨a, Finset.mem_univ a, le_refl _⟩)
  obtain ⟨y, hy⟩ := max_isReal Finset.univ s hs x
  exact ⟨y, by rw [← hy, max_eq_right hle]⟩

/-! ## The running softmax -/

/-- A running softmax's state `(m, l, a)` stands for the sums `L` of exponentials and `A` of weighted values:
    both are held scaled by `exp (-m)`, and `m` is a real number. -/
def Holds (m l a L A : EReal) : Prop :=
  ∃ μ : ℝ, m = μ ∧ l = (Real.exp (-μ) : EReal) * L ∧ a = (Real.exp (-μ) : EReal) * A

/-- The state after the first block of scores. -/
theorem holds_init {ι : Type} [Fintype ι] (s v : ι → EReal) (hs : ∀ k, IsScore (s k)) (a : ι) (x : ℝ) (ha : s a = x) :
    Holds (Finset.univ.fold max ⊥ s) (∑ k, Ideal.exp (s k - Finset.univ.fold max ⊥ s))
      (∑ k, Ideal.exp (s k - Finset.univ.fold max ⊥ s) * v k)
      (∑ k, Ideal.exp (s k)) (∑ k, Ideal.exp (s k) * v k) := by
  obtain ⟨μ, hμ⟩ := fold_isReal s hs a x ha
  rw [hμ]
  exact ⟨μ, rfl, sum_exp_sub s hs μ, sum_exp_sub_mul s v hs μ⟩

/-- One further block of scores. -/
theorem holds_step {ι : Type} [Fintype ι] (s v : ι → EReal) (hs : ∀ k, IsScore (s k)) (m l a L A m' : EReal)
    (h : Holds m l a L A) (hm' : m' = max m (Finset.univ.fold max ⊥ s)) :
    Holds m' (Ideal.exp (m - m') * l + ∑ k, Ideal.exp (s k - m'))
      (Ideal.exp (m - m') * a + ∑ k, Ideal.exp (s k - m') * v k)
      (L + ∑ k, Ideal.exp (s k)) (A + ∑ k, Ideal.exp (s k) * v k) := by
  obtain ⟨μ, rfl, rfl, rfl⟩ := h
  obtain ⟨ν, hν⟩ := max_isReal Finset.univ s hs μ
  rw [hν] at hm'
  subst hm'
  have hα : Ideal.exp ((μ : EReal) - (ν : EReal)) * (Real.exp (-μ) : EReal) = (Real.exp (-ν) : EReal) := by
    rw [← EReal.coe_sub]
    change ((Real.exp (μ - ν) : ℝ) : EReal) * _ = _
    rw [← EReal.coe_mul, ← Real.exp_add]
    congr 2
    ring
  refine ⟨ν, rfl, ?_, ?_⟩
  · rw [sum_exp_sub s hs ν, ← mul_assoc, hα, ← coe_mul_add _ (Real.exp_pos _).le]
  · rw [sum_exp_sub_mul s v hs ν, ← mul_assoc, hα, ← coe_mul_add _ (Real.exp_pos _).le]

/-- A quotient by a positive real number. -/
theorem div_pos (x : EReal) (y : ℝ) (hy : 0 < y) : Ideal.div x y = x * ((y⁻¹ : ℝ) : EReal) := by
  unfold Ideal.div
  rw [if_neg (by exact_mod_cast hy.ne'), EReal.coe_inv]

/-- The quotient of a running softmax's two sums does not see the shift. -/
theorem holds_div (m l a A : EReal) (L : ℝ) (hL : 0 < L) (h : Holds m l a L A) :
    Ideal.div a l = A * ((L⁻¹ : ℝ) : EReal) := by
  obtain ⟨μ, -, rfl, rfl⟩ := h
  have he := Real.exp_pos (-μ)
  rw [← EReal.coe_mul, div_pos _ _ (mul_pos he hL), mul_comm (Real.exp (-μ) : EReal) A, mul_assoc, ← EReal.coe_mul]
  congr 2
  field_simp

/-- The quotient of one shifted exponential by a shifted sum does not see the shift. -/
theorem exp_sub_div (s : EReal) (hs : IsScore s) (μ L : ℝ) (hL : 0 < L) :
    Ideal.div (Ideal.exp (s - (μ : EReal))) ((Real.exp (-μ) : EReal) * (L : EReal)) = ((L⁻¹ : ℝ) : EReal) * Ideal.exp s := by
  have he := Real.exp_pos (-μ)
  rw [exp_sub s hs μ, ← EReal.coe_mul, div_pos _ _ (mul_pos he hL), mul_comm (Real.exp (-μ) : EReal), mul_assoc,
    ← EReal.coe_mul, mul_comm]
  congr 2
  field_simp

/-! ## The blocks a stable top-3 selects -/

/-- Position `a` comes before position `b` in the order by falling gate, equal gates by position. -/
def lex {n : ℕ} (g : Fin n → EReal) (a b : Fin n) : Bool := decide (g b < g a) || (decide (g a = g b) && decide (a < b))

/-- How many positions come before position `b`. -/
def rank {n : ℕ} (g : Fin n → EReal) (b : Fin n) : ℕ := ∑ a : Fin n, if lex g a b = true then 1 else 0

theorem lex_total {n : ℕ} (g : Fin n → EReal) : StrictTotalBefore (lex g) where
  irrefl a := by simp [lex]
  trans a b c hab hbc := by
    simp only [lex, Bool.or_eq_true, Bool.and_eq_true, decide_eq_true_eq] at hab hbc ⊢
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hab := by
    simp only [lex, Bool.or_eq_true, Bool.and_eq_true, decide_eq_true_eq]
    rcases lt_trichotomy (g a) (g b) with h | h | h
    · exact Or.inr (Or.inl h)
    · rcases lt_or_gt_of_ne hab with k | k
      · exact Or.inl (Or.inr ⟨h, k⟩)
      · exact Or.inr (Or.inr ⟨h.symm, k⟩)
    · exact Or.inl (Or.inl h)

/-- A stable sort by falling gate is the sort by falling gate and then by position. -/
theorem stableSort_lex {n : ℕ} (g : Fin n → EReal) (l : List (Fin n)) (hl : l.Pairwise (· < ·)) :
    stableSort (fun a b => decide (g b < g a)) l = stableSort (lex g) l := by
  induction l with
  | nil => rfl
  | cons a l ih =>
    rw [List.pairwise_cons] at hl
    unfold stableSort
    rw [ih hl.2]
    refine insertBefore_congr _ _ a _ fun b hb => ?_
    have hb' : b ∈ l := (perm_stableSort (lex g) l).mem_iff.mp hb
    have hab : ¬ b < a := not_lt.mpr (hl.1 b hb').le
    simp [lex, hab]

theorem sortedFrom_lex {n : ℕ} (g : Fin n → EReal) :
    sortedFrom (fun a b => decide (g b < g a)) = sortedFrom (lex g) := by
  funext k
  unfold sortedFrom
  have h : sortPositions n (fun a b => decide (g b < g a)) = sortPositions n (lex g) :=
    stableSort_lex g (List.finRange n) (List.pairwise_lt_finRange n)
  rw [List.get_of_eq h]
  rfl

/-- The position a sort puts at place `t` has exactly `t` positions before it. -/
theorem rank_sortedFrom {n : ℕ} (g : Fin n → EReal) (t : Fin n) : rank g (sortedFrom (lex g) t) = t.val := by
  have hinj := sortedFrom_injective (lex g)
  have hbij : Function.Bijective (sortedFrom (lex g)) := ⟨hinj, sortedFrom_surjective (lex g)⟩
  have hlt : ∀ s t : Fin n, s < t → lex g (sortedFrom (lex g) t) (sortedFrom (lex g) s) = false := fun s t h =>
    sortedFrom_noInversion (lex g) (lex g) (fun a b h => (lex_total g).asymm a b h) (fun _ _ h => h)
      (lex_total g).negTrans s t h
  have hiff : ∀ s t : Fin n, lex g (sortedFrom (lex g) s) (sortedFrom (lex g) t) = true ↔ s < t := by
    intro s t
    rcases lt_trichotomy s t with h | h | h
    · refine ⟨fun _ => h, fun _ => ?_⟩
      rcases (lex_total g).total _ _ (fun e => h.ne (hinj e)) with k | k
      · exact k
      · rw [hlt s t h] at k; exact absurd k (by decide)
    · subst h; simp [(lex_total g).irrefl]
    · refine ⟨fun k => ?_, fun k => absurd k h.asymm⟩
      rw [hlt t s h] at k; exact absurd k (by decide)
  unfold rank
  rw [← hbij.sum_comp fun a => if lex g a (sortedFrom (lex g) t) = true then 1 else 0]
  simp only [hiff]
  rw [Finset.sum_boole]
  have hset : Finset.univ.filter (fun x => x < t) = Finset.Iio t := by ext x; simp
  rw [hset, Fin.card_Iio]
  rfl

/-- The sum of `f` over the three positions a stable top-3 selects is the sum over the positions of rank below three. -/
theorem sum_topThree {M : Type} [AddCommMonoid M] (g : Fin 8 → EReal) (f : Fin 8 → M) :
    ∑ t : Fin 3, f (sortedFrom (fun a b => decide (g b < g a)) (t.castLE (by decide)))
      = ∑ n : Fin 8, if rank g n < 3 then f n else 0 := by
  rw [sortedFrom_lex g]
  have hbij : Function.Bijective (sortedFrom (lex g)) := ⟨sortedFrom_injective (lex g), sortedFrom_surjective (lex g)⟩
  rw [← hbij.sum_comp fun n => if rank g n < 3 then f n else 0]
  simp only [rank_sortedFrom]
  rw [Fin.sum_univ_three, Fin.sum_univ_eight]
  simp

/-- The gates of the blocks before block `i`; a block that is not past has none. -/
def pastGate (i : ℕ) (g : Fin 8 → EReal) (n : Fin 8) : EReal := if n.val < i then g n else ⊥

/-- Block `n` is one of the past blocks a query in block `i` attends to. -/
def Picked (i : ℕ) (g : Fin 8 → EReal) (n : Fin 8) : Prop := n.val < i ∧ rank (pastGate i g) n < 3

/-- The rank of a past block with a real gate counts past blocks only. -/
theorem rank_pastGate (i : ℕ) (g : Fin 8 → EReal) (hg : ∀ n, ∃ x : ℝ, g n = x) (n : Fin 8) (hn : n.val < i) :
    rank (pastGate i g) n = ∑ a : Fin 8, if lex g a n = true ∧ a.val < i then 1 else 0 := by
  refine Finset.sum_congr rfl fun a _ => ?_
  congr 1
  unfold lex pastGate
  rw [if_pos hn]
  by_cases ha : a.val < i
  · simp [ha]
  · obtain ⟨x, hx⟩ := hg n
    simp only [if_neg ha, ha, and_false, hx]
    simp

end Cert.MobaMath
-- ==== Proof.MobaKernel.lean ====
/-
  The attention kernel's body, entry by entry: the queries of one head, their gates, the past blocks they pick, and
  one block of the running softmax.
-/
module

public import proofs.«01_k».proof.Proof.Gen.MobaIdeal.Value
public import proofs.«01_k».proof.Proof.MobaMath

@[expose] public section

set_option maxRecDepth 16384

noncomputable section

namespace Cert.MobaIdeal.Hand

open Idealize.ShloMosaic Idealize.ShloMosaic.TcCoe Idealize.ShloMosaic.Tactic
open Idealize.SL.Sem Cert.MobaIdeal Cert.MobaIdeal.Gen Cert.MobaMath

/-- The lane numbers. -/
abbrev lanes : IVec S256x128 32 := iota Kind.tc S256x128 32 [1] iota_S256x128_d1_w32

/-- The bit pattern of zero is zero. -/
theorem zero_f32 : (FloatOps.ofBits FTy.f32 0#32 : Ideal .f32) = (0 : EReal) := by
  pointwise

/-- The bit pattern of zero is zero. -/
theorem zero_bf16 : (FloatOps.ofBits FTy.bf16 0#16 : Ideal .bf16) = (0 : EReal) := by
  pointwise

/-- A select by a decided bit. -/
theorem select_ofBool {α : Type} (b : Bool) (x y : α) : Scalar.select (BitVec.ofBool b) x y = if b = true then x else y := by
  cases b <;> rfl

/-- The named mask value. -/
theorem mask_bot : (Named.named (F := Ideal) MobaIdeal.κ "mask" 0xF149F2CA#32 : Ideal .f32) = (⊥ : EReal) :=
  IdealRules.named_const.ideal_named_scalar _ _ _ _ rfl

/-! ## The queries of a head -/

/-- The queries with the lanes of the second head set to zero. -/
abbrev qh0 (x0 : Vec Ideal S1x256x128 .bf16) : FVec Ideal S256x128 .bf16 :=
  k0_pay17 (F := Ideal) (k0_pay13 (F := Ideal) x0) k0_pay16 (FloatOps.ofBits FTy.bf16 0#16)

/-- The queries with the lanes of the first head set to zero. -/
abbrev qh1 (x0 : Vec Ideal S1x256x128 .bf16) : FVec Ideal S256x128 .bf16 :=
  k0_pay47 (F := Ideal) (k0_pay13 (F := Ideal) x0) lanes 64#32 (k0_pay45 lanes) (k0_pay46 lanes) 1#32 0#32

/-- Lane `x` belongs to the first head when it is below 64. -/
theorem inHead0 (r : Fin 256) (x : Fin 128) : k0_pay16 (ix2 r x) = BitVec.ofBool (decide (x.val < 64)) := by
  pointwise [k0_pay16]
  revert x
  decide +kernel

theorem qh0_apply (x0 : Vec Ideal S1x256x128 .bf16) (r : Fin 256) (x : Fin 128) :
    qh0 x0 (ix2 r x) = if x.val < 64 then x0 (ix3 0 r x) else 0 := by
  have h := inHead0 r x
  unfold qh0
  generalize k0_pay16 = M at h ⊢
  pointwise [k0_pay17, k0_pay13, h]

/-- Lane `x` belongs to the second head when it is not below 64. -/
theorem inHead1 : ∀ x : Fin 128, IntOp.cmpi CmpIPredicate.eq
      (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (1#32) (Scalar.extui (Scalar.cmpi CmpIPredicate.slt 64#32 0#32))))
          (IntOp.cmpi CmpIPredicate.ne (IntOp.remsi ArithUnit.vector (BitVec.ofNat 32 x.val) 64#32) 0#32))
        (IntOp.subi (IntOp.divsi ArithUnit.vector (BitVec.ofNat 32 x.val) 64#32) 1#32)
        (IntOp.divsi ArithUnit.vector (BitVec.ofNat 32 x.val) 64#32))
      1#32 = BitVec.ofBool (!decide (x.val < 64)) := by decide +kernel

theorem qh1_apply (x0 : Vec Ideal S1x256x128 .bf16) (r : Fin 256) (x : Fin 128) :
    qh1 x0 (ix2 r x) = if x.val < 64 then 0 else x0 (ix3 0 r x) := by
  unfold qh1
  pointwise [k0_pay47, k0_pay45, k0_pay46, k0_pay13]
  rw [inHead1 x, select_ofBool]
  simp only [Bool.not_eq_true', decide_eq_false_iff_not, ite_not]

/-! ## The gates -/

/-- The first head's gates. -/
abbrev gate0 (x0 : Vec Ideal S1x256x128 .bf16) (xs : Vec Ideal S128x128 .f32) : FVec Ideal S256x128 .f32 :=
  k0_pay18 (F := Ideal) (k0_pay13 (F := Ideal) x0) (k0_pay14 (F := Ideal) xs) k0_pay16 (FloatOps.ofBits FTy.bf16 0#16)

/-- The second head's gates. -/
abbrev gate1 (x0 : Vec Ideal S1x256x128 .bf16) (xs : Vec Ideal S128x128 .f32) : FVec Ideal S256x128 .f32 :=
  k0_pay48 (F := Ideal) (k0_pay13 (F := Ideal) x0) (k0_pay14 (F := Ideal) xs) lanes 64#32 (k0_pay45 lanes) (k0_pay46 lanes)
    1#32 0#32

/-- Lane `n` of the lanes that stand for the blocks. -/
abbrev lane (n : Fin 8) : Fin 128 := ⟨n.val, by omega⟩

/-- The scratch row that holds the rest of block `n`'s mean. -/
abbrev restLane (n : Fin 8) : Fin 128 := ⟨n.val + 8, by omega⟩

theorem roll_lane (n : Fin 8) (h : ((lane n).val + 128 - 120) % 128 < 128) :
    (⟨((lane n).val + 128 - 120) % 128, h⟩ : Fin 128) = restLane n := by
  apply Fin.ext
  show (n.val + 128 - 120) % 128 = n.val + 8
  omega

theorem gate0_apply (x0 : Vec Ideal S1x256x128 .bf16) (xs : Vec Ideal S128x128 .f32) (r : Fin 256) (n : Fin 8) :
    gate0 x0 xs (ix2 r (lane n))
      = (∑ x : Fin 128, qh0 x0 (ix2 r x) * xs (ix2 (lane n) x)) + ∑ x : Fin 128, qh0 x0 (ix2 r x) * xs (ix2 (restLane n) x) := by
  unfold gate0 k0_pay18
  show _ = (∑ x : Fin 128, (qh0 x0) (ix2 r x) * xs (ix2 (lane n) x)) + ∑ x : Fin 128, (qh0 x0) (ix2 r x) * xs (ix2 (restLane n) x)
  unfold qh0
  generalize k0_pay17 (F := Ideal) (k0_pay13 (F := Ideal) x0) k0_pay16 (FloatOps.ofBits FTy.bf16 0#16) = Q
  pointwise [k0_pay14]
  rw [roll_lane]

theorem gate1_apply (x0 : Vec Ideal S1x256x128 .bf16) (xs : Vec Ideal S128x128 .f32) (r : Fin 256) (n : Fin 8) :
    gate1 x0 xs (ix2 r (lane n))
      = (∑ x : Fin 128, qh1 x0 (ix2 r x) * xs (ix2 (lane n) x)) + ∑ x : Fin 128, qh1 x0 (ix2 r x) * xs (ix2 (restLane n) x) := by
  unfold gate1 k0_pay48 qh1
  generalize k0_pay47 (F := Ideal) (k0_pay13 (F := Ideal) x0) lanes 64#32 (k0_pay45 lanes) (k0_pay46 lanes) 1#32 0#32 = Q
  pointwise [k0_pay14]
  rw [roll_lane]

/-! ## The past blocks a query picks -/

/-- The word of one lane, cast over all lanes. -/
theorem sum_pick (Y : Fin 128 → EReal) (n : Fin 8) (w : BitVec 32) (hw : w = BitVec.ofNat 32 n.val) :
    (∑ x : Fin 128, Scalar.select (IntOp.cmpi CmpIPredicate.eq (BitVec.ofNat 32 x.val) w) (Y x) 0) = Y (lane n) := by
  have hb : ∀ (n : Fin 8) (x : Fin 128), IntOp.cmpi CmpIPredicate.eq (BitVec.ofNat 32 x.val) (BitVec.ofNat 32 n.val)
      = BitVec.ofBool (decide (x = lane n)) := by decide +kernel
  subst hw
  simp only [hb, select_ofBool, decide_eq_true_eq]
  rw [Finset.sum_ite_eq' Finset.univ (lane n) Y]
  simp

/-- One lane's entry of a row, picked by its number. -/
theorem row_pick (Y : FVec Ideal S256x128 .f32) (r : Fin 256) (n : Fin 8) (w : BitVec 32) (hw : w = BitVec.ofNat 32 n.val) :
    (∑ x : Fin 128, Scalar.select (IntOp.cmpi CmpIPredicate.eq (BitVec.ofNat 32 x.val) w) (Y (ix2 r x)) (0 : EReal))
      = Y (ix2 r (lane n)) :=
  sum_pick (fun x => Y (ix2 r x)) n w hw

/-- Whether past block `m` comes before block `n`, as the word the body adds. -/
theorem wins_word (g : Fin 8 → EReal) (m n a : Fin 8) (w : BitVec 32) (hw : w = BitVec.ofNat 32 m.val) :
    Scalar.select
        (IntOp.andi
          (IntOp.ori (BitVec.ofBool (decide (g n < g m)))
            (IntOp.andi (BitVec.ofBool (decide (g m = g n))) (IntOp.cmpi CmpIPredicate.sgt (BitVec.ofNat 32 n.val) w)))
          (Scalar.cmpi CmpIPredicate.sgt (BitVec.ofNat 32 a.val) w))
        1#32 0#32 = if (lex g m n && decide (m.val < a.val)) = true then 1#32 else 0#32 := by
  subst hw
  have h1 : ∀ n m : Fin 8, IntOp.cmpi CmpIPredicate.sgt (BitVec.ofNat 32 n.val) (BitVec.ofNat 32 m.val)
      = BitVec.ofBool (decide (m < n)) := by decide +kernel
  have h2 : ∀ a m : Fin 8, Scalar.cmpi CmpIPredicate.sgt (BitVec.ofNat 32 a.val) (BitVec.ofNat 32 m.val)
      = BitVec.ofBool (decide (m.val < a.val)) := by decide +kernel
  have h3 : ∀ p q s t : Bool, IntOp.andi (IntOp.ori (BitVec.ofBool p) (IntOp.andi (BitVec.ofBool q) (BitVec.ofBool s)))
      (BitVec.ofBool t) = BitVec.ofBool ((p || (q && s)) && t) := by decide +kernel
  rw [h1, h2, h3, select_ofBool]
  rfl

/-- Eight words of zero or one added up, compared with three. -/
theorem count_word : ∀ b0 b1 b2 b3 b4 b5 b6 b7 : Bool,
    IntOp.cmpi CmpIPredicate.slt
      (IntOp.addi (IntOp.addi (IntOp.addi (IntOp.addi (IntOp.addi (IntOp.addi (IntOp.addi (IntOp.addi 0#32
        (if b0 = true then 1#32 else 0#32)) (if b1 = true then 1#32 else 0#32)) (if b2 = true then 1#32 else 0#32))
        (if b3 = true then 1#32 else 0#32)) (if b4 = true then 1#32 else 0#32)) (if b5 = true then 1#32 else 0#32))
        (if b6 = true then 1#32 else 0#32)) (if b7 = true then 1#32 else 0#32)) 3#32
      = BitVec.ofBool (decide ((if b0 = true then 1 else 0) + (if b1 = true then 1 else 0) + (if b2 = true then 1 else 0)
          + (if b3 = true then 1 else 0) + (if b4 = true then 1 else 0) + (if b5 = true then 1 else 0)
          + (if b6 = true then 1 else 0) + (if b7 = true then 1 else 0) < 3)) := by decide +kernel

/-- A past block's number is below the query block's. -/
theorem past_word : ∀ n a : Fin 8, IntOp.cmpi CmpIPredicate.slt (BitVec.ofNat 32 n.val) (BitVec.ofNat 32 a.val)
    = BitVec.ofBool (decide (n.val < a.val)) := by decide +kernel

theorem and_ofBool : ∀ p q : Bool, IntOp.andi (BitVec.ofBool p) (BitVec.ofBool q) = BitVec.ofBool (p && q) := by decide

/-- How many past blocks come before block `n` by gate. -/
def count (i : ℕ) (g : Fin 8 → EReal) (n : Fin 8) : ℕ := ∑ a : Fin 8, if lex g a n = true ∧ a.val < i then 1 else 0

/-- The first head's picks of a query block `a`, as bits. -/
abbrev sel0 (a : Fin 8) (x0 : Vec Ideal S1x256x128 .bf16) (xs : Vec Ideal S128x128 .f32) : IVec S256x128 1 :=
  k0_pay25 (F := Ideal) (BitVec.ofNat 32 a.val) lanes (gate0 x0 xs)
    (k0_pay23 (F := Ideal) (BitVec.ofNat 32 a.val) lanes (gate0 x0 xs)
      (k0_pay21 (F := Ideal) (BitVec.ofNat 32 a.val) lanes (gate0 x0 xs)
        (k0_pay19 (F := Ideal) (BitVec.ofNat 32 a.val) (k0_pay13 (F := Ideal) x0) (k0_pay14 (F := Ideal) xs) lanes k0_pay16
          (FloatOps.ofBits FTy.bf16 0#16))
        (k0_pay20 (F := Ideal) (BitVec.ofNat 32 a.val) (k0_pay13 (F := Ideal) x0) (k0_pay14 (F := Ideal) xs) lanes k0_pay16
          (FloatOps.ofBits FTy.bf16 0#16)) 1#32)
      (k0_pay22 (F := Ideal) (BitVec.ofNat 32 a.val) lanes (gate0 x0 xs)))
    (k0_pay24 lanes)

theorem sel0_apply (a : Fin 8) (x0 : Vec Ideal S1x256x128 .bf16) (xs : Vec Ideal S128x128 .f32) (r : Fin 256) (n : Fin 8) :
    sel0 a x0 xs (ix2 r (lane n))
      = BitVec.ofBool (decide (n.val < a.val) && decide (count a.val (fun k => gate0 x0 xs (ix2 r (lane k))) n < 3)) := by
  unfold sel0 k0_pay19 k0_pay20 gate0
  generalize k0_pay18 (F := Ideal) (k0_pay13 (F := Ideal) x0) (k0_pay14 (F := Ideal) xs) k0_pay16 (FloatOps.ofBits FTy.bf16 0#16) = Y
  pointwise [k0_pay25, k0_pay23, k0_pay21, k0_pay22, k0_pay24]
  rw [row_pick Y r 0 0#32 rfl, row_pick Y r 1 1#32 rfl, row_pick Y r 2 2#32 rfl, row_pick Y r 3 3#32 rfl,
    row_pick Y r 4 4#32 rfl, row_pick Y r 5 5#32 rfl, row_pick Y r 6 6#32 rfl, row_pick Y r 7 7#32 rfl]
  have hw := wins_word (fun k => Y (ix2 r (lane k)))
  rw [hw 0 n a 0#32 rfl, hw 1 n a 1#32 rfl, hw 2 n a 2#32 rfl, hw 3 n a 3#32 rfl, hw 4 n a 4#32 rfl, hw 5 n a 5#32 rfl,
    hw 6 n a 6#32 rfl, hw 7 n a 7#32 rfl, count_word, past_word, and_ofBool]
  unfold count
  rw [Fin.sum_univ_eight]
  simp only [Bool.and_eq_true, decide_eq_true_eq]

/-- The second head's picks of a query block `a`, as numbers. -/
abbrev sel1 (a : Fin 8) (x0 : Vec Ideal S1x256x128 .bf16) (xs : Vec Ideal S128x128 .f32) : FVec Ideal S256x128 .f32 :=
  k0_pay62 (F := Ideal) (BitVec.ofNat 32 a.val) lanes
    (k0_pay57 (F := Ideal) (BitVec.ofNat 32 a.val) lanes (gate1 x0 xs)
      (k0_pay53 (F := Ideal) (BitVec.ofNat 32 a.val) lanes (gate1 x0 xs)
        (k0_pay51 (F := Ideal) (BitVec.ofNat 32 a.val) lanes (gate1 x0 xs)
          (k0_pay49 (F := Ideal) (BitVec.ofNat 32 a.val) (k0_pay13 (F := Ideal) x0) (k0_pay14 (F := Ideal) xs) lanes 64#32
            (k0_pay45 lanes) (k0_pay46 lanes) 1#32 0#32)
          (k0_pay50 lanes) (FloatOps.ofBits FTy.f32 0#32))
        (k0_pay52 (F := Ideal) lanes (gate1 x0 xs)))
      (k0_pay55 (F := Ideal) lanes (gate1 x0 xs)) (k0_pay56 (F := Ideal) lanes (gate1 x0 xs)))
    (k0_pay59 (F := Ideal) lanes (gate1 x0 xs)) (k0_pay60 (F := Ideal) lanes (gate1 x0 xs)) (k0_pay61 lanes)

theorem sel1_apply (a : Fin 8) (x0 : Vec Ideal S1x256x128 .bf16) (xs : Vec Ideal S128x128 .f32) (r : Fin 256) (n : Fin 8) :
    sel1 a x0 xs (ix2 r (lane n))
      = if (decide (n.val < a.val) && decide (count a.val (fun k => gate1 x0 xs (ix2 r (lane k))) n < 3)) = true then 1
        else (0 : EReal) := by
  unfold sel1 k0_pay49 gate1
  generalize k0_pay48 (F := Ideal) (k0_pay13 (F := Ideal) x0) (k0_pay14 (F := Ideal) xs) lanes 64#32 (k0_pay45 lanes)
    (k0_pay46 lanes) 1#32 0#32 = Y
  pointwise [k0_pay62, k0_pay57, k0_pay53, k0_pay51, k0_pay50, k0_pay52, k0_pay55, k0_pay56, k0_pay54, k0_pay59, k0_pay60,
    k0_pay58, k0_pay61]
  rw [row_pick Y r 0 0#32 rfl, row_pick Y r 1 1#32 rfl, row_pick Y r 2 2#32 rfl, row_pick Y r 3 3#32 rfl,
    row_pick Y r 4 4#32 rfl, row_pick Y r 5 5#32 rfl, row_pick Y r 6 6#32 rfl, row_pick Y r 7 7#32 rfl]
  have hw := wins_word (fun k => Y (ix2 r (lane k)))
  rw [hw 0 n a 0#32 rfl, hw 1 n a 1#32 rfl, hw 2 n a 2#32 rfl, hw 3 n a 3#32 rfl, hw 4 n a 4#32 rfl, hw 5 n a 5#32 rfl,
    hw 6 n a 6#32 rfl, hw 7 n a 7#32 rfl, count_word, past_word, and_ofBool, select_ofBool]
  unfold count
  rw [Fin.sum_univ_eight]
  simp only [Bool.and_eq_true, decide_eq_true_eq]

/-! ## Scores -/

/-- The score of one query against one key of a block. -/
def score (q : FVec Ideal S256x128 .bf16) (kb : Vec Ideal S1x256x128 .bf16) (r κ : Fin 256) : EReal :=
  ∑ x : Fin 128, q (ix2 r x) * kb (ix3 0 κ x)

/-- The scores of a query against its own block: a later key is masked. -/
def ownScore (q : FVec Ideal S256x128 .bf16) (kb : Vec Ideal S1x256x128 .bf16) (r κ : Fin 256) : EReal :=
  if κ ≤ r then score q kb r κ else ⊥

/-- The scores of a query against a past block: masked unless the block is picked. -/
def pastScore (b : Bool) (q : FVec Ideal S256x128 .bf16) (kb : Vec Ideal S1x256x128 .bf16) (r κ : Fin 256) : EReal :=
  if b = true then score q kb r κ else ⊥

theorem causal_word (r κ : Fin 256) : k0_pay15 (ix2 r κ) = BitVec.ofBool (decide (κ ≤ r)) := by
  pointwise [k0_pay15]
  have h : ∀ a b : BitVec 32, IntOp.cmpi CmpIPredicate.sle a b = BitVec.ofBool (a.sle b) := fun _ _ => rfl
  rw [h]
  congr 1
  rw [BitVec.sle_eq_decide, BitVec.toInt_ofNat', BitVec.toInt_ofNat']
  have h1 : ((κ.val : ℕ) : ℤ).bmod (2 ^ 32) = κ.val := Int.bmod_eq_of_le (by omega) (by omega)
  have h2 : ((r.val : ℕ) : ℤ).bmod (2 ^ 32) = r.val := Int.bmod_eq_of_le (by omega) (by omega)
  rw [h1, h2]
  simp only [Nat.cast_le, Fin.val_fin_le]

/-- The bit pattern of minus infinity is minus infinity. -/
theorem neg_inf : (Ideal.ofBits FTy.f32 0xFF800000#32 : EReal) = ⊥ := by
  simp [Ideal.ofBits, Ideal.ieee]

/-- The bit pattern of one half is one half. -/
theorem half_f32 : (Ideal.ofBits FTy.f32 0x3F000000#32 : EReal) = ((1 / 2 : ℝ) : EReal) := by
  simp [Ideal.ofBits, Ideal.ieee, -EReal.coe_mul]; norm_num

/-- A pick read as a number is more than one half when it is a pick. -/
theorem half_lt (b : Bool) : (((1 / 2 : ℝ) : EReal) < if b = true then (1 : EReal) else 0) ↔ b = true := by
  cases b
  · have h : ¬ (((1 / 2 : ℝ) : EReal) < 0) := by
      rw [not_lt, ← EReal.coe_zero]; exact EReal.coe_le_coe_iff.mpr (by norm_num)
    simpa using h
  · have h : ((1 / 2 : ℝ) : EReal) < 1 := by
      rw [← EReal.coe_one]; exact EReal.coe_lt_coe_iff.mpr (by norm_num)
    simpa using h

theorem own_apply (q : FVec Ideal S256x128 .bf16) (kb : Vec Ideal S1x256x128 .bf16) (r κ : Fin 256) :
    k0_pay27 (F := Ideal) k0_pay15 q kb (ix2 r κ) = ownScore q kb r κ := by
  have h := causal_word r κ
  unfold ownScore score
  generalize k0_pay15 = M at h ⊢
  have hm := mask_bot
  pointwise [k0_pay27, h]
  rw [hm]

theorem past0_apply (i : grid0.Coords) (q : FVec Ideal S256x128 .bf16) (v217 : IVec S256x128 1) (k : Fin (k0_t1_loop i).trips)
    (kb : Vec Ideal S1x256x128 .bf16) (r κ : Fin 256) (n : Fin 8) (b : Bool) (hk : Scf.iv 0#32 1#32 k.val = BitVec.ofNat 32 n.val)
    (hb : v217 (ix2 r (lane n)) = BitVec.ofBool b) :
    k0_pay32 (F := Ideal) i lanes q v217 (FloatOps.ofBits FTy.f32 0x3F800000#32) k kb (ix2 r κ) = pastScore b q kb r κ := by
  unfold pastScore score
  have hm := mask_bot
  pointwise [k0_pay32, k0_pay26, hk]
  rw [hm, sum_pick (fun x => Scalar.select (v217 (ix2 r x)) 1 0) n _ rfl, hb, select_ofBool, half_f32]
  simp only [half_lt]

theorem past1_apply (i : grid0.Coords) (q : FVec Ideal S256x128 .bf16) (arg2 : BitVec 32) (v426 : IVec S256x128 32) (v434 v436 v438 : IVec S256x128 1)
    (k : Fin (k0_t3_loop i).trips)
    (kb : Vec Ideal S1x256x128 .bf16) (r κ : Fin 256) (n : Fin 8) (b : Bool) (hk : Scf.iv 0#32 1#32 k.val = BitVec.ofNat 32 n.val)
    (hb : k0_pay62 (F := Ideal) arg2 lanes v426 v434 v436 v438 (ix2 r (lane n)) = if b = true then (1 : EReal) else 0) :
    k0_pay68 (F := Ideal) i arg2 lanes q v426 v434 v436 v438 k kb (ix2 r κ) = pastScore b q kb r κ := by
  unfold pastScore score k0_pay68
  generalize k0_pay62 (F := Ideal) arg2 lanes v426 v434 v436 v438 = P at hb ⊢
  have hm := mask_bot
  pointwise [hk]
  rw [hm, row_pick P r n _ rfl, hb, half_f32]
  simp only [half_lt]

/-! ## The running softmax -/

/-- The maxima, the sums and the accumulated values of a block of queries. -/
abbrev State := FVec Ideal S256x1 .f32 × FVec Ideal S256x1 .f32 × FVec Ideal S256x128 .f32

/-- Row `r` of a state stands for the denominator `L` and the numerators `A`. -/
def Row (st : State) (r : Fin 256) (L : EReal) (A : Fin 128 → EReal) : Prop :=
  ∀ d : Fin 128, Holds (st.1 (ix2 r 0)) (st.2.1 (ix2 r 0)) (st.2.2 (ix2 r d)) L (A d)

/-- The state that the own block leaves. -/
abbrev own (q : FVec Ideal S256x128 .bf16) (kb vb : Vec Ideal S1x256x128 .bf16) : State :=
  (k0_pay28 (F := Ideal) k0_pay15 q kb, k0_pay30 (F := Ideal) k0_pay15 q kb, k0_pay31 (F := Ideal) k0_pay15 q kb vb)

theorem init_row (st : State) (S : FVec Ideal S256x256 .f32) (s : Fin 256 → EReal) (vb : Vec Ideal S1x256x128 .bf16) (r a : Fin 256)
    (x : ℝ) (ha : s a = x) (hS : ∀ κ, S (ix2 r κ) = s κ) (hs : ∀ κ, IsScore (s κ))
    (h1 : st.1 (ix2 r 0) = Finset.univ.fold max ⊥ (fun κ => S (ix2 r κ)))
    (h2 : st.2.1 (ix2 r 0) = ∑ κ, Ideal.exp (S (ix2 r κ) - st.1 (ix2 r 0)))
    (h3 : ∀ d : Fin 128, st.2.2 (ix2 r d) = ∑ κ, Ideal.exp (S (ix2 r κ) - st.1 (ix2 r 0)) * vb (ix3 0 κ d)) :
    Row st r (∑ κ, Ideal.exp (s κ)) (fun d => ∑ κ, Ideal.exp (s κ) * vb (ix3 0 κ d)) := by
  intro d
  simp only [hS] at h1 h2 h3
  rw [h2, h3 d, h1]
  exact holds_init s (fun κ => vb (ix3 0 κ d)) hs a x ha

theorem own_row (q : FVec Ideal S256x128 .bf16) (kb vb : Vec Ideal S1x256x128 .bf16) (r : Fin 256)
    (hs : ∀ κ, ∃ x : ℝ, score q kb r κ = x) :
    Row (own q kb vb) r (∑ κ, Ideal.exp (ownScore q kb r κ))
      (fun d => ∑ κ, Ideal.exp (ownScore q kb r κ) * vb (ix3 0 κ d)) := by
  obtain ⟨x, hx⟩ := hs r
  refine init_row _ (k0_pay27 (F := Ideal) k0_pay15 q kb) _ vb r r x
    (by unfold ownScore; rw [if_pos (le_refl r)]; exact hx) (fun κ => own_apply q kb r κ)
    (fun κ => by unfold ownScore; split; exact Or.inr (hs κ); exact Or.inl rfl) ?_ ?_ fun d => ?_
  · dsimp only [own]
    unfold k0_pay28
    generalize k0_pay27 (F := Ideal) k0_pay15 q kb = S
    pointwise
    rw [neg_inf]
  · dsimp only [own]
    unfold k0_pay30 k0_pay29
    generalize k0_pay28 (F := Ideal) k0_pay15 q kb = M
    generalize k0_pay27 (F := Ideal) k0_pay15 q kb = S
    pointwise
  · dsimp only [own]
    unfold k0_pay31 k0_pay29
    generalize k0_pay28 (F := Ideal) k0_pay15 q kb = M
    generalize k0_pay27 (F := Ideal) k0_pay15 q kb = S
    pointwise

theorem step_row (st st' : State) (S : FVec Ideal S256x256 .f32) (s : Fin 256 → EReal) (vb : Vec Ideal S1x256x128 .bf16) (r : Fin 256)
    (L : EReal) (A : Fin 128 → EReal) (h : Row st r L A) (hS : ∀ κ, S (ix2 r κ) = s κ) (hs : ∀ κ, IsScore (s κ))
    (h1 : st'.1 (ix2 r 0) = max (st.1 (ix2 r 0)) (Finset.univ.fold max ⊥ (fun κ => S (ix2 r κ))))
    (h2 : st'.2.1 (ix2 r 0) = Ideal.exp (st.1 (ix2 r 0) - st'.1 (ix2 r 0)) * st.2.1 (ix2 r 0)
      + ∑ κ, Ideal.exp (S (ix2 r κ) - st'.1 (ix2 r 0)))
    (h3 : ∀ d : Fin 128, st'.2.2 (ix2 r d) = Ideal.exp (st.1 (ix2 r 0) - st'.1 (ix2 r 0)) * st.2.2 (ix2 r d)
      + ∑ κ, Ideal.exp (S (ix2 r κ) - st'.1 (ix2 r 0)) * vb (ix3 0 κ d)) :
    Row st' r (L + ∑ κ, Ideal.exp (s κ)) (fun d => A d + ∑ κ, Ideal.exp (s κ) * vb (ix3 0 κ d)) := by
  intro d
  simp only [hS] at h1 h2 h3
  rw [h2, h3 d]
  exact holds_step s (fun κ => vb (ix3 0 κ d)) hs _ _ _ _ _ _ (h d) h1

theorem step0_row (i : grid0.Coords) (q : FVec Ideal S256x128 .bf16) (v217 : IVec S256x128 1) (k : Fin (k0_t1_loop i).trips)
    (kb vb : Vec Ideal S1x256x128 .bf16) (r : Fin 256) (n : Fin 8) (b : Bool) (hk : Scf.iv 0#32 1#32 k.val = BitVec.ofNat 32 n.val)
    (hb : v217 (ix2 r (lane n)) = BitVec.ofBool b) (st : State) (L : EReal) (A : Fin 128 → EReal) (h : Row st r L A)
    (hs : ∀ κ, ∃ x : ℝ, score q kb r κ = x) :
    Row (k0_pay33 (F := Ideal) i lanes q v217 (FloatOps.ofBits FTy.f32 0x3F800000#32) k st.1 kb,
        k0_pay36 (F := Ideal) i lanes q v217 (FloatOps.ofBits FTy.f32 0x3F800000#32) k st.1 st.2.1 kb,
        k0_pay37 (F := Ideal) i lanes q v217 (FloatOps.ofBits FTy.f32 0x3F800000#32) k st.1 st.2.2 kb vb)
      r (L + ∑ κ, Ideal.exp (pastScore b q kb r κ)) (fun d => A d + ∑ κ, Ideal.exp (pastScore b q kb r κ) * vb (ix3 0 κ d)) := by
  refine step_row st _ (k0_pay32 (F := Ideal) i lanes q v217 (FloatOps.ofBits FTy.f32 0x3F800000#32) k kb) _ vb r L A h
    (fun κ => past0_apply i q v217 k kb r κ n b hk hb)
    (fun κ => by unfold pastScore; split; exact Or.inr (hs κ); exact Or.inl rfl) ?_ ?_ fun d => ?_
  · dsimp only
    unfold k0_pay33
    generalize k0_pay32 (F := Ideal) i lanes q v217 (FloatOps.ofBits FTy.f32 0x3F800000#32) k kb = S
    pointwise
    rw [neg_inf]
  · dsimp only
    unfold k0_pay36 k0_pay35 k0_pay34
    generalize k0_pay33 (F := Ideal) i lanes q v217 (FloatOps.ofBits FTy.f32 0x3F800000#32) k st.1 kb = M
    generalize k0_pay32 (F := Ideal) i lanes q v217 (FloatOps.ofBits FTy.f32 0x3F800000#32) k kb = S
    pointwise
  · dsimp only
    unfold k0_pay37 k0_pay35 k0_pay34
    generalize k0_pay33 (F := Ideal) i lanes q v217 (FloatOps.ofBits FTy.f32 0x3F800000#32) k st.1 kb = M
    generalize k0_pay32 (F := Ideal) i lanes q v217 (FloatOps.ofBits FTy.f32 0x3F800000#32) k kb = S
    pointwise

theorem step1_row (i : grid0.Coords) (q : FVec Ideal S256x128 .bf16) (arg2 : BitVec 32) (v426 : IVec S256x128 32)
    (v434 v436 v438 : IVec S256x128 1) (k : Fin (k0_t3_loop i).trips)
    (kb vb : Vec Ideal S1x256x128 .bf16) (r : Fin 256) (n : Fin 8) (b : Bool) (hk : Scf.iv 0#32 1#32 k.val = BitVec.ofNat 32 n.val)
    (hb : k0_pay62 (F := Ideal) arg2 lanes v426 v434 v436 v438 (ix2 r (lane n)) = if b = true then (1 : EReal) else 0)
    (st : State) (L : EReal) (A : Fin 128 → EReal) (h : Row st r L A)
    (hs : ∀ κ, ∃ x : ℝ, score q kb r κ = x) :
    Row (k0_pay69 (F := Ideal) i arg2 lanes q v426 v434 v436 v438 k st.1 kb,
        k0_pay72 (F := Ideal) i arg2 lanes q v426 v434 v436 v438 k st.1 st.2.1 kb,
        k0_pay73 (F := Ideal) i arg2 lanes q v426 v434 v436 v438 k st.1 st.2.2 kb vb)
      r (L + ∑ κ, Ideal.exp (pastScore b q kb r κ)) (fun d => A d + ∑ κ, Ideal.exp (pastScore b q kb r κ) * vb (ix3 0 κ d)) := by
  refine step_row st _ (k0_pay68 (F := Ideal) i arg2 lanes q v426 v434 v436 v438 k kb) _ vb r L A h
    (fun κ => past1_apply i q arg2 v426 v434 v436 v438 k kb r κ n b hk hb)
    (fun κ => by unfold pastScore; split; exact Or.inr (hs κ); exact Or.inl rfl) ?_ ?_ fun d => ?_
  · dsimp only
    unfold k0_pay69
    generalize k0_pay68 (F := Ideal) i arg2 lanes q v426 v434 v436 v438 k kb = S
    pointwise
    rw [neg_inf]
  · dsimp only
    unfold k0_pay72 k0_pay71 k0_pay70
    generalize k0_pay69 (F := Ideal) i arg2 lanes q v426 v434 v436 v438 k st.1 kb = M
    generalize k0_pay68 (F := Ideal) i arg2 lanes q v426 v434 v436 v438 k kb = S
    pointwise
  · dsimp only
    unfold k0_pay73 k0_pay71 k0_pay70
    generalize k0_pay69 (F := Ideal) i arg2 lanes q v426 v434 v436 v438 k st.1 kb = M
    generalize k0_pay68 (F := Ideal) i arg2 lanes q v426 v434 v436 v438 k kb = S
    pointwise

end Cert.MobaIdeal.Hand
-- ==== Proof.MobaLoop.lean ====
/-
  The attention kernel's loops over the past blocks, and what one grid point writes: for each query and lane, the
  attended value of the lane's head.
-/
module

public import proofs.«01_k».proof.Proof.MobaKernel

@[expose] public section

set_option maxRecDepth 16384

noncomputable section

namespace Cert.MobaIdeal.Hand

open Idealize.ShloMosaic Idealize.ShloMosaic.TcCoe Idealize.ShloMosaic.Tactic
open Idealize.SL.Sem Cert.MobaIdeal Cert.MobaIdeal.Gen Cert.MobaMath

/-- Block `n` of the keys or of the values. -/
def kblk (x : Vec Ideal S1x2048x128 .bf16) (n : Fin 8) : Vec Ideal S1x256x128 .bf16 := fun y =>
  x (ix3 0 ⟨256 * n.val + (y 1).val, by have := n.isLt; have h : (y 1).val < 256 := (y 1).isLt; omega⟩ (y 2))

theorem trips1 (i : grid0.Coords) : (k0_t1_loop i).trips = (i 2).val := by
  have h : ∀ a : Fin 8, (⟨0#32, Scalar.addi 0#32 (Scalar.muli (Scalar.divsi (Scalar.subi (BitVec.ofNat 32 a.val) 0#32) 1#32) 1#32),
    1#32⟩ : Scf.Loop 32).trips = a.val := by decide +kernel
  exact h (i 2)

theorem trips3 (i : grid0.Coords) : (k0_t3_loop i).trips = (i 2).val := trips1 i

theorem trips2 (i : grid0.Coords) : (k0_t2_loop i).trips = 0 := by
  have h : ∀ a : Fin 8, (⟨Scalar.addi 0#32 (Scalar.muli (Scalar.divsi (Scalar.subi (BitVec.ofNat 32 a.val) 0#32) 1#32) 1#32),
    Scalar.addi 0#32 (Scalar.subi (BitVec.ofNat 32 a.val) 0#32), 1#32⟩ : Scf.Loop 32).trips = 0 := by decide +kernel
  exact h (i 2)

theorem trips4 (i : grid0.Coords) : (k0_t4_loop i).trips = 0 := trips2 i

theorem iv_word (k : ℕ) : Scf.iv 0#32 1#32 k = BitVec.ofNat 32 k := by
  simp [Scf.iv]

theorem off_own : ∀ a : Fin 8, (Scalar.indexCast (Scalar.muli (BitVec.ofNat 32 a.val) 256#32) : Index).toNat = 256 * a.val := by
  decide +kernel

theorem ld_block (x : Vec Ideal S1x2048x128 .bf16) (off : Fin 3 → Nat) (n : Fin 8) (h : off = ![0, 256 * n.val, 0])
    (inb : ∀ a, off a + (![1, 256, 128] : Fin 3 → Nat) a ≤ S1x2048x128.size a) :
    View.ld x (Rect.unit off ![1, 256, 128] inb) = kblk x n := by
  subst h
  funext y
  refine View.ld_unit_apply_of x _ _ inb y _ fun a => ?_
  fin_cases a
  · show (0 : ℕ) = 0 + (y 0).val
    have h : (y 0).val < 1 := (y 0).isLt
    omega
  · rfl
  · show (y 2).val = 0 + (y 2).val
    omega

/-- The number of trip `k` of the first loop, as a block. -/
abbrev blkNo (i : grid0.Coords) (k : ℕ) (h : k < (i 2).val) : Fin 8 := ⟨k, lt_trans h (i 2).isLt⟩

theorem own_off (i : grid0.Coords) : k0_off1 i = ![0, 256 * (i 2 : Fin 8).val, 0] := by
  unfold k0_off1
  dsimp only
  rw [off_own (i 2)]

theorem past_off (i : grid0.Coords) (k : Fin (k0_t1_loop i).trips) (n : Fin 8) (hn : k.val = n.val) :
    k0_off2 i k = ![0, 256 * n.val, 0] := by
  unfold k0_off2
  dsimp only
  rw [iv_word, hn, off_own n]

theorem past_off1 (i : grid0.Coords) (k : Fin (k0_t3_loop i).trips) (n : Fin 8) (hn : k.val = n.val) :
    k0_off4 i k = ![0, 256 * n.val, 0] := by
  unfold k0_off4
  dsimp only
  rw [iv_word, hn, off_own n]

/-- A sum over the first `k` of eight. -/
def firstSum (k : ℕ) (f : Fin 8 → EReal) : EReal := ∑ n ∈ Finset.range k, if h : n < 8 then f ⟨n, h⟩ else 0

theorem firstSum_succ (k : ℕ) (f : Fin 8 → EReal) (h : k < 8) : firstSum (k + 1) f = firstSum k f + f ⟨k, h⟩ := by
  unfold firstSum
  rw [Finset.sum_range_succ, dif_pos h]

theorem firstSum_eq (k : ℕ) (f : Fin 8 → EReal) (hk : k ≤ 8) (hf : ∀ n : Fin 8, k ≤ n.val → f n = 0) :
    firstSum k f = ∑ n : Fin 8, f n := by
  unfold firstSum
  rw [Finset.sum_subset (s₂ := Finset.range 8) (fun n hn => by
    rw [Finset.mem_range] at hn ⊢; omega) (fun n hn hk' => by
      rw [Finset.mem_range] at hn hk'
      rw [dif_pos hn]
      exact hf ⟨n, hn⟩ (by show k ≤ n; omega)), Finset.sum_range]
  exact Finset.sum_congr rfl fun n _ => dif_pos n.isLt

section Loops

variable (c : Dev nD) (i : grid0.Coords) (arg3 : Memref sig .tc .vmem S1x256x128 .bf16) (harg3 : arg3.IsWhole)
  (arg4 : Memref sig .tc .vmem S1x2048x128 .bf16) (harg4 : arg4.IsWhole) (arg5 : Memref sig .tc .vmem S1x2048x128 .bf16)
  (harg5 : arg5.IsWhole) (arg6 : Memref sig .tc .vmem S1x256x128 .bf16) (harg6 : arg6.IsWhole)
  (arg7 : Memref sig .tc .vmem S128x128 .f32) (harg7 : arg7.IsWhole)

theorem loop0_row (arg2 v12 : BitVec 32) (v10 : IVec S256x256 1) (q : FVec Ideal S256x128 .bf16) (v217 : IVec S256x128 1)
    (x1 x2 : Vec Ideal S1x2048x128 .bf16) (init : State) (r : Fin 256) (L : EReal) (A : Fin 128 → EReal) (b : Fin 8 → Bool)
    (h : Row init r L A) (hs : ∀ n κ, ∃ x : ℝ, score q (kblk x1 n) r κ = x)
    (hb : ∀ n : Fin 8, v217 (ix2 r (lane n)) = BitVec.ofBool (b n)) (k : ℕ) (hk : k ≤ (i 2).val) :
    Row (st_k0_t1 (F := Ideal) Variants.none c none i arg3 harg3 arg4 harg4 arg5 harg5 arg6 harg6 arg7 harg7 arg2 lanes v10 v12 q v217
        (FloatOps.ofBits FTy.f32 0x3F800000#32) (harg4.unread x1) (harg5.unread x2) init k) r
      (L + firstSum k fun n => ∑ κ, Ideal.exp (pastScore (b n) q (kblk x1 n) r κ))
      (fun d => A d + firstSum k fun n => ∑ κ, Ideal.exp (pastScore (b n) q (kblk x1 n) r κ) * kblk x2 n (ix3 0 κ d)) := by
  induction k with
  | zero => simpa [firstSum, st_k0_t1] using h
  | succ k ih =>
    have hk' : k < (k0_t1_loop i).trips := by rw [trips1]; omega
    have h8 : k < 8 := lt_trans (by omega : k < (i 2).val) (i 2).isLt
    have ih' := ih (by omega)
    have e := st_k0_t1_succ (F := Ideal) Variants.none c none i arg3 harg3 arg4 harg4 arg5 harg5 arg6 harg6 arg7 harg7 arg2 lanes v10 v12
      q v217 (FloatOps.ofBits FTy.f32 0x3F800000#32) (harg4.unread x1) (harg5.unread x2) init ⟨k, hk'⟩
    rw [e]
    generalize st_k0_t1 (F := Ideal) Variants.none c none i arg3 harg3 arg4 harg4 arg5 harg5 arg6 harg6 arg7 harg7 arg2 lanes v10 v12
      q v217 (FloatOps.ofBits FTy.f32 0x3F800000#32) (harg4.unread x1) (harg5.unread x2) init k = st at ih' ⊢
    simp only [firstSum_succ k _ h8, ← add_assoc]
    unfold tripR_k0_t1 trip_k0_t1
    dsimp only
    frame_out
    rw [ld_block x1 _ ⟨k, h8⟩ (past_off i _ _ rfl), ld_block x2 _ ⟨k, h8⟩ (past_off i _ _ rfl)]
    exact step0_row i q v217 ⟨k, hk'⟩ _ _ r ⟨k, h8⟩ (b ⟨k, h8⟩) (iv_word k) (hb _) st _ _ ih' (hs _)

theorem loop1_row (arg2 v12 : BitVec 32) (v10 : IVec S256x256 1) (q : FVec Ideal S256x128 .bf16) (v426 : IVec S256x128 32)
    (v434 v436 v438 : IVec S256x128 1)
    (x1 x2 : Vec Ideal S1x2048x128 .bf16) (init : State) (r : Fin 256) (L : EReal) (A : Fin 128 → EReal) (b : Fin 8 → Bool)
    (h : Row init r L A) (hs : ∀ n κ, ∃ x : ℝ, score q (kblk x1 n) r κ = x)
    (hb : ∀ n : Fin 8, k0_pay62 (F := Ideal) arg2 lanes v426 v434 v436 v438 (ix2 r (lane n)) = if b n = true then (1 : EReal) else 0)
    (k : ℕ) (hk : k ≤ (i 2).val) :
    Row (st_k0_t3 (F := Ideal) Variants.none c none i arg3 harg3 arg4 harg4 arg5 harg5 arg6 harg6 arg7 harg7 arg2 lanes v10 v12 q
        v426 v434 v436 v438 (harg4.unread x1) (harg5.unread x2) init k) r
      (L + firstSum k fun n => ∑ κ, Ideal.exp (pastScore (b n) q (kblk x1 n) r κ))
      (fun d => A d + firstSum k fun n => ∑ κ, Ideal.exp (pastScore (b n) q (kblk x1 n) r κ) * kblk x2 n (ix3 0 κ d)) := by
  induction k with
  | zero => simpa [firstSum, st_k0_t3] using h
  | succ k ih =>
    have hk' : k < (k0_t3_loop i).trips := by rw [trips3]; omega
    have h8 : k < 8 := lt_trans (by omega : k < (i 2).val) (i 2).isLt
    have ih' := ih (by omega)
    have e := st_k0_t3_succ (F := Ideal) Variants.none c none i arg3 harg3 arg4 harg4 arg5 harg5 arg6 harg6 arg7 harg7 arg2 lanes v10 v12
      q v426 v434 v436 v438 (harg4.unread x1) (harg5.unread x2) init ⟨k, hk'⟩
    rw [e]
    generalize st_k0_t3 (F := Ideal) Variants.none c none i arg3 harg3 arg4 harg4 arg5 harg5 arg6 harg6 arg7 harg7 arg2 lanes v10 v12
      q v426 v434 v436 v438 (harg4.unread x1) (harg5.unread x2) init k = st at ih' ⊢
    simp only [firstSum_succ k _ h8, ← add_assoc]
    unfold tripR_k0_t3 trip_k0_t3
    dsimp only
    frame_out
    rw [ld_block x1 _ ⟨k, h8⟩ (past_off1 i _ _ rfl),
      ld_block x2 _ ⟨k, h8⟩ (past_off1 i _ _ rfl)]
    exact step1_row i q arg2 v426 v434 v436 v438 ⟨k, hk'⟩ _ _ r ⟨k, h8⟩ (b ⟨k, h8⟩) (iv_word k) (hb _) st _ _ ih' (hs _)

/-- The denominator of one head's softmax, of a query of block `a`. -/
def den (b : Fin 8 → Bool) (q : FVec Ideal S256x128 .bf16) (x1 : Vec Ideal S1x2048x128 .bf16) (a : Fin 8) (r : Fin 256) : EReal :=
  (∑ κ, Ideal.exp (ownScore q (kblk x1 a) r κ)) + ∑ n : Fin 8, ∑ κ, Ideal.exp (pastScore (b n) q (kblk x1 n) r κ)

/-- The numerator of one head's softmax, of a query of block `a` and a lane. -/
def num (b : Fin 8 → Bool) (q : FVec Ideal S256x128 .bf16) (x1 x2 : Vec Ideal S1x2048x128 .bf16) (a : Fin 8) (r : Fin 256)
    (d : Fin 128) : EReal :=
  (∑ κ, Ideal.exp (ownScore q (kblk x1 a) r κ) * kblk x2 a (ix3 0 κ d))
    + ∑ n : Fin 8, ∑ κ, Ideal.exp (pastScore (b n) q (kblk x1 n) r κ) * kblk x2 n (ix3 0 κ d)

/-- The denominator is a positive real. -/
theorem den_pos (b : Fin 8 → Bool) (q : FVec Ideal S256x128 .bf16) (x1 : Vec Ideal S1x2048x128 .bf16) (a : Fin 8) (r : Fin 256)
    (hs : ∀ n κ, ∃ x : ℝ, score q (kblk x1 n) r κ = x) : ∃ L : ℝ, 0 < L ∧ den b q x1 a r = L := by
  have ho : ∀ κ, IsScore (ownScore q (kblk x1 a) r κ) := fun κ => by
    unfold ownScore; split; exact Or.inr (hs a κ); exact Or.inl rfl
  have hp : ∀ n κ, IsScore (pastScore (b n) q (kblk x1 n) r κ) := fun n κ => by
    unfold pastScore; split; exact Or.inr (hs n κ); exact Or.inl rfl
  obtain ⟨y, hy0, hy⟩ := sum_isReal Finset.univ (fun n : Fin 8 => ∑ κ, Ideal.exp (pastScore (b n) q (kblk x1 n) r κ))
    fun n => sum_isReal Finset.univ _ fun κ => exp_isReal _ (hp n κ)
  obtain ⟨z, hz0, hz⟩ := sum_isReal (Finset.univ.erase r) (fun κ => Ideal.exp (ownScore q (kblk x1 a) r κ))
    fun κ => exp_isReal _ (ho κ)
  obtain ⟨s, hsr⟩ := hs a r
  have hr : Ideal.exp (ownScore q (kblk x1 a) r r) = (Real.exp s : EReal) := by
    unfold ownScore; rw [if_pos (le_refl r), hsr]; rfl
  refine ⟨Real.exp s + z + y, by have := Real.exp_pos s; linarith, ?_⟩
  unfold den
  rw [hy, ← Finset.add_sum_erase Finset.univ _ (Finset.mem_univ r), hz, hr, EReal.coe_add, EReal.coe_add]

/-- A row that stands for the whole softmax gives its quotient. -/
theorem row_div (b : Fin 8 → Bool) (q : FVec Ideal S256x128 .bf16) (x1 x2 : Vec Ideal S1x2048x128 .bf16) (a : Fin 8) (r : Fin 256)
    (hs : ∀ n κ, ∃ x : ℝ, score q (kblk x1 n) r κ = x) (hb : ∀ n : Fin 8, a.val ≤ n.val → b n = false) (st : State)
    (h : Row st r ((∑ κ, Ideal.exp (ownScore q (kblk x1 a) r κ))
        + firstSum a.val fun n => ∑ κ, Ideal.exp (pastScore (b n) q (kblk x1 n) r κ))
      (fun d => (∑ κ, Ideal.exp (ownScore q (kblk x1 a) r κ) * kblk x2 a (ix3 0 κ d))
        + firstSum a.val fun n => ∑ κ, Ideal.exp (pastScore (b n) q (kblk x1 n) r κ) * kblk x2 n (ix3 0 κ d))) (d : Fin 128) :
    Ideal.div (st.2.2 (ix2 r d)) (st.2.1 (ix2 r 0)) = Ideal.div (num b q x1 x2 a r d) (den b q x1 a r) := by
  have h0 : ∀ (n : Fin 8) (κ : Fin 256), a.val ≤ n.val → Ideal.exp (pastScore (b n) q (kblk x1 n) r κ) = 0 := fun n κ hn => by
    unfold pastScore; rw [hb n hn, if_neg (by simp)]; rfl
  have hd := h d
  rw [firstSum_eq a.val _ a.isLt.le fun n hn => Finset.sum_eq_zero fun κ _ => h0 n κ hn] at hd
  dsimp only at hd
  rw [firstSum_eq a.val _ a.isLt.le fun n hn => Finset.sum_eq_zero fun κ _ => by rw [h0 n κ hn, zero_mul]] at hd
  obtain ⟨L, hL, e⟩ := den_pos b q x1 a r hs
  rw [e, div_pos _ L hL]
  unfold den at e
  rw [e] at hd
  exact holds_div _ _ _ _ L hL hd

/-- The blocks a query of block `a` picks, by its gates. -/
def picks (a : Fin 8) (g : Fin 8 → EReal) (n : Fin 8) : Bool := decide (n.val < a.val) && decide (count a.val g n < 3)

theorem picks_past (a : Fin 8) (g : Fin 8 → EReal) (n : Fin 8) (h : a.val ≤ n.val) : picks a g n = false := by
  unfold picks
  rw [decide_eq_false (by omega), Bool.false_and]

/-- The attended value of one head, from the block's queries and the scratch. -/
def head0 (a : Fin 8) (x0 : Vec Ideal S1x256x128 .bf16) (x1 x2 : Vec Ideal S1x2048x128 .bf16) (xs : Vec Ideal S128x128 .f32)
    (r : Fin 256) (d : Fin 128) : EReal :=
  Ideal.div (num (picks a fun k => gate0 x0 xs (ix2 r (lane k))) (qh0 x0) x1 x2 a r d)
    (den (picks a fun k => gate0 x0 xs (ix2 r (lane k))) (qh0 x0) x1 a r)

/-- The attended value of the other head. -/
def head1 (a : Fin 8) (x0 : Vec Ideal S1x256x128 .bf16) (x1 x2 : Vec Ideal S1x2048x128 .bf16) (xs : Vec Ideal S128x128 .f32)
    (r : Fin 256) (d : Fin 128) : EReal :=
  Ideal.div (num (picks a fun k => gate1 x0 xs (ix2 r (lane k))) (qh1 x0) x1 x2 a r d)
    (den (picks a fun k => gate1 x0 xs (ix2 r (lane k))) (qh1 x0) x1 a r)

theorem laneHead0 : ∀ x : Fin 128, IntOp.cmpi CmpIPredicate.eq
      (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 x.val) 64#32) 0#32))
        (IntOp.subi (IntOp.divsi ArithUnit.vector (BitVec.ofNat 32 x.val) 64#32) 1#32)
        (IntOp.divsi ArithUnit.vector (BitVec.ofNat 32 x.val) 64#32))
      0#32 = BitVec.ofBool (decide (x.val < 64)) := by decide +kernel

theorem merge_heads (h0 : FVec Ideal S256x128 .f32) (l1 : FVec Ideal S256x1 .f32) (a1 : FVec Ideal S256x128 .f32) (r : Fin 256) (d : Fin 128) :
    k0_pay7 (F := Ideal) lanes h0 l1 a1 (ix3 0 r d)
      = if d.val < 64 then h0 (ix2 r d) else Ideal.div (a1 (ix2 r d)) (l1 (ix2 r 0)) := by
  pointwise [k0_pay7]
  rw [laneHead0 d, select_ofBool]
  simp only [decide_eq_true_eq]

theorem pay44_apply (l : FVec Ideal S256x1 .f32) (a : FVec Ideal S256x128 .f32) (r : Fin 256) (d : Fin 128) :
    k0_pay44 (F := Ideal) l a (ix2 r d) = Ideal.div (a (ix2 r d)) (l (ix2 r 0)) := by
  pointwise [k0_pay44]

theorem out_B (hc0 : ¬cond0_0 i) (x0 : Vec Ideal S1x256x128 .bf16) (x1 x2 : Vec Ideal S1x2048x128 .bf16) (xs : Vec Ideal S128x128 .f32)
    (r : Fin 256) (d : Fin 128)
    (hs0 : ∀ n κ, ∃ x : ℝ, score (qh0 x0) (kblk x1 n) r κ = x) (hs1 : ∀ n κ, ∃ x : ℝ, score (qh1 x0) (kblk x1 n) r κ = x) :
    out0_B_3 (F := Ideal) c i arg3 harg3 arg4 harg4 arg5 harg5 arg6 harg6 arg7 harg7 hc0 x0 x1 x2 xs (ix3 0 r d)
      = if d.val < 64 then head0 (i 2) x0 x1 x2 xs r d else head1 (i 2) x0 x1 x2 xs r d := by
  frame_out
  have e1 : Scf.trips 0#32 (Scalar.addi 0#32 (Scalar.muli (Scalar.divsi (Scalar.subi (BitVec.ofNat 32 (i 2).val) 0#32) 1#32) 1#32)) 1#32
    = (i 2).val := trips1 i
  have e2 : Scf.trips (Scalar.addi 0#32 (Scalar.muli (Scalar.divsi (Scalar.subi (BitVec.ofNat 32 (i 2).val) 0#32) 1#32) 1#32))
    (Scalar.addi 0#32 (Scalar.subi (BitVec.ofNat 32 (i 2).val) 0#32)) 1#32 = 0 := trips2 i
  rw [e1, e2, st_k0_t2, st_k0_t4, ld_block x1 _ _ (own_off i), ld_block x2 _ _ (own_off i)]
  rw [merge_heads]
  have h0 := loop0_row c i arg3 harg3 arg4 harg4 arg5 harg5 arg6 harg6 arg7 harg7 (BitVec.ofNat 32 (i 2).val)
    (Scalar.muli (BitVec.ofNat 32 (i 2).val) 256#32) k0_pay15 (qh0 x0) (sel0 (i 2) x0 xs) x1 x2 (own (qh0 x0) (kblk x1 (i 2)) (kblk x2 (i 2)))
    r _ _ (picks (i 2) fun k => gate0 x0 xs (ix2 r (lane k))) (own_row (qh0 x0) (kblk x1 (i 2)) (kblk x2 (i 2)) r (hs0 (i 2))) hs0
    (fun n => sel0_apply (i 2) x0 xs r n) (i 2).val le_rfl
  have h0' := row_div _ _ x1 x2 (i 2) r hs0 (picks_past (i 2) _) _ h0 d
  have h1 := loop1_row c i arg3 harg3 arg4 harg4 arg5 harg5 arg6 harg6 arg7 harg7 (BitVec.ofNat 32 (i 2).val)
    (Scalar.muli (BitVec.ofNat 32 (i 2).val) 256#32) k0_pay15 (qh1 x0) _ _ _ _ x1 x2 (own (qh1 x0) (kblk x1 (i 2)) (kblk x2 (i 2)))
    r _ _ (picks (i 2) fun k => gate1 x0 xs (ix2 r (lane k))) (own_row (qh1 x0) (kblk x1 (i 2)) (kblk x2 (i 2)) r (hs1 (i 2))) hs1
    (fun n => sel1_apply (i 2) x0 xs r n) (i 2).val le_rfl
  have h1' := row_div _ _ x1 x2 (i 2) r hs1 (picks_past (i 2) _) _ h1 d
  by_cases hd : d.val < 64
  · rw [if_pos hd, if_pos hd]
    unfold head0
    rw [← h0']
    exact pay44_apply _ _ r d
  · rw [if_neg hd, if_neg hd]
    unfold head1
    rw [← h1']
    rfl

end Loops

end Cert.MobaIdeal.Hand
-- ==== Proof.MobaPoint.lean ====
/-
  What one grid point of the attention kernel leaves: the first block of a sequence stores the blocks' means in the
  scratch, and every point writes its block of queries' attended values.
-/
module

public import proofs.«01_k».proof.Proof.MobaLoop

@[expose] public section

set_option maxRecDepth 16384

noncomputable section

namespace Cert.MobaIdeal.Hand

open Idealize.ShloMosaic Idealize.ShloMosaic.TcCoe Idealize.ShloMosaic.Tactic
open Idealize.SL.Sem Cert.MobaIdeal Cert.MobaIdeal.Gen Cert.MobaMath

/-- The mean of the keys of block `n`, in lane `d`, as the kernel forms it. -/
def kmean (x1 : Vec Ideal S1x2048x128 .bf16) (n : Fin 8) (d : Fin 128) : EReal :=
  (∑ κ : Fin 256, kblk x1 n (ix3 0 κ d)) * Ideal.ofBits FTy.f32 998244352#32

theorem pay8_apply (x1 : Vec Ideal S1x2048x128 .bf16) (n : Fin 8) (d : Fin 128) :
    k0_pay8 (F := Ideal) x1 (ix2 n d) = kmean x1 n d := by
  pointwise [k0_pay8, kmean, kblk]
  congr 1
  refine Finset.sum_congr rfl fun κ _ => congrArg x1 ?_
  congr 1
  apply Fin.ext
  show n.val * 256 + κ.val = 256 * n.val + κ.val
  omega

section Point

variable (c : Dev nD) (i : grid0.Coords) (arg3 : Memref sig .tc .vmem S1x256x128 .bf16) (harg3 : arg3.IsWhole)
  (arg4 : Memref sig .tc .vmem S1x2048x128 .bf16) (harg4 : arg4.IsWhole) (arg5 : Memref sig .tc .vmem S1x2048x128 .bf16)
  (harg5 : arg5.IsWhole) (arg6 : Memref sig .tc .vmem S1x256x128 .bf16) (harg6 : arg6.IsWhole)
  (arg7 : Memref sig .tc .vmem S128x128 .f32) (harg7 : arg7.IsWhole)

/-- The first rows of the scratch hold the means. -/
theorem sout_mean (hc0 : cond0_0 i) (x0 : Vec Ideal S1x256x128 .bf16) (x1 x2 : Vec Ideal S1x2048x128 .bf16) (n : Fin 8) (d : Fin 128) :
    sout0_A_0 (F := Ideal) c i arg3 harg3 arg4 harg4 arg5 harg5 arg6 harg6 arg7 harg7 hc0 x0 x1 x2 (ix2 (lane n) d) = kmean x1 n d := by
  frame_out
  rw [View.canon_cons_of_not_mem _ _ (by
    intro hm
    have h := (Rect.mem_set_unit.mp (show ix2 (lane n) d ∈ (Rect.unit (s := S128x128) ![8, 0] ![8, 128] inb_S128x128_S8x128_8_0).set from hm) 0).1
    have hn := n.isLt
    have h2 : 8 ≤ n.val := h
    omega)]
  have e : (ix2 (lane n) d : S128x128.Idx) = (Rect.unit (s := S128x128) ![0, 0] ![8, 128] inb_S128x128_S8x128_0_0).emb (ix2 n d) := by
    funext a
    fin_cases a
    · apply Fin.ext
      show n.val = 0 + 1 * n.val
      omega
    · apply Fin.ext
      show d.val = 0 + 1 * d.val
      omega
  rw [e, View.canon_cons_emb]
  rw [← pay8_apply]
  unfold k0_pay11 k0_pay9
  generalize k0_pay8 (F := Ideal) x1 = Y
  pointwise

/-- The next rows hold what the rounding of the means leaves. -/
theorem sout_rest (hc0 : cond0_0 i) (x0 : Vec Ideal S1x256x128 .bf16) (x1 x2 : Vec Ideal S1x2048x128 .bf16) (n : Fin 8) (d : Fin 128) :
    sout0_A_0 (F := Ideal) c i arg3 harg3 arg4 harg4 arg5 harg5 arg6 harg6 arg7 harg7 hc0 x0 x1 x2 (ix2 (restLane n) d)
      = kmean x1 n d - kmean x1 n d := by
  frame_out
  have e : (ix2 (restLane n) d : S128x128.Idx) = (Rect.unit (s := S128x128) ![8, 0] ![8, 128] inb_S128x128_S8x128_8_0).emb (ix2 n d) := by
    funext a
    fin_cases a
    · apply Fin.ext
      show n.val + 8 = 8 + 1 * n.val
      omega
    · apply Fin.ext
      show d.val = 0 + 1 * d.val
      omega
  rw [e, View.canon_cons_emb]
  rw [← pay8_apply]
  unfold k0_pay12 k0_pay9
  generalize k0_pay8 (F := Ideal) x1 = Y
  pointwise

/-- The first block of a sequence attends to itself alone. -/
theorem out_A (hc0 : cond0_0 i) (hz : (i 2).val = 0) (x0 : Vec Ideal S1x256x128 .bf16) (x1 x2 : Vec Ideal S1x2048x128 .bf16)
    (xs : Vec Ideal S128x128 .f32) (r : Fin 256) (d : Fin 128)
    (hs0 : ∀ n κ, ∃ x : ℝ, score (qh0 x0) (kblk x1 n) r κ = x) (hs1 : ∀ n κ, ∃ x : ℝ, score (qh1 x0) (kblk x1 n) r κ = x) :
    out0_A_3 (F := Ideal) c i arg3 harg3 arg4 harg4 arg5 harg5 arg6 harg6 arg7 harg7 hc0 x0 x1 x2 (ix3 0 r d)
      = if d.val < 64 then head0 (i 2) x0 x1 x2 xs r d else head1 (i 2) x0 x1 x2 xs r d := by
  frame_out
  have e1 : Scf.trips 0#32 (Scalar.addi 0#32 (Scalar.muli (Scalar.divsi (Scalar.subi (BitVec.ofNat 32 (i 2).val) 0#32) 1#32) 1#32)) 1#32
    = (i 2).val := trips1 i
  have e2 : Scf.trips (Scalar.addi 0#32 (Scalar.muli (Scalar.divsi (Scalar.subi (BitVec.ofNat 32 (i 2).val) 0#32) 1#32) 1#32))
    (Scalar.addi 0#32 (Scalar.subi (BitVec.ofNat 32 (i 2).val) 0#32)) 1#32 = 0 := trips2 i
  rw [e1, e2, hz, st_k0_t2, st_k0_t4, st_k0_t1, st_k0_t3, ld_block x1 _ _ (own_off i), ld_block x2 _ _ (own_off i)]
  rw [merge_heads]
  have hr : ∀ q : FVec Ideal S256x128 .bf16, (∀ n κ, ∃ x : ℝ, score q (kblk x1 n) r κ = x) →
      Row (own q (kblk x1 (i 2)) (kblk x2 (i 2))) r ((∑ κ, Ideal.exp (ownScore q (kblk x1 (i 2)) r κ))
        + firstSum (i 2).val fun n => ∑ κ, Ideal.exp (pastScore false q (kblk x1 n) r κ))
      (fun d => (∑ κ, Ideal.exp (ownScore q (kblk x1 (i 2)) r κ) * kblk x2 (i 2) (ix3 0 κ d))
        + firstSum (i 2).val fun n => ∑ κ, Ideal.exp (pastScore false q (kblk x1 n) r κ) * kblk x2 n (ix3 0 κ d)) := fun q hq => by
    have h := own_row q (kblk x1 (i 2)) (kblk x2 (i 2)) r (hq (i 2))
    rw [hz]
    simpa only [firstSum, Finset.range_zero, Finset.sum_empty, add_zero] using h
  have hp : ∀ g : Fin 8 → EReal, picks (i 2) g = fun _ => false := fun g => funext fun n => picks_past (i 2) g n (by rw [hz]; omega)
  by_cases hd : d.val < 64
  · rw [if_pos hd, if_pos hd, pay44_apply]
    unfold head0
    rw [hp]
    exact row_div (fun _ => false) (qh0 x0) x1 x2 (i 2) r hs0 (fun _ _ => rfl) _ (hr _ hs0) d
  · rw [if_neg hd, if_neg hd]
    unfold head1
    rw [hp]
    exact row_div (fun _ => false) (qh1 x0) x1 x2 (i 2) r hs1 (fun _ _ => rfl) _ (hr _ hs1) d

end Point

end Cert.MobaIdeal.Hand
-- ==== Proof.MobaRef.lean ====
/-
  The attention's reference read at an index: heads, means of key blocks, gates, and which blocks a query keeps.
-/
module

public import proofs.«01_k».proof.Proof.MobaMath
public import proofs.«01_k».proof.Proof.Gen.MobaRefIdeal.Read

@[expose] public section

set_option maxRecDepth 16384

noncomputable section

namespace Cert.MobaRefIdeal.Hand

open Cert.MobaRefIdeal Cert.MobaRefIdeal.Read Idealize.ShloMosaic Cert.MobaMath

variable (x0 x1 x2 : FVec Ideal S8x2048x512 .bf16)

/-- Component `d` of the row of head `h` at position `s` of batch `b`. -/
def hv (x : FVec Ideal S8x2048x512 .bf16) (b h : Fin 8) (s : Fin 2048) (d : Fin 64) : EReal :=
  x (ix3 b s ⟨h.val * 64 + d.val, by omega⟩)

/-- The position of row `κ` of block `n`. -/
def pos (n : Fin 8) (κ : Fin 256) : Fin 2048 := ⟨n.val * 256 + κ.val, by omega⟩

/-- The block of a position. -/
def blk (s : Fin 2048) : Fin 8 := ⟨s.val / 256, by omega⟩

theorem q_apply (b h : Fin 8) (s : Fin 2048) (d : Fin 64) :
    val_main_v2 (F := Ideal) x0 (ix4 b h s d) = hv x0 b h s d := by
  unfold hv
  pointwise [val_main_v2, val_main_v1, val_main_v0]

theorem k_apply (b h n : Fin 8) (κ : Fin 256) (d : Fin 64) :
    val_main_v9 (F := Ideal) x1 (ix5 b h n κ d) = hv x1 b h (pos n κ) d := by
  unfold hv pos
  pointwise [val_main_v9, val_main_v5, val_main_v4, val_main_v3]

theorem v_apply (b h n : Fin 8) (κ : Fin 256) (d : Fin 64) :
    val_main_v10 (F := Ideal) x2 (ix5 b h n κ d) = hv x2 b h (pos n κ) d := by
  unfold hv pos
  pointwise [val_main_v10, val_main_v8, val_main_v7, val_main_v6]

/-- The mean key of a block. -/
def mean (b h n : Fin 8) (d : Fin 64) : EReal :=
  Ideal.div (∑ κ, hv x1 b h (pos n κ) d) (Ideal.ofBits FTy.f32 0x43800000#32)

theorem mean_apply (b h n : Fin 8) (d : Fin 64) :
    val_main_v13 (F := Ideal) x1 (ix4 b h n d) = mean x1 b h n d := by
  have hk := k_apply x1 b h n
  unfold mean
  pointwise [val_main_v13, val_main_v12, val_main_cst_0, val_main_v11, val_main_cst, hk]

/-- How well a query matches a block's mean key. -/
def gate (b h : Fin 8) (s : Fin 2048) (n : Fin 8) : EReal := ∑ d, hv x0 b h s d * mean x1 b h n d

theorem gate_apply (b h : Fin 8) (s : Fin 2048) (n : Fin 8) :
    val_main_v16 (F := Ideal) x0 x1 (ix4 b h s n) = gate x0 x1 b h s n := by
  have hq := q_apply x0 b h s
  have hm := mean_apply x1 b h n
  unfold gate
  pointwise [val_main_v16, hq, hm]

/-- A position's block number, as the reference's integer division finds it. -/
theorem block_apply (s : Fin 2048) : val_main_v15 (F := Ideal) (ix1 s) = BitVec.ofNat 32 (s.val / 256) := by
  revert s
  decide +kernel

/-- The most negative constant is the bottom. -/
theorem bot_lit : Ideal.ofBits FTy.f32 0xFF800000#32 = ⊥ := by
  simp [Ideal.ofBits, Ideal.ieee]

/-- A block is past when its number is below the position's own. -/
theorem past_apply (s : Fin 2048) (n : Fin 8) :
    val_main_v22 (F := Ideal) (ix2 s n) = BitVec.ofBool (decide (n.val < s.val / 256)) := by
  have hb := block_apply s
  have hall : ∀ a n : Fin 8, IntOp.cmpi CmpIPredicate.slt (BitVec.ofNat 32 n.val) (BitVec.ofNat 32 a.val)
      = BitVec.ofBool (decide (n.val < a.val)) := by decide
  have hs := hall (blk s) n
  unfold blk at hs
  pointwise [val_main_v22, val_main_v21, val_main_v20, val_main_v19, val_main_v18, val_main_v17, hb]
  exact hs

/-- The gates of a query with those of blocks that are not past put out of the running. -/
theorem masked_apply (b h : Fin 8) (s : Fin 2048) (n : Fin 8) :
    val_main_v23 (F := Ideal) x0 x1 (ix4 b h s n) = pastGate (s.val / 256) (gate x0 x1 b h s) n := by
  have hg := gate_apply x0 x1 b h s n
  have hp := past_apply s n
  have hbot := bot_lit
  unfold pastGate
  pointwise [val_main_v23, val_main_call1_v1, val_main_call1_v2, val_main_call1_v0, val_main_cst_1, hg, hp]
  exact congrArg _ hbot

/-- The block in place `t` of a query's gates, the largest first. -/
def nth (b h : Fin 8) (s : Fin 2048) (t : Fin 3) : Fin 8 :=
  sortedFrom (fun a c => decide (pastGate (s.val / 256) (gate x0 x1 b h s) c < pastGate (s.val / 256) (gate x0 x1 b h s) a))
    (t.castLE (by decide))

theorem indices_apply (b h : Fin 8) (s : Fin 2048) (t : Fin 3) :
    val_main_indices (F := Ideal) x0 x1 (ix4 b h s t) = BitVec.ofNat 32 (nth x0 x1 b h s t).val := by
  have hm := masked_apply x0 x1 b h s
  unfold val_main_indices nth
  generalize val_main_v23 (F := Ideal) x0 x1 = g at hm ⊢
  unfold Host.topK Host.sort2
  simp only [show (3 : ℕ) < S8x8x2048x8.rank by decide, dif_pos]
  have halong : ∀ (j : S8x8x2048x8.Idx) (k : Fin 8), j.along (3 : Fin 4) k = ix4 (j 0) (j 1) (j 2) k := by
    intro j k
    funext a
    fin_cases a <;> rfl
  have hcmp : ∀ x y : EReal, (FloatOps.cmpfTotal (F := Ideal) (φ := .f32) .gt x y == 1#1) = decide (y < x) := by
    intro x y
    show (Ideal.cmp .ogt x y == 1#1) = decide (y < x)
    unfold Ideal.cmp
    by_cases h : y < x <;> simp [h]
  have hsl : ∀ (f : S8x8x2048x8.Idx → BitVec 32) (hf : S8x8x2048x8.Slices (fun _ => 0) S8x8x2048x3),
      extractStridedSlice S8x8x2048x3 (fun _ => 0) f hf (ix4 b h s t)
        = f (ix4 b h s (t.castLE (by decide))) := by
    intro f hf
    show f _ = f _
    congr 1
    funext a
    fin_cases a <;> simp [ix4] <;> rfl
  rw [hsl]
  have hb : (fun a c : Fin 8 => decide (pastGate (s.val / 256) (gate x0 x1 b h s) c < pastGate (s.val / 256) (gate x0 x1 b h s) a))
      = fun a c : Fin 8 => FloatOps.cmpfTotal (F := Ideal) (φ := .f32) .gt
          (g ((ix4 b h s (t.castLE (by decide)) : S8x8x2048x8.Idx).along (3 : Fin 4) a))
          (g ((ix4 b h s (t.castLE (by decide)) : S8x8x2048x8.Idx).along (3 : Fin 4) c)) == 1#1 := by
    funext a c
    rw [hcmp, halong, halong, ← hm a, ← hm c]
    rfl
  rw [hb]
  rfl

/-- The gather that takes a block for each place of each query. -/
abbrev G := gather_S8x8x8x256x64_S8x8x2048x3x1_S8x8x2048x3x256x64_45_2_01_01_2_4_11125664

/-- The gather of blocks takes, for a query's place `t`, the block that its index names. -/
theorem gather_apply (x : S8x8x8x256x64.Idx → EReal) (idx : S8x8x2048x3x1.Idx → BitVec 32) (b h : Fin 8) (s : Fin 2048)
    (t : Fin 3) (κ : Fin 256) (d : Fin 64) (n : Fin 8) (hn : idx (ix5 b h s t 0) = BitVec.ofNat 32 n.val) :
    Host.gather G x idx (ix6 b h s t κ d) = x (ix5 b h n κ d) := by
  unfold Host.gather
  congr 1
  funext a
  refine Fin.ext ?_
  show G.start (ix6 b h s t κ d) idx a + G.batchCoord (ix6 b h s t κ d) a + G.offCoord (ix6 b h s t κ d) a = _
  unfold GatherDims.start GatherDims.batchCoord GatherDims.offCoord
  have h5 : a = 0 ∨ a = 1 ∨ a = 2 ∨ a = 3 ∨ a = 4 := by
    revert a
    decide
  rcases h5 with rfl | rfl | rfl | rfl | rfl
  · rw [dif_neg (by decide), dif_pos (by decide), dif_neg (by decide)]
    exact Nat.zero_add _
  · rw [dif_neg (by decide), dif_pos (by decide), dif_neg (by decide)]
    exact Nat.zero_add _
  · have h2 : (2 : Fin 5) ∈ G.startIndexMap := by decide
    rw [dif_pos h2, dif_neg (by decide), dif_neg (by decide)]
    have hsi : G.siIdx (ix6 b h s t κ d) ⟨List.idxOf (2 : Fin 5) G.startIndexMap, List.idxOf_lt_length_iff.2 h2⟩
        = ix5 b h s t 0 := by
      funext c
      refine Fin.ext ?_
      match c with
      | ⟨0, _⟩ => rfl
      | ⟨1, _⟩ => rfl
      | ⟨2, _⟩ => rfl
      | ⟨3, _⟩ => rfl
      | ⟨4, _⟩ => rfl
    rw [hsi, hn]
    have hall : ∀ n : Fin 8, min (BitVec.ofNat 32 n.val).toInt.toNat (8 - 1) = n.val := by decide
    exact hall n
  · rw [dif_neg (by decide), dif_neg (by decide), dif_pos (by decide)]
    exact Nat.zero_add _
  · rw [dif_neg (by decide), dif_neg (by decide), dif_pos (by decide)]
    exact Nat.zero_add _

end Cert.MobaRefIdeal.Hand
-- ==== Proof.MobaSoft.lean ====
/- The attention's reference read further: the gathered blocks, the scores and the weights of a query. -/
module

public import proofs.«01_k».proof.Proof.MobaRef

@[expose] public section

set_option maxRecDepth 16384

noncomputable section

namespace Cert.MobaRefIdeal.Hand

open Cert.MobaRefIdeal Cert.MobaRefIdeal.Read Idealize.ShloMosaic Cert.MobaMath

variable (x0 x1 x2 : FVec Ideal S8x2048x512 .bf16)

/-- A block number is not negative, so it stays as it is. -/
theorem wrap_apply (n : Fin 8) :
    Scalar.select (IntOp.cmpi CmpIPredicate.slt (BitVec.ofNat 32 n.val) 0#32) (IntOp.addi (BitVec.ofNat 32 n.val) 8#32)
      (BitVec.ofNat 32 n.val) = BitVec.ofNat 32 n.val := by
  revert n
  decide

theorem kindex_apply (b h : Fin 8) (s : Fin 2048) (t : Fin 3) :
    val_main_v33 (F := Ideal) x0 x1 (ix5 b h s t 0) = BitVec.ofNat 32 (nth x0 x1 b h s t).val := by
  have hi := indices_apply x0 x1 b h s t
  have hw := wrap_apply (nth x0 x1 b h s t)
  pointwise [val_main_v33, val_main_v32, val_main_v31, val_main_v30, val_main_c_3, val_main_v29, val_main_v28, val_main_c_2, hi, hw]

theorem vindex_apply (b h : Fin 8) (s : Fin 2048) (t : Fin 3) :
    val_main_v40 (F := Ideal) x0 x1 (ix5 b h s t 0) = BitVec.ofNat 32 (nth x0 x1 b h s t).val := by
  have hi := indices_apply x0 x1 b h s t
  have hw := wrap_apply (nth x0 x1 b h s t)
  pointwise [val_main_v40, val_main_v39, val_main_v38, val_main_v37, val_main_c_5, val_main_v36, val_main_v35, val_main_c_4, hi, hw]

/-- The keys gathered for a query's place are those of the block in that place. -/
theorem ksel_apply (b h : Fin 8) (s : Fin 2048) (t : Fin 3) (κ : Fin 256) (d : Fin 64) :
    val_main_v34 (F := Ideal) x0 x1 (ix6 b h s t κ d) = hv x1 b h (pos (nth x0 x1 b h s t) κ) d := by
  rw [← k_apply]
  exact gather_apply _ _ b h s t κ d _ (kindex_apply x0 x1 b h s t)

/-- The values gathered for a query's place are those of the block in that place. -/
theorem vsel_apply (b h : Fin 8) (s : Fin 2048) (t : Fin 3) (κ : Fin 256) (d : Fin 64) :
    val_main_v41 (F := Ideal) x0 x1 x2 (ix6 b h s t κ d) = hv x2 b h (pos (nth x0 x1 b h s t) κ) d := by
  rw [← v_apply]
  exact gather_apply _ _ b h s t κ d _ (vindex_apply x0 x1 b h s t)

/-- The score of the key at `p` for the query at `s`. -/
def sc (b h : Fin 8) (s p : Fin 2048) : EReal := ∑ d, hv x0 b h s d * hv x1 b h p d

/-- Whether the block in place `t` of a query is past. -/
theorem valid_apply (b h : Fin 8) (s : Fin 2048) (t : Fin 3) :
    val_main_v27 (F := Ideal) x0 x1 (ix4 b h s t) = BitVec.ofBool (decide ((nth x0 x1 b h s t).val < s.val / 256)) := by
  have hi := indices_apply x0 x1 b h s t
  have hb := block_apply s
  have hall : ∀ a n : Fin 8, IntOp.cmpi CmpIPredicate.slt (BitVec.ofNat 32 n.val) (BitVec.ofNat 32 a.val)
      = BitVec.ofBool (decide (n.val < a.val)) := by decide
  refine Eq.trans ?_ (hall (blk s) (nth x0 x1 b h s t))
  rw [← hi, val_main_v27_apply]
  congr 1

theorem selScore_apply (b h : Fin 8) (s : Fin 2048) (t : Fin 3) (κ : Fin 256) :
    val_main_v44 (F := Ideal) x0 x1 (ix5 b h s t κ)
      = if (nth x0 x1 b h s t).val < s.val / 256 then sc x0 x1 b h s (pos (nth x0 x1 b h s t) κ) else ⊥ := by
  have hv := valid_apply x0 x1 b h s t
  have hq := q_apply x0 b h s
  have hk := ksel_apply x0 x1 b h s t κ
  have hdot : val_main_v42 (F := Ideal) x0 x1 (ix5 b h s t κ) = sc x0 x1 b h s (pos (nth x0 x1 b h s t) κ) := by
    unfold sc
    rw [val_main_v42_apply]
    refine Finset.sum_congr rfl fun d _ => ?_
    rw [← hq d, ← hk d]
    congr 2 <;> (funext a; fin_cases a <;> rfl)
  have hbot := bot_lit
  rw [val_main_v44_apply, hdot]
  have hc : val_main_call2_v1 (F := Ideal) x0 x1 (ix5 b h s t κ) = val_main_v27 (F := Ideal) x0 x1 (ix4 b h s t) := by
    pointwise [val_main_call2_v1, val_main_v43]
  rw [hc, hv]
  have hm : val_main_call2_v2 (F := Ideal) (ix5 b h s t κ) = ⊥ := hbot
  rw [hm]
  by_cases hlt : (nth x0 x1 b h s t).val < s.val / 256 <;> simp [hlt, Scalar.select]

/-- The score of a key of the query's own block: hidden when it lies after the query. -/
theorem ownScore_apply (b h n : Fin 8) (r κ : Fin 256) :
    val_main_v54 (F := Ideal) x0 x1 (ix5 b h n r κ)
      = if κ.val ≤ r.val then sc x0 x1 b h (pos n r) (pos n κ) else ⊥ := by
  have hq : ∀ d, val_main_v46 (F := Ideal) x0 (ix5 b h n r d) = hv x0 b h (pos n r) d := by
    intro d
    have hq := q_apply x0 b h
    unfold pos
    pointwise [val_main_v46, hq]
  have hk := k_apply x1 b h n κ
  have hdot : val_main_v47 (F := Ideal) x0 x1 (ix5 b h n r κ) = sc x0 x1 b h (pos n r) (pos n κ) := by
    unfold sc
    rw [val_main_v47_apply]
    refine Finset.sum_congr rfl fun d _ => ?_
    rw [← hq d, ← hk d]
    congr 2 <;> (funext a; fin_cases a <;> rfl)
  have hc : val_main_v53 (F := Ideal) (ix2 r κ) = BitVec.ofBool (decide (κ.val ≤ r.val)) := by
    have hle : ∀ a n : ℕ, a < 256 → n < 256 → IntOp.cmpi CmpIPredicate.sle (BitVec.ofNat 32 n) (BitVec.ofNat 32 a)
        = BitVec.ofBool (decide (n ≤ a)) := by
      intro a n ha hn
      show BitVec.ofBool (BitVec.sle _ _) = _
      congr 1
      have hint : ∀ n : ℕ, n < 256 → (BitVec.ofNat 32 n).toInt = n := by
        intro n hn
        have hnat : (BitVec.ofNat 32 n).toNat = n := by
          rw [BitVec.toNat_ofNat]
          omega
        rw [BitVec.toInt_eq_toNat_of_lt (by omega), hnat]
      unfold BitVec.sle
      rw [hint n hn, hint a ha]
      simp
    have hl := hle r.val κ.val r.isLt κ.isLt
    pointwise [val_main_v53, val_main_v52, val_main_v51, val_main_v50, val_main_v49, val_main_v48]
    exact hl
  have hbot := bot_lit
  have hm : val_main_call3_v2 (F := Ideal) (ix5 b h n r κ) = ⊥ := hbot
  have hcc : val_main_call3_v1 (F := Ideal) (ix5 b h n r κ) = val_main_v53 (F := Ideal) (ix2 r κ) := by
    pointwise [val_main_call3_v1]
  rw [val_main_v54_apply, hdot, hcc, hc, hm]
  by_cases hlt : κ.val ≤ r.val <;> simp [hlt, Scalar.select]

end Cert.MobaRefIdeal.Hand
-- ==== Proof.MobaResult.lean ====
/- The attention's reference read to its end: the weights of a query and its attended values. -/
module

public import proofs.«01_k».proof.Proof.MobaSoft

@[expose] public section

set_option maxRecDepth 16384

noncomputable section

namespace Cert.MobaRefIdeal.Hand

open Cert.MobaRefIdeal Cert.MobaRefIdeal.Read Idealize.ShloMosaic Cert.MobaMath

variable (x0 x1 x2 : FVec Ideal S8x2048x512 .bf16)

/-- Three blocks of 256 and one more, one after the other. -/
def cat (f : Fin 3 → Fin 256 → EReal) (g : Fin 256 → EReal) (j : Fin 1024) : EReal :=
  if h : j.val < 768 then f ⟨j.val / 256, by omega⟩ ⟨j.val % 256, by omega⟩ else g ⟨j.val - 768, by omega⟩

theorem cat_left (f : Fin 3 → Fin 256 → EReal) (g : Fin 256 → EReal) (t : Fin 3) (κ : Fin 256) (h : t.val * 256 + κ.val < 1024) :
    cat f g ⟨t.val * 256 + κ.val, h⟩ = f t κ := by
  unfold cat
  have h1 : t.val * 256 + κ.val < 768 := by omega
  rw [dif_pos h1]
  congr 1 <;> simp only [Fin.ext_iff] <;> omega

theorem cat_right (f : Fin 3 → Fin 256 → EReal) (g : Fin 256 → EReal) (κ : Fin 256) (h : 768 + κ.val < 1024) :
    cat f g ⟨768 + κ.val, h⟩ = g κ := by
  unfold cat
  have h1 : ¬ 768 + κ.val < 768 := by omega
  rw [dif_neg h1]
  congr 1
  simp only [Fin.ext_iff]
  omega

theorem sum_cat (f : Fin 3 → Fin 256 → EReal) (g : Fin 256 → EReal) (F : EReal → EReal) :
    ∑ j, F (cat f g j) = (∑ t, ∑ κ, F (f t κ)) + ∑ κ, F (g κ) := by
  refine (Fin.sum_univ_add (a := 768) (b := 256) fun j => F (cat f g j)).trans ?_
  congr 1
  · rw [← Fintype.sum_prod_type']
    refine (Equiv.sum_comp (finProdFinEquiv (m := 3) (n := 256))
      fun i : Fin (3 * 256) => F (cat f g (Fin.castAdd 256 i))).symm.trans ?_
    refine Finset.sum_congr rfl fun tk _ => ?_
    obtain ⟨t, κ⟩ := tk
    have hlt : t.val * 256 + κ.val < 1024 := by omega
    have he : Fin.castAdd 256 (finProdFinEquiv (m := 3) (n := 256) (t, κ)) = (⟨t.val * 256 + κ.val, hlt⟩ : Fin 1024) := by
      simp only [Fin.ext_iff, Fin.val_castAdd, finProdFinEquiv_apply_val]
      omega
    exact congrArg F ((congrArg (cat f g) he).trans (cat_left f g t κ hlt))

/-- The score of a gathered key: masked when its block is not past. -/
def selE (b h : Fin 8) (s : Fin 2048) (t : Fin 3) (κ : Fin 256) : EReal :=
  if (nth x0 x1 b h s t).val < s.val / 256 then sc x0 x1 b h s (pos (nth x0 x1 b h s t) κ) else ⊥

/-- The score of a key of the query's own block: masked when it lies after the query. -/
def ownE (b h : Fin 8) (s : Fin 2048) (κ : Fin 256) : EReal :=
  if κ.val ≤ s.val % 256 then sc x0 x1 b h s (pos (blk s) κ) else ⊥

theorem logit_apply (b h : Fin 8) (s : Fin 2048) (j : Fin 1024) :
    val_main_v56 (F := Ideal) x0 x1 (ix4 b h s j) = cat (selE x0 x1 b h s) (ownE x0 x1 b h s) j := by
  have hsel := selScore_apply x0 x1 b h s
  have hown : ∀ κ, val_main_v54 (F := Ideal) x0 x1 (ix5 b h (blk s) ⟨s.val % 256, by omega⟩ κ) = ownE x0 x1 b h s κ := by
    intro κ
    have hpos : pos (blk s) ⟨s.val % 256, by omega⟩ = s := by
      unfold pos blk
      simp only [Fin.ext_iff]
      omega
    rw [ownScore_apply, hpos]
    rfl
  unfold blk at hown
  unfold cat selE
  pointwise [val_main_v56, val_main_v55, val_main_v45, hsel, hown]

theorem wsel_apply (b h : Fin 8) (s : Fin 2048) (t : Fin 3) (κ : Fin 256) :
    val_main_v69 (F := Ideal) x0 x1 (ix5 b h s t κ) = val_main_v67 (F := Ideal) x0 x1 (ix4 b h s ⟨t.val * 256 + κ.val, by omega⟩) := by
  pointwise [val_main_v69, val_main_v68]

theorem wown_apply (b h n : Fin 8) (r κ : Fin 256) :
    val_main_v71 (F := Ideal) x0 x1 (ix5 b h n r κ) = val_main_v67 (F := Ideal) x0 x1 (ix4 b h (pos n r) ⟨768 + κ.val, by omega⟩) := by
  unfold pos
  pointwise [val_main_v71, val_main_v70]

theorem asel_apply (b h : Fin 8) (s : Fin 2048) (d : Fin 64) :
    val_main_v72 (F := Ideal) x0 x1 x2 (ix4 b h s d)
      = ∑ t : Fin 3, ∑ κ : Fin 256, val_main_v69 (F := Ideal) x0 x1 (ix5 b h s t κ) * val_main_v41 (F := Ideal) x0 x1 x2 (ix6 b h s t κ d) := by
  pointwise [val_main_v72]
  exact Finset.sum_comm

theorem out_apply (b : Fin 8) (s : Fin 2048) (j : Fin 512) :
    val_main_v78 (F := Ideal) x0 x1 x2 (ix3 b s j)
      = val_main_v75 (F := Ideal) x0 x1 x2 (ix4 b ⟨j.val / 64, by omega⟩ s ⟨j.val % 64, by omega⟩) := by
  unfold val_main_v78 val_main_v77 val_main_v76
  generalize val_main_v75 (F := Ideal) x0 x1 x2 = y
  pointwise

theorem aown_apply (b h : Fin 8) (s : Fin 2048) (d : Fin 64) :
    val_main_v74 (F := Ideal) x0 x1 x2 (ix4 b h s d)
      = ∑ κ : Fin 256, val_main_v71 (F := Ideal) x0 x1 (ix5 b h (blk s) ⟨s.val % 256, by omega⟩ κ)
            * val_main_v10 (F := Ideal) x2 (ix5 b h (blk s) κ d) := by
  have h1 : val_main_v74 (F := Ideal) x0 x1 x2 (ix4 b h s d)
      = val_main_v73 (F := Ideal) x0 x1 x2 (ix5 b h (blk s) ⟨s.val % 256, by omega⟩ d) := by
    unfold val_main_v74 blk
    generalize val_main_v73 (F := Ideal) x0 x1 x2 = y
    pointwise
  rw [h1, val_main_v73_apply]
  refine Finset.sum_congr rfl fun κ _ => ?_
  congr 2 <;> (funext a; fin_cases a <;> rfl)

/-- The greatest score of a query, as the reference shifts by it. -/
theorem shift_apply (b h : Fin 8) (s : Fin 2048) (f : Fin 1024 → EReal)
    (hl : ∀ j, val_main_v56 (F := Ideal) x0 x1 (ix4 b h s j) = f j) :
    val_main_v59 (F := Ideal) x0 x1 (ix3 b h s) = Finset.univ.fold max ⊥ f := by
  have hbot := bot_lit
  have h1 : val_main_v57 (F := Ideal) x0 x1 (ix3 b h s) = Finset.univ.fold max ⊥ f := by
    unfold val_main_v57
    generalize val_main_v56 (F := Ideal) x0 x1 = z at hl ⊢
    have hr : S8x8x2048x1024.Reduces [(3 : Fin 4)] S8x8x2048 := by decide
    have hf : (z ∘ hr.lift (ix3 b h s) : Fin 1024 → EReal) = f := by
      funext j
      rw [← hl j]
      exact congrArg z (funext fun a => Fin.ext (by match a with | ⟨0, _⟩ => rfl | ⟨1, _⟩ => rfl | ⟨2, _⟩ => rfl | ⟨3, _⟩ => rfl))
    refine (Host.reduce_eq_fold_single _ z _ _ hr _ _).trans ?_
    exact congrArg₂ (fun i g => Finset.fold (max : EReal → EReal → EReal) i g (Finset.univ : Finset (Fin 1024))) hbot hf
  rw [val_main_v59_apply, h1]
  have h2 : val_main_v58 (F := Ideal) (ix3 b h s) = ⊥ := hbot
  rw [h2]
  exact max_eq_right bot_le

theorem exp_apply (b h : Fin 8) (s : Fin 2048) (j : Fin 1024) :
    val_main_v63 (F := Ideal) x0 x1 (ix4 b h s j)
      = Ideal.exp (cat (selE x0 x1 b h s) (ownE x0 x1 b h s) j - val_main_v59 (F := Ideal) x0 x1 (ix3 b h s)) := by
  have hl := logit_apply x0 x1 b h s
  unfold val_main_v63 val_main_v62 val_main_v61 val_main_v60
  generalize val_main_v59 (F := Ideal) x0 x1 = y
  generalize val_main_v56 (F := Ideal) x0 x1 = z at hl ⊢
  pointwise [hl]

theorem weight_apply (b h : Fin 8) (s : Fin 2048) (j : Fin 1024) :
    val_main_v67 (F := Ideal) x0 x1 (ix4 b h s j)
      = Ideal.div (val_main_v63 (F := Ideal) x0 x1 (ix4 b h s j)) (∑ i, val_main_v63 (F := Ideal) x0 x1 (ix4 b h s i)) := by
  unfold val_main_v67 val_main_v66 val_main_v65 val_main_v64
  generalize val_main_v63 (F := Ideal) x0 x1 = y
  pointwise [val_main_cst_10]

/-- The sum of the exponentials of a query's scores. -/
def total (b h : Fin 8) (s : Fin 2048) : EReal :=
  (∑ t, ∑ κ, Ideal.exp (selE x0 x1 b h s t κ)) + ∑ κ, Ideal.exp (ownE x0 x1 b h s κ)

/-- The values summed with the exponentials of a query's scores. -/
def weighed (b h : Fin 8) (s : Fin 2048) (d : Fin 64) : EReal :=
  (∑ t, ∑ κ, Ideal.exp (selE x0 x1 b h s t κ) * hv x2 b h (pos (nth x0 x1 b h s t) κ) d)
    + ∑ κ, Ideal.exp (ownE x0 x1 b h s κ) * hv x2 b h (pos (blk s) κ) d

variable {x0 x1}

theorem selE_isScore (b h : Fin 8) (s : Fin 2048) (hr : ∀ p, ∃ x : ℝ, sc x0 x1 b h s p = x) (t : Fin 3) (κ : Fin 256) :
    IsScore (selE x0 x1 b h s t κ) := by
  unfold selE
  split
  · exact Or.inr (hr _)
  · exact Or.inl rfl

theorem ownE_isScore (b h : Fin 8) (s : Fin 2048) (hr : ∀ p, ∃ x : ℝ, sc x0 x1 b h s p = x) (κ : Fin 256) :
    IsScore (ownE x0 x1 b h s κ) := by
  unfold ownE
  split
  · exact Or.inr (hr _)
  · exact Or.inl rfl

theorem cat_isScore (b h : Fin 8) (s : Fin 2048) (hr : ∀ p, ∃ x : ℝ, sc x0 x1 b h s p = x) (j : Fin 1024) :
    IsScore (cat (selE x0 x1 b h s) (ownE x0 x1 b h s) j) := by
  unfold cat
  split
  · exact selE_isScore b h s hr _ _
  · exact ownE_isScore b h s hr _

/-- The sum of the exponentials is a positive real number. -/
theorem total_pos (b h : Fin 8) (s : Fin 2048) (hr : ∀ p, ∃ x : ℝ, sc x0 x1 b h s p = x) :
    ∃ L : ℝ, 0 < L ∧ total x0 x1 b h s = L := by
  obtain ⟨y, hy0, hy⟩ := sum_isReal Finset.univ (fun t : Fin 3 => ∑ κ, Ideal.exp (selE x0 x1 b h s t κ))
    fun t => sum_isReal Finset.univ _ fun κ => exp_isReal _ (selE_isScore b h s hr t κ)
  have hk : s.val % 256 < 256 := by omega
  obtain ⟨z, hz0, hz⟩ := sum_isReal (Finset.univ.erase (⟨s.val % 256, hk⟩ : Fin 256)) (fun κ => Ideal.exp (ownE x0 x1 b h s κ))
    fun κ => exp_isReal _ (ownE_isScore b h s hr κ)
  obtain ⟨w, hw⟩ := hr (pos (blk s) ⟨s.val % 256, hk⟩)
  have hself : Ideal.exp (ownE x0 x1 b h s ⟨s.val % 256, hk⟩) = (Real.exp w : EReal) := by
    unfold ownE
    rw [if_pos (le_refl _), hw]
    rfl
  refine ⟨y + (Real.exp w + z), by have := Real.exp_pos w; linarith, ?_⟩
  unfold total
  rw [hy, ← Finset.add_sum_erase _ _ (Finset.mem_univ (⟨s.val % 256, hk⟩ : Fin 256)), hz, hself]
  norm_cast

/-- A weight of the softmax is the exponential of its score, scaled. -/
theorem weight_eq (b h : Fin 8) (s : Fin 2048) (hr : ∀ p, ∃ x : ℝ, sc x0 x1 b h s p = x) (L : ℝ) (hL : 0 < L)
    (hT : total x0 x1 b h s = L) (j : Fin 1024) :
    val_main_v67 (F := Ideal) x0 x1 (ix4 b h s j)
      = ((L⁻¹ : ℝ) : EReal) * Ideal.exp (cat (selE x0 x1 b h s) (ownE x0 x1 b h s) j) := by
  have hsc := cat_isScore b h s hr
  obtain ⟨w, hw⟩ := hr (pos (blk s) ⟨s.val % 256, by omega⟩)
  have hlast : cat (selE x0 x1 b h s) (ownE x0 x1 b h s) ⟨768 + s.val % 256, by omega⟩ = (w : EReal) := by
    rw [cat_right (selE x0 x1 b h s) (ownE x0 x1 b h s) ⟨s.val % 256, by omega⟩ (by simp only; omega)]
    unfold ownE
    rw [if_pos (le_refl _), hw]
  obtain ⟨μ, hμ⟩ := fold_isReal _ hsc _ w hlast
  have hsh := shift_apply x0 x1 b h s _ (logit_apply x0 x1 b h s)
  rw [hμ] at hsh
  rw [weight_apply]
  simp only [exp_apply, hsh]
  rw [sum_exp_sub _ hsc, sum_cat _ _ Ideal.exp]
  have hT' : (∑ t, ∑ κ, Ideal.exp (selE x0 x1 b h s t κ)) + ∑ κ, Ideal.exp (ownE x0 x1 b h s κ) = L := hT
  rw [hT']
  exact exp_sub_div _ (hsc j) μ L hL

/-- The attended values of a query, from the sums of the exponentials. -/
theorem attended (b h : Fin 8) (s : Fin 2048) (d : Fin 64) (hr : ∀ p, ∃ x : ℝ, sc x0 x1 b h s p = x) :
    val_main_v75 (F := Ideal) x0 x1 x2 (ix4 b h s d) = Ideal.div (weighed x0 x1 x2 b h s d) (total x0 x1 b h s) := by
  obtain ⟨L, hL, hT⟩ := total_pos b h s hr
  have hw := weight_eq b h s hr L hL hT
  have hpos : pos (blk s) ⟨s.val % 256, by omega⟩ = s := by
    unfold pos blk
    simp only [Fin.ext_iff]
    omega
  have hinv : (0 : ℝ) ≤ L⁻¹ := (inv_pos.mpr hL).le
  rw [hT, div_pos _ L hL, mul_comm]
  unfold weighed
  rw [coe_mul_add _ hinv, val_main_v75_apply]
  show val_main_v72 (F := Ideal) x0 x1 x2 (ix4 b h s d) + val_main_v74 (F := Ideal) x0 x1 x2 (ix4 b h s d) = _
  rw [asel_apply, aown_apply]
  congr 1
  · rw [coe_mul_sum _ _ hinv]
    refine Finset.sum_congr rfl fun t _ => ?_
    rw [coe_mul_sum _ _ hinv]
    refine Finset.sum_congr rfl fun κ _ => ?_
    rw [wsel_apply, hw, cat_left, vsel_apply, mul_assoc]
  · rw [coe_mul_sum _ _ hinv]
    refine Finset.sum_congr rfl fun κ _ => ?_
    rw [wown_apply, hpos, hw, cat_right, v_apply, mul_assoc]

/-- The sum over the three places is a sum over the blocks that come among the first three. -/
theorem places (b h : Fin 8) (s : Fin 2048) (f : Fin 8 → EReal) :
    ∑ t, (if (nth x0 x1 b h s t).val < s.val / 256 then f (nth x0 x1 b h s t) else 0)
      = ∑ n : Fin 8, if n.val < s.val / 256 ∧ rank (pastGate (s.val / 256) (gate x0 x1 b h s)) n < 3 then f n else 0 := by
  have h3 := sum_topThree (pastGate (s.val / 256) (gate x0 x1 b h s)) fun n => if n.val < s.val / 256 then f n else 0
  refine h3.trans (Finset.sum_congr rfl fun n _ => ?_)
  by_cases h1 : n.val < s.val / 256 <;> by_cases h2 : rank (pastGate (s.val / 256) (gate x0 x1 b h s)) n < 3 <;> simp [h1, h2]

end Cert.MobaRefIdeal.Hand
-- ==== Proof.MobaJoin.lean ====
/-
  A head of the attention kernel's block and the reference's attended values are the same quotient of two sums.
-/
module

public import proofs.«01_k».proof.Proof.MobaPoint
public import proofs.«01_k».proof.Proof.MobaResult

@[expose] public section

set_option maxRecDepth 16384

noncomputable section

namespace Cert.MobaIdeal.Hand

open Idealize.ShloMosaic Cert.MobaIdeal Cert.MobaIdeal.Gen Cert.MobaMath
open Cert.MobaRefIdeal.Hand (hv pos blk mean gate nth sc selE ownE total weighed attended places out_apply)

/-- Lane `d` of head `e` of a pair. -/
abbrev hl (e : Fin 2) (d : Fin 64) : Fin 128 := ⟨e.val * 64 + d.val, by omega⟩

/-- Head `e` of pair `p`. -/
abbrev hd (p : Fin 4) (e : Fin 2) : Fin 8 := ⟨p.val * 2 + e.val, by omega⟩

/-- Lane `x` of pair `p`, among all lanes. -/
abbrev wide (p : Fin 4) (x : Fin 128) : Fin 512 := ⟨p.val * 128 + x.val, by omega⟩

/-- A product over all lanes, with those of the other head zero, is one over the head's own. -/
theorem head_lanes (e : Fin 2) (f w : Fin 128 → EReal) :
    ∑ x : Fin 128, (if x.val / 64 = e.val then f x else 0) * w x = ∑ d : Fin 64, f (hl e d) * w (hl e d) := by
  refine (Equiv.sum_comp (finProdFinEquiv (m := 2) (n := 64))
    fun x : Fin 128 => (if x.val / 64 = e.val then f x else 0) * w x).symm.trans ?_
  rw [Fintype.sum_prod_type]
  have hv : ∀ (u : Fin 2) (d : Fin 64), (finProdFinEquiv (m := 2) (n := 64) (u, d) : Fin 128) = hl u d := by
    intro u d
    simp only [Fin.ext_iff, finProdFinEquiv_apply_val]
    omega
  have hone : ∀ u : Fin 2, ∑ d : Fin 64, (if (finProdFinEquiv (m := 2) (n := 64) (u, d) : Fin 128).val / 64 = e.val
      then f (finProdFinEquiv (m := 2) (n := 64) (u, d)) else 0) * w (finProdFinEquiv (m := 2) (n := 64) (u, d))
        = if u = e then ∑ d : Fin 64, f (hl e d) * w (hl e d) else 0 := by
    intro u
    simp only [hv]
    by_cases hu : u = e
    · subst hu
      rw [if_pos rfl]
      refine Finset.sum_congr rfl fun d _ => ?_
      rw [if_pos (show (u.val * 64 + d.val) / 64 = u.val by omega)]
    · rw [if_neg hu]
      refine Finset.sum_eq_zero fun d _ => ?_
      have hne : u.val ≠ e.val := fun h => hu (Fin.ext h)
      rw [if_neg (show ¬ (u.val * 64 + d.val) / 64 = e.val by omega), zero_mul]
  exact (Finset.sum_congr rfl fun u _ => hone u).trans (by simp)

variable (q k v : FVec Ideal S8x2048x512 .bf16) (b : Fin 8) (p : Fin 4) (e : Fin 2) (a : Fin 8) (r : Fin 256)
  (qh : FVec Ideal S256x128 .bf16) (x1 x2 : Vec Ideal S1x2048x128 .bf16) (xs : Vec Ideal S128x128 .f32)

theorem lane_hv (x : FVec Ideal S8x2048x512 .bf16) (s : Fin 2048) (d : Fin 64) :
    x (ix3 b s (wide p (hl e d))) = hv x b (hd p e) s d := by
  unfold hv
  congr 2
  simp only [Fin.ext_iff]
  omega

variable {q k v b p e a r qh x1 x2 xs}

theorem kblk_lane (hx1 : ∀ s x, x1 (ix3 0 s x) = k (ix3 b s (wide p x))) (n : Fin 8) (κ : Fin 256) (d : Fin 64) :
    kblk x1 n (ix3 0 κ (hl e d)) = hv k b (hd p e) (pos n κ) d := by
  rw [← lane_hv b p e k]
  unfold kblk
  rw [← hx1]
  congr 2
  simp only [Fin.ext_iff, pos]
  show 256 * n.val + κ.val = n.val * 256 + κ.val
  omega

/-- The kernel's score of a key is the reference's. -/
theorem score_eq (hq : ∀ x : Fin 128, qh (ix2 r x) = if x.val / 64 = e.val then q (ix3 b (pos a r) (wide p x)) else 0)
    (hx1 : ∀ s x, x1 (ix3 0 s x) = k (ix3 b s (wide p x))) (n : Fin 8) (κ : Fin 256) :
    score qh (kblk x1 n) r κ = sc q k b (hd p e) (pos a r) (pos n κ) := by
  unfold score sc
  simp only [hq]
  rw [head_lanes e (fun x => q (ix3 b (pos a r) (wide p x))) fun x => kblk x1 n (ix3 0 κ x)]
  refine Finset.sum_congr rfl fun d _ => ?_
  rw [lane_hv b p e q, kblk_lane hx1]

theorem real_mul (x y : EReal) (hx : ∃ u : ℝ, x = u) (hy : ∃ u : ℝ, y = u) : ∃ u : ℝ, x * y = u := by
  obtain ⟨u, rfl⟩ := hx
  obtain ⟨w, rfl⟩ := hy
  exact ⟨u * w, (EReal.coe_mul u w).symm⟩

theorem real_sum {ι : Type} (s : Finset ι) (f : ι → EReal) (hf : ∀ i, ∃ u : ℝ, f i = u) : ∃ u : ℝ, ∑ i ∈ s, f i = u := by
  choose g hg using hf
  refine ⟨∑ i ∈ s, g i, ?_⟩
  simp only [hg]
  exact (map_sum (⟨⟨fun x : ℝ => (x : EReal), rfl⟩, EReal.coe_add⟩ : ℝ →+ EReal) g s).symm

/-- The two literals of the mean: a division by 256 and a product with its inverse. -/
theorem lit_256 : Ideal.ofBits FTy.f32 0x43800000#32 = ((256 : ℝ) : EReal) := by
  simp [Ideal.ofBits, Ideal.ieee, -EReal.coe_mul]; norm_num

theorem lit_inv256 : Ideal.ofBits FTy.f32 998244352#32 = (((256 : ℝ)⁻¹ : ℝ) : EReal) := by
  simp [Ideal.ofBits, Ideal.ieee, -EReal.coe_mul]; norm_num

theorem kmean_eq (hx1 : ∀ s x, x1 (ix3 0 s x) = k (ix3 b s (wide p x))) (n : Fin 8) (d : Fin 64) :
    kmean x1 n (hl e d) = mean k b (hd p e) n d := by
  unfold kmean mean
  rw [lit_256, lit_inv256, div_pos _ _ (by norm_num)]
  congr 1
  exact Finset.sum_congr rfl fun κ _ => kblk_lane hx1 n κ d

theorem mean_real (hk : ∀ i, ∃ u : ℝ, k i = u) (h n : Fin 8) (d : Fin 64) : ∃ u : ℝ, mean k b h n d = u := by
  unfold mean
  rw [lit_256, div_pos _ _ (by norm_num)]
  exact real_mul _ _ (real_sum _ _ fun κ => hk _) ⟨_, rfl⟩

theorem gate_real (hqr : ∀ i, ∃ u : ℝ, q i = u) (hk : ∀ i, ∃ u : ℝ, k i = u) (h n : Fin 8) (s : Fin 2048) :
    ∃ u : ℝ, gate q k b h s n = u :=
  real_sum _ _ fun d => real_mul _ _ (hqr _) (mean_real hk h n d)

theorem sc_real (hqr : ∀ i, ∃ u : ℝ, q i = u) (hk : ∀ i, ∃ u : ℝ, k i = u) (h : Fin 8) (s t : Fin 2048) :
    ∃ u : ℝ, sc q k b h s t = u :=
  real_sum _ _ fun d => real_mul _ _ (hqr _) (hk _)

/-- The kernel's gate of a block, from the means and their rests in the scratch, is the reference's. -/
theorem gate_eq (hq : ∀ x : Fin 128, qh (ix2 r x) = if x.val / 64 = e.val then q (ix3 b (pos a r) (wide p x)) else 0)
    (hx1 : ∀ s x, x1 (ix3 0 s x) = k (ix3 b s (wide p x))) (hk : ∀ i, ∃ u : ℝ, k i = u)
    (hm : ∀ n x, xs (ix2 (lane n) x) = kmean x1 n x) (hrest : ∀ n x, xs (ix2 (restLane n) x) = kmean x1 n x - kmean x1 n x)
    (n : Fin 8) :
    (∑ x : Fin 128, qh (ix2 r x) * xs (ix2 (lane n) x)) + ∑ x : Fin 128, qh (ix2 r x) * xs (ix2 (restLane n) x)
      = gate q k b (hd p e) (pos a r) n := by
  simp only [hq, hm, hrest]
  rw [head_lanes e (fun x => q (ix3 b (pos a r) (wide p x))) fun x => kmean x1 n x,
    head_lanes e (fun x => q (ix3 b (pos a r) (wide p x))) fun x => kmean x1 n x - kmean x1 n x]
  have hz : ∀ d : Fin 64, kmean x1 n (hl e d) - kmean x1 n (hl e d) = 0 := by
    intro d
    rw [kmean_eq hx1]
    obtain ⟨u, hu⟩ := mean_real (b := b) hk (hd p e) n d
    rw [hu, ← EReal.coe_sub, sub_self]
    rfl
  unfold gate
  simp only [hz, mul_zero, Finset.sum_const_zero, add_zero]
  refine Finset.sum_congr rfl fun d _ => ?_
  rw [lane_hv b p e q, kmean_eq hx1]

/-- The blocks that the kernel picks are those that the reference's first three places hold. -/
theorem picks_iff (g : Fin 8 → EReal) (hg : ∀ n, ∃ u : ℝ, g n = u) (n : Fin 8) :
    picks a g n = true ↔ n.val < a.val ∧ rank (pastGate a.val g) n < 3 := by
  unfold picks
  rw [Bool.and_eq_true, decide_eq_true_iff, decide_eq_true_iff]
  refine and_congr_right fun hn => ?_
  rw [rank_pastGate a.val g hg n hn]
  exact Iff.rfl

/-- A sum over the picked past blocks, in the kernel's form and the reference's. -/
theorem past_sum (hq : ∀ x : Fin 128, qh (ix2 r x) = if x.val / 64 = e.val then q (ix3 b (pos a r) (wide p x)) else 0)
    (hx1 : ∀ s x, x1 (ix3 0 s x) = k (ix3 b s (wide p x))) (hqr : ∀ i, ∃ u : ℝ, q i = u) (hk : ∀ i, ∃ u : ℝ, k i = u)
    (w : Fin 8 → Fin 256 → EReal) :
    ∑ n : Fin 8, ∑ κ, Ideal.exp (pastScore (picks a (gate q k b (hd p e) (pos a r)) n) qh (kblk x1 n) r κ) * w n κ
      = ∑ t, ∑ κ, Ideal.exp (selE q k b (hd p e) (pos a r) t κ) * w (nth q k b (hd p e) (pos a r) t) κ := by
  have hdiv : (pos a r).val / 256 = a.val := by
    show (a.val * 256 + r.val) / 256 = a.val
    omega
  have hbot : Ideal.exp ⊥ = 0 := rfl
  have hp := places (x0 := q) (x1 := k) b (hd p e) (pos a r)
    fun n => ∑ κ, Ideal.exp (sc q k b (hd p e) (pos a r) (pos n κ)) * w n κ
  rw [hdiv] at hp
  have hR : ∀ t, ∑ κ, Ideal.exp (selE q k b (hd p e) (pos a r) t κ) * w (nth q k b (hd p e) (pos a r) t) κ
      = if (nth q k b (hd p e) (pos a r) t).val < a.val then
          ∑ κ, Ideal.exp (sc q k b (hd p e) (pos a r) (pos (nth q k b (hd p e) (pos a r) t) κ)) * w (nth q k b (hd p e) (pos a r) t) κ
        else 0 := by
    intro t
    unfold selE
    rw [hdiv]
    by_cases h : (nth q k b (hd p e) (pos a r) t).val < a.val
    · simp only [if_pos h]
    · simp only [if_neg h, hbot, zero_mul, Finset.sum_const_zero]
  refine Eq.trans ?_ ((Finset.sum_congr rfl fun t _ => hR t).trans hp).symm
  refine Finset.sum_congr rfl fun n _ => ?_
  have hi := picks_iff (a := a) (gate q k b (hd p e) (pos a r)) (fun n => gate_real hqr hk (hd p e) n (pos a r)) n
  unfold pastScore
  by_cases h : picks a (gate q k b (hd p e) (pos a r)) n = true
  · rw [if_pos (hi.mp h)]
    simp only [if_pos h, score_eq hq hx1]
  · rw [if_neg fun h' => h (hi.mpr h')]
    simp only [if_neg h, hbot, zero_mul, Finset.sum_const_zero]

theorem own_score (hq : ∀ x : Fin 128, qh (ix2 r x) = if x.val / 64 = e.val then q (ix3 b (pos a r) (wide p x)) else 0)
    (hx1 : ∀ s x, x1 (ix3 0 s x) = k (ix3 b s (wide p x))) (κ : Fin 256) :
    ownScore qh (kblk x1 a) r κ = ownE q k b (hd p e) (pos a r) κ := by
  have hmod : (pos a r).val % 256 = r.val := by
    show (a.val * 256 + r.val) % 256 = r.val
    omega
  have hblk : blk (pos a r) = a := by
    apply Fin.ext
    show (a.val * 256 + r.val) / 256 = a.val
    omega
  unfold ownScore ownE
  rw [hmod, hblk, score_eq hq hx1]
  rfl

/-- A head of the kernel's block is the reference's quotient. -/
theorem head_eq (hq : ∀ x : Fin 128, qh (ix2 r x) = if x.val / 64 = e.val then q (ix3 b (pos a r) (wide p x)) else 0)
    (hx1 : ∀ s x, x1 (ix3 0 s x) = k (ix3 b s (wide p x))) (hx2 : ∀ s x, x2 (ix3 0 s x) = v (ix3 b s (wide p x)))
    (hqr : ∀ i, ∃ u : ℝ, q i = u) (hk : ∀ i, ∃ u : ℝ, k i = u) (g : Fin 8 → EReal)
    (hg : g = gate q k b (hd p e) (pos a r)) (d : Fin 64) :
    Ideal.div (num (picks a g) qh x1 x2 a r (hl e d)) (den (picks a g) qh x1 a r)
      = Ideal.div (weighed q k v b (hd p e) (pos a r) d) (total q k b (hd p e) (pos a r)) := by
  subst hg
  have hblk : blk (pos a r) = a := by
    apply Fin.ext
    show (a.val * 256 + r.val) / 256 = a.val
    omega
  have hpast := past_sum hq hx1 hqr hk
  congr 1
  · unfold num weighed
    simp only [own_score hq hx1, kblk_lane hx2, hblk]
    rw [add_comm, hpast fun n κ => hv v b (hd p e) (pos n κ) d]
  · have h1 := hpast fun _ _ => 1
    simp only [mul_one] at h1
    unfold den total
    simp only [own_score hq hx1]
    rw [add_comm, h1]

end Cert.MobaIdeal.Hand
-- ==== Proof.MobaValue.lean ====
/- The attention's result array: every point's block is the reference's there. -/
module

public import proofs.«01_k».proof.Proof.MobaJoin
public import proofs.«01_k».proof.Proof.Gen.MobaIdeal.Value

@[expose] public section

set_option maxRecDepth 16384

noncomputable section

namespace Cert.MobaIdeal.Hand

open Cert.MobaIdeal Cert.MobaIdeal.Gen Idealize.ShloMosaic Idealize.ShloMosaic.TcCoe Idealize.SL.Sem Cert.MobaMath
open Cert.MobaRefIdeal.Hand (hv pos blk mean gate nth sc selE ownE total weighed attended places out_apply)
open Idealize.ShloMosaic.Pipeline (Dat)

variable (m : (ℓ : Loc nD τ sig) → Buf (Elt Ideal) ℓ)

/-- Where each window's block sits at grid point `t`, and which block of queries the point is at. -/
theorem idx_val : ∀ t : Fin cfg0.N, win0_0.index t = ![t.val / 32, t.val % 8, t.val / 8 % 4]
    ∧ win0_1.index t = ![t.val / 32, 0, t.val / 8 % 4] ∧ win0_2.index t = ![t.val / 32, 0, t.val / 8 % 4]
    ∧ win0_3.index t = ![t.val / 32, t.val % 8, t.val / 8 % 4] ∧ ((grid0.coords t) 2).val = t.val % 8 :=
  (by decide +kernel : ∀ t : Fin grid0.N, _)

/-- The lanes of pair `p` of a batch's rows. -/
def pairBlk (x : FVec Ideal S8x2048x512 .bf16) (b : Fin 8) (p : Fin 4) : Vec Ideal S1x2048x128 .bf16 := fun y =>
  x (ix3 b ⟨(y 1).val, (y 1).isLt⟩ (wide p ⟨(y 2).val, (y 2).isLt⟩))

theorem queries_at (c : Dev nD) (t : Fin cfg0.N) (b : Fin 8) (p : Fin 4) (a : Fin 8) (hb : b.val = t.val / 32)
    (hp : p.val = t.val / 8 % 4) (ha : a.val = t.val % 8) (r : Fin 256) (x : Fin 128) :
    iblk m c 0 t (ix3 0 r x) = (m ((c : Thread nD τ).loc main_arg0)) (ix3 b (pos a r) (wide p x)) := by
  unfold pos wide
  blk_point [iblk, V, idx_val t]

theorem keys_at (c : Dev nD) (t : Fin cfg0.N) (b : Fin 8) (p : Fin 4) (hb : b.val = t.val / 32)
    (hp : p.val = t.val / 8 % 4) : iblk m c 1 t = pairBlk (m ((c : Thread nD τ).loc main_arg1)) b p := by
  funext y
  have e : y = ix3 (0 : Fin 1) (⟨(y 1).val, (y 1).isLt⟩ : Fin 2048) (⟨(y 2).val, (y 2).isLt⟩ : Fin 128) := by
    blk_ext <;> rfl
  unfold pairBlk wide
  rw [e]
  blk_point [iblk, V, idx_val t]

theorem values_at (c : Dev nD) (t : Fin cfg0.N) (b : Fin 8) (p : Fin 4) (hb : b.val = t.val / 32)
    (hp : p.val = t.val / 8 % 4) : iblk m c 2 t = pairBlk (m ((c : Thread nD τ).loc main_arg2)) b p := by
  funext y
  have e : y = ix3 (0 : Fin 1) (⟨(y 1).val, (y 1).isLt⟩ : Fin 2048) (⟨(y 2).val, (y 2).isLt⟩ : Fin 128) := by
    blk_ext <;> rfl
  unfold pairBlk wide
  rw [e]
  blk_point [iblk, V, idx_val t]

/-- After every point the scratch holds the means of the keys' blocks and their rests. -/
theorem scratch_at (c : Dev nD) (n : ℕ) : ∀ (hn : n < cfg0.N) (b : Fin 8) (p : Fin 4), b.val = n / 32 → p.val = n / 8 % 4 →
    ∀ (k : Fin 8) (d : Fin 128),
      (outsAt0 m c n hn).2 (ix2 (lane k) d) = kmean (pairBlk (m ((c : Thread nD τ).loc main_arg1)) b p) k d
      ∧ (outsAt0 m c n hn).2 (ix2 (restLane k) d)
          = kmean (pairBlk (m ((c : Thread nD τ).loc main_arg1)) b p) k d - kmean (pairBlk (m ((c : Thread nD τ).loc main_arg1)) b p) k d := by
  induction n with
  | zero =>
    intro hn b p hb hp k d
    have hA := congrArg Prod.snd (outsAt0_A m c ⟨0, hn⟩ rfl)
    dsimp only at hA
    rw [hA, ← keys_at m c ⟨0, hn⟩ b p hb hp]
    exact ⟨sout_mean _ _ _ _ _ _ _ _ _ _ _ _ _ _ _ _ k d, sout_rest _ _ _ _ _ _ _ _ _ _ _ _ _ _ _ _ k d⟩
  | succ n ih =>
    intro hn b p hb hp k d
    by_cases h0 : (n + 1) % 8 = 0
    · have hA := congrArg Prod.snd (outsAt0_A m c ⟨n + 1, hn⟩ h0)
      dsimp only at hA
      rw [hA, ← keys_at m c ⟨n + 1, hn⟩ b p hb hp]
      exact ⟨sout_mean _ _ _ _ _ _ _ _ _ _ _ _ _ _ _ _ k d, sout_rest _ _ _ _ _ _ _ _ _ _ _ _ _ _ _ _ k d⟩
    · have hB := congrArg Prod.snd (outsAt0_B m c ⟨n + 1, hn⟩ h0)
      dsimp only at hB
      rw [hB]
      exact ih (Nat.lt_of_succ_lt hn) b p (by omega) (by omega) k d

/-- What a point stores, from the blocks it reads and the scratch after it. -/
theorem stored (c : Dev nD) (t : Fin cfg0.N) (r : Fin 256) (d : Fin 128)
    (hs0 : ∀ n κ, ∃ x : ℝ, score (qh0 (iblk m c 0 t)) (kblk (iblk m c 1 t) n) r κ = x)
    (hs1 : ∀ n κ, ∃ x : ℝ, score (qh1 (iblk m c 0 t)) (kblk (iblk m c 1 t) n) r κ = x) :
    (outsAt0 m c t.val t.isLt).1 (ix3 0 r d)
      = if d.val < 64 then head0 ((grid0.coords t) 2) (iblk m c 0 t) (iblk m c 1 t) (iblk m c 2 t) (outsAt0 m c t.val t.isLt).2 r d
        else head1 ((grid0.coords t) 2) (iblk m c 0 t) (iblk m c 1 t) (iblk m c 2 t) (outsAt0 m c t.val t.isLt).2 r d := by
  by_cases h0 : t.val % 8 = 0
  · generalize hxs : (outsAt0 m c t.val t.isLt).2 = xs
    have hA := congrArg Prod.fst (outsAt0_A m c t h0)
    dsimp only at hA
    rw [hA]
    exact out_A _ _ _ _ _ _ _ _ _ _ _ _ _ ((idx_val t).2.2.2.2.trans h0) _ _ _ xs r d hs0 hs1
  · have hB := outsAt0_B m c t h0
    have h2 := congrArg Prod.snd hB
    have h1 := congrArg Prod.fst hB
    dsimp only at h1 h2
    rw [h1, h2]
    exact out_B _ _ _ _ _ _ _ _ _ _ _ _ _ _ _ _ _ r d hs0 hs1

variable {m}

/-- Every entry of the array is a finite number. -/
def Finite (x : FVec Ideal S8x2048x512 .bf16) : Prop := ∀ i, ∃ u : ℝ, x i = u

/-- What point `t` stores at a row and lane of its block is the reference's entry where the block places them. -/
theorem point (c : Dev nD) (t : Fin cfg0.N) (b : Fin 8) (p : Fin 4) (a : Fin 8) (hb : b.val = t.val / 32)
    (hp : p.val = t.val / 8 % 4) (ha : a.val = t.val % 8) (r : Fin 256) (e : Fin 2) (d : Fin 64)
    (q k v : FVec Ideal S8x2048x512 .bf16) (hQ : m ((c : Thread nD τ).loc main_arg0) = q) (hK : m ((c : Thread nD τ).loc main_arg1) = k)
    (hV : m ((c : Thread nD τ).loc main_arg2) = v) (hq : Finite q) (hk : Finite k) :
    (outsAt0 m c t.val t.isLt).1 (ix3 0 r (hl e d))
      = Cert.MobaRefIdeal.Read.val_main_v78 (F := Ideal) q k v (ix3 b (pos a r) (wide p (hl e d))) := by
  have hx0 : ∀ x, iblk m c 0 t (ix3 0 r x) = q (ix3 b (pos a r) (wide p x)) := fun x => by
    rw [queries_at m c t b p a hb hp ha, hQ]
  have hx1 : ∀ s x, iblk m c 1 t (ix3 0 s x) = k (ix3 b s (wide p x)) := fun s x => by
    rw [keys_at m c t b p hb hp, hK]
    rfl
  have hx2 : ∀ s x, iblk m c 2 t (ix3 0 s x) = v (ix3 b s (wide p x)) := fun s x => by
    rw [values_at m c t b p hb hp, hV]
    rfl
  have hsc := scratch_at m c t.val t.isLt b p hb hp
  rw [← keys_at m c t b p hb hp] at hsc
  have hq0 : ∀ x : Fin 128, qh0 (iblk m c 0 t) (ix2 r x) = if x.val / 64 = (0 : Fin 2).val then q (ix3 b (pos a r) (wide p x)) else 0 := fun x => by
    have hiff : x.val < 64 ↔ x.val / 64 = (0 : Fin 2).val := by
      show x.val < 64 ↔ x.val / 64 = 0
      omega
    rw [qh0_apply, hx0]
    exact if_congr hiff rfl rfl
  have hq1 : ∀ x : Fin 128, qh1 (iblk m c 0 t) (ix2 r x) = if x.val / 64 = (1 : Fin 2).val then q (ix3 b (pos a r) (wide p x)) else 0 := fun x => by
    have hiff : ¬ x.val < 64 ↔ x.val / 64 = (1 : Fin 2).val := by
      show ¬ x.val < 64 ↔ x.val / 64 = 1
      omega
    rw [qh1_apply, hx0, ← ite_not]
    exact if_congr hiff rfl rfl
  have hr0 : ∀ n κ, ∃ x : ℝ, score (qh0 (iblk m c 0 t)) (kblk (iblk m c 1 t) n) r κ = x := fun n κ => by
    rw [score_eq hq0 hx1]
    exact sc_real hq hk _ _ _
  have hr1 : ∀ n κ, ∃ x : ℝ, score (qh1 (iblk m c 0 t)) (kblk (iblk m c 1 t) n) r κ = x := fun n κ => by
    rw [score_eq hq1 hx1]
    exact sc_real hq hk _ _ _
  have hi : (grid0.coords t) 2 = a := Fin.ext ((idx_val t).2.2.2.2.trans ha.symm)
  rw [stored m c t r (hl e d) hr0 hr1, out_apply]
  have hh : (⟨(wide p (hl e d)).val / 64, by have := (wide p (hl e d)).isLt; omega⟩ : Fin 8) = hd p e := by
    apply Fin.ext
    show (p.val * 128 + (e.val * 64 + d.val)) / 64 = p.val * 2 + e.val
    omega
  have hd' : (⟨(wide p (hl e d)).val % 64, by omega⟩ : Fin 64) = d := by
    apply Fin.ext
    show (p.val * 128 + (e.val * 64 + d.val)) % 64 = d.val
    omega
  rw [hh, hd', attended v b (hd p e) (pos a r) d fun s => sc_real hq hk _ _ _]
  have he : ∀ e : Fin 2, e = 0 ∨ e = 1 := by decide
  rcases he e with rfl | rfl
  · rw [if_pos (show (0 : Fin 2).val * 64 + d.val < 64 by show 0 * 64 + d.val < 64; omega)]
    unfold head0
    rw [hi]
    refine head_eq hq0 hx1 hx2 hq hk _ ?_ d
    funext n
    rw [gate0_apply]
    exact gate_eq hq0 hx1 hk (fun n x => (hsc n x).1) (fun n x => (hsc n x).2) n
  · rw [if_neg (show ¬ (1 : Fin 2).val * 64 + d.val < 64 by show ¬ 1 * 64 + d.val < 64; omega)]
    unfold head1
    rw [hi]
    refine head_eq hq1 hx1 hx2 hq hk _ ?_ d
    funext n
    rw [gate1_apply]
    exact gate_eq hq1 hx1 hk (fun n x => (hsc n x).1) (fun n x => (hsc n x).2) n

/-- The result array after the run. -/
theorem final (c : Dev nD) (hq : Finite (m ((c : Thread nD τ).loc main_arg0)))
    (hk : Finite (m ((c : Thread nD τ).loc main_arg1))) : (dats m 0 c).arrAt 3 (cfgs 0).N
      = Cert.MobaRefIdeal.Read.val_main_v78 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  have hN : t.val < 256 := lt_of_lt_of_eq t.isLt N_0
  let r : Fin 256 := ⟨(y 1).val, (y 1).isLt⟩
  let x : Fin 128 := ⟨(y 2).val, (y 2).isLt⟩
  let e : Fin 2 := ⟨x.val / 64, by have := x.isLt; omega⟩
  let d : Fin 64 := ⟨x.val % 64, by omega⟩
  have hx : x = hl e d := by
    apply Fin.ext
    show x.val = x.val / 64 * 64 + x.val % 64
    omega
  have ey : y = ix3 (0 : Fin 1) r (hl e d) := by
    rw [← hx]
    blk_ext <;> rfl
  have ee : (win0_3.blk t).view.emb y = ix3 (⟨t.val / 32, by omega⟩ : Fin 8) (pos ⟨t.val % 8, by omega⟩ r)
      (wide ⟨t.val / 8 % 4, by omega⟩ (hl e d)) := by
    rw [← hx]
    unfold pos wide
    blk_ext [idx_val t] <;> rfl
  rw [ee]
  exact (congrArg _ ey).trans (point c t _ _ _ rfl rfl rfl r e d _ _ _ rfl rfl rfl hq hk)

end Cert.MobaIdeal.Hand

end
-- ==== Proof.Pre.lean ====
/- What the preconditions say of an array: its entries are finite numbers. -/
module

public import proofs.«01_k».proof.Proof.MobaValue
public import proofs.«01_k».proof.Pre_scores_finite
public import proofs.«01_k».proof.Pre_projection_finite
public import Idealize.ShloMosaic.Lib.ReduceAll

@[expose] public section

set_option maxRecDepth 16384

noncomputable section

namespace Cert.Pre

open Idealize.ShloMosaic

theorem and_one : ∀ a b : BitVec 1, IntOp.andi a b = 1#1 → a = 1#1 ∧ b = 1#1 := by decide

theorem inf_lit : Ideal.ofBits FTy.f32 0x7F800000#32 = ⊤ := by
  simp [Ideal.ofBits, Ideal.ieee]

/-- A number whose magnitude is below infinity is a real one. -/
theorem real_of_abs (x : EReal) (h : FloatOps.cmpf (F := Ideal) (φ := .f32) .olt (FloatOps.absf (F := Ideal) (φ := .f32) x) (Ideal.ofBits FTy.f32 0x7F800000#32) = 1#1) :
    ∃ u : ℝ, x = u := by
  rw [inf_lit] at h
  induction x using EReal.rec with
  | bot => exfalso; revert h; simp [FloatOps.cmpf, FloatOps.absf, Ideal.cmp]
  | top => exfalso; revert h; simp [FloatOps.cmpf, FloatOps.absf, Ideal.cmp]
  | coe u => exact ⟨u, rfl⟩

theorem scores_finite [Cert.Pre_scores_finite.Facts] (q k v : FVec Ideal Cert.Pre_scores_finite.S8x2048x512 .bf16)
    (h : Cert.Pre_scores_finite.fn (F := Ideal) q k v = fun _ => 1#1) :
    (∀ i, ∃ u : ℝ, q i = u) ∧ ∀ i, ∃ u : ℝ, k i = u := by
  haveI : Subsingleton Cert.Pre_scores_finite.S_.Idx := ⟨fun a b => funext fun x => x.elim0⟩
  have h0 := and_one _ _ (congrFun h fun a => a.elim0)
  exact ⟨fun i => real_of_abs _ (Host.reduce_andi_all _ _ _ _ _ h0.1 i), fun i => real_of_abs _ (Host.reduce_andi_all _ _ _ _ _ h0.2 i)⟩

theorem projection_finite [Cert.Pre_projection_finite.Facts] (x : FVec Ideal Cert.Pre_projection_finite.S8x2048x1024 .f32)
    (w : FVec Ideal Cert.Pre_projection_finite.S1x1024x4096 .f32) (b : FVec Ideal Cert.Pre_projection_finite.S1x2048 .f32)
    (p : FVec Ideal Cert.Pre_projection_finite.S1x4x128x128 .f32) (q : FVec Ideal Cert.Pre_projection_finite.S1x512 .f32)
    (h : Cert.Pre_projection_finite.fn (F := Ideal) x w b p q = fun _ => 1#1) :
    (∀ i, ∃ u : ℝ, x i = u) ∧ ∀ (k : Fin 1024) (f : Fin 512), ∃ u : ℝ, w (ix3 0 k (⟨1536 + f.val, by omega⟩ : Fin 4096)) = u := by
  haveI : Subsingleton Cert.Pre_projection_finite.S_.Idx := ⟨fun a b => funext fun x => x.elim0⟩
  have h0 := and_one _ _ (congrFun h fun a => a.elim0)
  refine ⟨fun i => real_of_abs _ (Host.reduce_andi_all _ _ _ _ _ h0.1 i), fun k f => ?_⟩
  obtain ⟨u, hu⟩ := real_of_abs _ (Host.reduce_andi_all _ _ _ _ _ h0.2 (ix3 0 k f))
  refine ⟨u, Eq.trans ?_ hu⟩
  pointwise

end Cert.Pre
-- ==== Proof.LayerNorm.lean ====
/- The layer norm of one row, as both the kernels and the references compute it over the extended reals. -/
module

public import Idealize.ShloMosaic.Lib.Pipeline.ValueKit

@[expose] public section

noncomputable section

namespace Cert.LayerNorm

open Idealize.ShloMosaic

/-- The number of entries of a row, as the literal both programs divide by. -/
abbrev width : EReal := Ideal.ofBits .f32 0x44800000#32
/-- The small constant added to the variance, as the literal both programs hold. -/
abbrev eps : EReal := Ideal.ofBits .f32 0x3727C5AC#32
/-- The residual's scale, as the literal both programs hold. -/
abbrev alpha : EReal := Ideal.ofBits .f32 0x3F9837F0#32

/-- A row's mean. -/
def mean (y : Fin 1024 → EReal) : EReal := Ideal.div (∑ k, y k) width

/-- A row's variance: the mean of the squared deviations. -/
def variance (y : Fin 1024 → EReal) : EReal := Ideal.div (∑ k, (y k - mean y) * (y k - mean y)) width

/-- Entry `j` of the normalized row, scaled by `g` and shifted by `b`. -/
def normed (y : Fin 1024 → EReal) (g b : EReal) (j : Fin 1024) : EReal :=
  (y j - mean y) * Ideal.rsqrt (variance y + eps) * g + b

end Cert.LayerNorm

end
-- ==== Proof.MergeMath.lean ====
/- The merge of the two mixers as one formula per row and column, which the kernel's block and the reference both equal. -/
module

public import proofs.«01_k».proof.Proof.LayerNorm

@[expose] public section

noncomputable section

namespace Cert.MergeMath

open Idealize.ShloMosaic Cert.LayerNorm

/-- Column `j` of the gated sum of the two branches of one token: the gates times the branch projections. -/
def gated (ya pm : Fin 512 → EReal) (ga gp : Fin 1024 → EReal) (wa wp : Fin 512 → Fin 1024 → EReal) (k : Fin 1024) : EReal :=
  ga k * (∑ i, ya i * wa i k) + gp k * (∑ i, pm i * wp i k)

/-- Column `j` of the residual row before the norm: the scaled input plus the output projection of the gated sum. -/
def resid (x : Fin 1024 → EReal) (ya pm : Fin 512 → EReal) (ga gp : Fin 1024 → EReal) (wa wp : Fin 512 → Fin 1024 → EReal)
    (wo : Fin 1024 → Fin 1024 → EReal) (j : Fin 1024) : EReal :=
  alpha * x j + ∑ k, gated ya pm ga gp wa wp k * wo k j

end Cert.MergeMath

end
-- ==== Proof.MergeKernel.lean ====
/- The merge kernel's block read at an index: the layer norm of the residual row of the block. -/
module

public import proofs.«01_k».proof.Proof.MergeMath
public import proofs.«01_k».proof.Proof.Gen.MergeIdeal.Frame

@[expose] public section

set_option maxRecDepth 16384

noncomputable section

namespace Cert.MergeIdeal.Hand

open Cert.MergeIdeal Cert.MergeIdeal.Gen Idealize.ShloMosaic Cert.LayerNorm Cert.MergeMath

variable (x0 : FVec Ideal S1x512x1024 .f32) (x1 x2 : FVec Ideal S1x512x512 .bf16) (x3 : FVec Ideal S1x512x2048 .bf16)
  (x4 x5 : FVec Ideal S512x1024 .bf16) (x6 : FVec Ideal S1024x1024 .bf16) (x7 x8 : FVec Ideal S1x1024 .f32)

/-- The residual row of the block's row `r`. -/
def row (r : Fin 512) (j : Fin 1024) : EReal :=
  resid (fun j => x0 (ix3 0 r j)) (fun i => x1 (ix3 0 r i)) (fun i => x2 (ix3 0 r i))
    (fun k => x3 (ix3 0 r ⟨k.val, by omega⟩)) (fun k => x3 (ix3 0 r ⟨1024 + k.val, by omega⟩))
    (fun i k => x4 (ix2 i k)) (fun i k => x5 (ix2 i k)) (fun k j => x6 (ix2 k j)) j

/-- The body's residual row is `row`. -/
theorem resid_apply (r : Fin 512) (j : Fin 1024) :
    k0_pay2 (F := Ideal) (View.ld x1 r0_0) (View.ld x4 r0_1) (View.ld x2 r0_0) (View.ld x5 r0_1) (View.ld x3 r0_2) (View.ld x3 r0_3) (View.ld x6 r0_4) (View.ld x0 r0_5) (ix2 r j)
      = row x0 x1 x2 x3 x4 x5 x6 r j := by
  unfold row resid gated
  pointwise [k0_pay2, r0_0, r0_1, r0_2, r0_3, r0_4, r0_5]

/-- The block the body leaves, at an index, is the layer norm of the residual row there. -/
theorem out_apply (r : Fin 512) (j : Fin 1024) :
    out0_9 (F := Ideal) x0 x1 x2 x3 x4 x5 x6 x7 x8 (ix3 0 r j) = normed (row x0 x1 x2 x3 x4 x5 x6 r) (x7 (ix2 0 j)) (x8 (ix2 0 j)) j := by
  have hrow := resid_apply x0 x1 x2 x3 x4 x5 x6 r
  unfold out0_9
  unfold r0_5; rw [View.canon_cons_unit_lit _ _ _ (by decide)]
  generalize k0_pay2 (F := Ideal) _ _ _ _ _ _ _ _ = Y at hrow ⊢
  generalize row x0 x1 x2 x3 x4 x5 x6 r = y at hrow ⊢
  unfold normed variance mean
  pointwise [k0_pay1, k0_pay3, r0_6, hrow]

end Cert.MergeIdeal.Hand

end
-- ==== Proof.MergeRef.lean ====
/- The merge's reference read at an index: the layer norm of the residual row. -/
module

public import proofs.«01_k».proof.Proof.MergeMath
public import proofs.«01_k».proof.Proof.Gen.MergeRefIdeal.Read

@[expose] public section

set_option maxRecDepth 16384

noncomputable section

namespace Cert.MergeRefIdeal.Hand

open Cert.MergeRefIdeal Cert.MergeRefIdeal.Read Idealize.ShloMosaic Cert.LayerNorm Cert.MergeMath

variable (x0 : FVec Ideal S8x2048x1024 .f32) (x1 x2 : FVec Ideal S8x2048x512 .bf16) (x3 : FVec Ideal S8x2048x2048 .bf16)
  (x4 x5 : FVec Ideal S1x512x1024 .f32) (x6 : FVec Ideal S1x1024x1024 .f32) (x7 x8 : FVec Ideal S1x1024 .f32)

/-- The residual row of token `(b, s)`. -/
def row (b : Fin 8) (s : Fin 2048) (j : Fin 1024) : EReal :=
  resid (fun j => x0 (ix3 b s j)) (fun i => x1 (ix3 b s i)) (fun i => x2 (ix3 b s i))
    (fun k => x3 (ix3 b s ⟨k.val, by omega⟩)) (fun k => x3 (ix3 b s ⟨1024 + k.val, by omega⟩))
    (fun i k => x4 (ix3 0 i k)) (fun i k => x5 (ix3 0 i k)) (fun k j => x6 (ix3 0 k j)) j

/-- The reference's residual row is `row`. -/
theorem resid_apply (b : Fin 8) (s : Fin 2048) (j : Fin 1024) :
    val_main_v17 (F := Ideal) x0 x1 x2 x3 x4 x5 x6 (ix3 b s j) = row x0 x1 x2 x3 x4 x5 x6 b s j := by
  unfold row resid gated
  pointwise [val_main_v17, val_main_v16, val_main_v15, val_main_cst, val_main_v14, val_main_v13, val_main_v12, val_main_v11, val_main_v10, val_main_v9,
    val_main_v8, val_main_v7, val_main_v6, val_main_v5, val_main_v4, val_main_v3, val_main_v2, val_main_v1, val_main_v0]

/-- The reference's result at an index is the layer norm of the residual row there. -/
theorem result_apply (b : Fin 8) (s : Fin 2048) (j : Fin 1024) :
    val_main_v43 (F := Ideal) x0 x1 x2 x3 x4 x5 x6 x7 x8 (ix3 b s j)
      = normed (row x0 x1 x2 x3 x4 x5 x6 b s) (x7 (ix2 0 j)) (x8 (ix2 0 j)) j := by
  have hrow := resid_apply x0 x1 x2 x3 x4 x5 x6 b s
  generalize row x0 x1 x2 x3 x4 x5 x6 b s = y at hrow ⊢
  unfold normed variance mean
  pointwise [val_main_v43, val_main_v42, val_main_v41, val_main_v40, val_main_v39, val_main_v38, val_main_v37, val_main_v36, val_main_v35,
    val_main_v34, val_main_v33, val_main_cst_4, val_main_v32, val_main_v31, val_main_v30, val_main_v29, val_main_cst_3, val_main_v28, val_main_v27,
    val_main_cst_2, val_main_v26, val_main_v25, val_main_v24, val_main_v23, val_main_v22, val_main_cst_1, val_main_v21, val_main_v20, val_main_cst_0,
    val_main_v19, val_main_v18, hrow]

end Cert.MergeRefIdeal.Hand

end
-- ==== Proof.MergeValue.lean ====
/- The merge's result array after the kernel's run is the reference's result of the same arguments. -/
module

public import proofs.«01_k».proof.Proof.MergeKernel
public import proofs.«01_k».proof.Proof.MergeRef
public import proofs.«01_k».proof.Proof.Gen.MergeIdeal.Value

@[expose] public section

set_option maxRecDepth 16384

noncomputable section

namespace Cert.MergeIdeal.Hand

open Cert.MergeIdeal Cert.MergeIdeal.Gen Idealize.ShloMosaic Idealize.ShloMosaic.TcCoe Idealize.SL.Sem Cert.LayerNorm Cert.MergeMath
open Idealize.ShloMosaic.Pipeline (Dat)

variable (m : (ℓ : Loc nD τ sig) → Buf (Elt Ideal) ℓ)

/-- Where each window's block sits at grid point `t`. -/
theorem idx_val : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![0, 0]
    ∧ win0_5.index t = ![0, 0] ∧ win0_6.index t = ![0, 0] ∧ win0_7.index t = ![0, 0] ∧ win0_8.index t = ![0, 0]
    ∧ win0_9.index t = ![t.val / 4, t.val % 4, 0] :=
  (by decide +kernel : ∀ t : Fin grid0.N, _)

/-- What point `t` stores at a row and column of its block is the reference's entry where the block places them. -/
theorem point (c : Dev nD) (t : Fin cfg0.N) (r : Fin 512) (j : Fin 1024) (b : Fin 8) (s : Fin 2048) (hb : b.val = t.val / 4) (hs : s.val = t.val % 4 * 512 + r.val) :
    out0_9 (F := Ideal) (iblk m c 0 t) (iblk m c 1 t) (iblk m c 2 t) (iblk m c 3 t) (iblk m c 4 t) (iblk m c 5 t) (iblk m c 6 t) (iblk m c 7 t) (iblk m c 8 t) (ix3 0 r j)
      = Cert.MergeRefIdeal.Read.val_main_v43 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (ix3 b s j) := by
  refine (out_apply _ _ _ _ _ _ _ _ _ r j).trans ?_
  refine Eq.trans ?_ (Cert.MergeRefIdeal.Hand.result_apply _ _ _ _ _ _ _ _ _ b s j).symm
  unfold row Cert.MergeRefIdeal.Hand.row
  blk_point [iblk, V, idx_val t]

/-- The result array after the run. -/
theorem final (c : Dev nD) : (dats m 0 c).arrAt 9 (cfgs 0).N
      = Cert.MergeRefIdeal.Read.val_main_v43 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) := by
  refine (dats m 0 c).arrAt_eq_of_covers 9 _ (by decide +kernel) fun t _ y => ?_
  blk_simp
  rw [after0_9]
  have hN : t.val < 32 := lt_of_lt_of_eq t.isLt N_0
  let r : Fin 512 := ⟨(y 1).val, (y 1).isLt⟩
  let j : Fin 1024 := ⟨(y 2).val, (y 2).isLt⟩
  have hr : r.val < 512 := r.isLt
  have ey : y = ix3 (0 : Fin 1) r j := by
    blk_ext <;> rfl
  have e : (win0_9.blk t).view.emb y = ix3 (⟨t.val / 4, by omega⟩ : Fin 8) (⟨t.val % 4 * 512 + r.val, by omega⟩ : Fin 2048) j := by
    blk_ext [idx_val t] <;> rfl
  rw [e]
  exact (congrArg _ ey).trans (point m c t r j _ _ rfl rfl)

end Cert.MergeIdeal.Hand

end
-- ==== Proof.FfnRead.lean ====
/- Reads of the feed-forward kernel's two scratch buffers, given what was stored there. -/
module

public import proofs.«01_k».proof.Proof.LayerNorm
public import proofs.«01_k».proof.Proof.Gen.FfnIdeal.Frame

@[expose] public section

set_option maxRecDepth 16384

noncomputable section

namespace Cert.FfnIdeal.Hand

open Cert.FfnIdeal Cert.FfnIdeal.Gen Idealize.ShloMosaic

/-- The rows `512` of `A`, moved down by `back`, with the last rows of the eight of `H` above them. -/
def window (back : Nat) (hb : back ≤ 8) (A : FVec Ideal S512x256 .f32) (H : FVec Ideal S8x256 .f32) : FVec Ideal S512x256 .f32 := fun j =>
  if h : back ≤ (j 0).val then A (ix2 ⟨(j 0).val - back, by have : (j 0).val < 512 := (j 0).isLt; omega⟩ (j 1))
  else H (ix2 ⟨8 - back + (j 0).val, by omega⟩ (j 1))

/-- The last eight rows of `A`. -/
def tail (A : FVec Ideal S512x256 .f32) : FVec Ideal S8x256 .f32 := fun j =>
  A (ix2 ⟨504 + (j 0).val, by have : (j 0).val < 8 := (j 0).isLt; omega⟩ (j 1))

/-- The newest store's payload, read at an index the store covers. -/
theorem canon_at {s : Shape} {e : EltTy} (r : Rect s) (w : r.shape.Idx → Elt Ideal e) (L : List (View.Piece (Elt Ideal) s e)) (y : s.Idx)
    (x : r.shape.Idx) (h : y = r.emb x) : View.canon (⟨r, w⟩ :: L) y = w x := by
  subst h; exact View.canon_cons_emb r w L x

/-- The row buffer with `A` stored below `H` read from row `8 - back` is the window `back` rows back. -/
theorem read_window (v : Memref sig .tc .vmem S520x256 .f32) (off : Nat) (hoff : off ≤ 8) (A : FVec Ideal S512x256 .f32) (H : FVec Ideal S8x256 .f32)
    (L : List (View.Piece (Elt Ideal) S520x256 .f32)) (inb8 inb0 inb) :
    v.view.readCov (Val := Elt Ideal) (⟨Rect.unit (s := S520x256) ![8, 0] ![512, 256] inb8, A⟩ :: ⟨Rect.unit (s := S520x256) ![0, 0] ![8, 256] inb0, H⟩ :: L)
        (Rect.unit (s := S520x256) ![off, 0] ![512, 256] inb).toLoadRect
      = window (8 - off) (by omega) A H := by
  refine (View.readCov_eq_canon' _ _ _).trans (funext fun j => ?_)
  have h0 : (j 0).val < 512 := (j 0).isLt
  have h1 : (j 1).val < 256 := (j 1).isLt
  unfold window
  split
  · next h =>
    refine canon_at (e := .f32) (Rect.unit (s := S520x256) ![8, 0] ![512, 256] inb8) A _ _ (ix2 ⟨(j 0).val - (8 - off), by omega⟩ (j 1)) ?_
    funext a
    apply Fin.ext
    fin_cases a
    · show off + 1 * (j 0).val = 8 + 1 * ((j 0).val - (8 - off)); omega
    · show 0 + 1 * (j 1).val = 0 + 1 * (j 1).val; rfl
  · next h =>
    rw [View.canon_cons_of_not_mem]
    · refine canon_at (e := .f32) (Rect.unit (s := S520x256) ![0, 0] ![8, 256] inb0) H _ _ (ix2 ⟨8 - (8 - off) + (j 0).val, by omega⟩ (j 1)) ?_
      funext a
      apply Fin.ext
      fin_cases a
      · show off + 1 * (j 0).val = 0 + 1 * (8 - (8 - off) + (j 0).val); omega
      · show 0 + 1 * (j 1).val = 0 + 1 * (j 1).val; rfl
    · intro hm
      have := ((Rect.mem_set_unit (s := S520x256) (inb := inb8)).mp hm 0).1
      have e : 8 ≤ off + 1 * (j 0).val := this
      omega

/-- Read from row 512, it is the last eight rows of `A`. -/
theorem read_tail (v : Memref sig .tc .vmem S520x256 .f32) (A : FVec Ideal S512x256 .f32)
    (L : List (View.Piece (Elt Ideal) S520x256 .f32)) (inb8 inb) :
    v.view.readCov (Val := Elt Ideal) (⟨Rect.unit (s := S520x256) ![8, 0] ![512, 256] inb8, A⟩ :: L)
        (Rect.unit (s := S520x256) ![512, 0] ![8, 256] inb).toLoadRect
      = tail A := by
  refine (View.readCov_eq_canon' _ _ _).trans (funext fun j => ?_)
  have h0 : (j 0).val < 8 := (j 0).isLt
  refine canon_at (e := .f32) (Rect.unit (s := S520x256) ![8, 0] ![512, 256] inb8) A _ _ (ix2 ⟨504 + (j 0).val, by omega⟩ (j 1)) ?_
  funext a
  apply Fin.ext
  fin_cases a
  · show 512 + 1 * (j 0).val = 8 + 1 * (504 + (j 0).val); omega
  · show 0 + 1 * (j 1).val = 0 + 1 * (j 1).val; rfl

/-- A read of the carried rows at other columns than the last store's reads what was there before. -/
theorem read_carry (v : Memref sig .tc .vmem S8x2816 .f32) (o o' : Nat) (H : FVec Ideal S8x256 .f32)
    (L : List (View.Piece (Elt Ideal) S8x2816 .f32)) (inb inb') (h : o + 256 ≤ o') :
    v.view.readCov (Val := Elt Ideal) (⟨Rect.unit (s := S8x2816) ![0, o] ![8, 256] inb, H⟩ :: L)
        (Rect.unit (s := S8x2816) ![0, o'] ![8, 256] inb').toLoadRect
      = v.view.readCov (Val := Elt Ideal) L (Rect.unit (s := S8x2816) ![0, o'] ![8, 256] inb').toLoadRect :=
  View.readCov_cons_of_disjoint v.view _ _ _ (Rect.unit_disjoint (s := S8x2816) (inb := inb) (inb' := inb') 1 (Or.inl h))

/-- A read of the carried rows after one store of all of them. -/
theorem read_whole (v : Memref sig .tc .vmem S8x2816 .f32) (o' : Nat) (Z : FVec Ideal S8x2816 .f32) (inb inb') :
    v.view.readCov (Val := Elt Ideal) [⟨Rect.unit (s := S8x2816) ![0, 0] ![8, 2816] inb, Z⟩]
        (Rect.unit (s := S8x2816) ![0, o'] ![8, 256] inb').toLoadRect
      = View.ld Z (Rect.unit (s := S8x2816) ![0, o'] ![8, 256] inb') := by
  refine (View.readCov_eq_canon' _ _ _).trans (funext fun j => ?_)
  refine canon_at (e := .f32) (Rect.unit (s := S8x2816) ![0, 0] ![8, 2816] inb) Z _ _ ((Rect.unit (s := S8x2816) ![0, o'] ![8, 256] inb').idx j) ?_
  funext a
  apply Fin.ext
  fin_cases a
  · show 0 + 1 * (j 0).val = 0 + 1 * (0 + 1 * (j 0).val); omega
  · show o' + 1 * (j 1).val = 0 + 1 * (o' + 1 * (j 1).val); omega

end Cert.FfnIdeal.Hand

end
-- ==== Proof.FfnKernel.lean ====
/- The feed-forward kernel's block read at an index. -/
module

public import proofs.«01_k».proof.Proof.FfnRead

@[expose] public section

set_option maxRecDepth 16384

noncomputable section

namespace Cert.FfnIdeal.Hand

open Cert.FfnIdeal Cert.FfnIdeal.Gen Idealize.ShloMosaic Cert.LayerNorm

/-- One block of 256 hidden columns: their contribution added to the running rows `acc`. -/
def step (xb : FVec Ideal S512x1024 .bf16) (wg wu : FVec Ideal S1024x256 .bf16) (w0 w1 w2 cb : FVec Ideal S1x256 .f32) (H : FVec Ideal S8x256 .f32)
    (wd : FVec Ideal S256x1024 .bf16) (acc : FVec Ideal S512x1024 .f32) : FVec Ideal S512x1024 .f32 :=
  k0_pay63 acc (k0_pay58 xb wg) (k0_pay59 xb wu) w2 cb (window (8 - 6) (by decide) (k0_pay61 xb wg) (k0_pay60 H)) w0
    (window (8 - 7) (by decide) (k0_pay61 xb wg) (k0_pay60 H)) w1 wd

theorem inb_0 (n : Fin 11) : ∀ a, (![0, 256 * n.val] : Fin 2 → Nat) a + (![1024, 256] : Fin 2 → Nat) a ≤ S1024x2816.size a :=
  Fin.forall_fin_two.mpr ⟨by show 0 + 1024 ≤ 1024; omega, by show 256 * n.val + 256 ≤ 2816; omega⟩
theorem inb_3 (n : Fin 11) (k : Fin 3) : ∀ a, (![k.val, 256 * n.val] : Fin 2 → Nat) a + (![1, 256] : Fin 2 → Nat) a ≤ S3x2816.size a :=
  Fin.forall_fin_two.mpr ⟨by show k.val + 1 ≤ 3; omega, by show 256 * n.val + 256 ≤ 2816; omega⟩
theorem inb_1 (n : Fin 11) : ∀ a, (![0, 256 * n.val] : Fin 2 → Nat) a + (![1, 256] : Fin 2 → Nat) a ≤ S1x2816.size a :=
  Fin.forall_fin_two.mpr ⟨by show 0 + 1 ≤ 1; omega, by show 256 * n.val + 256 ≤ 2816; omega⟩
theorem inb_8 (n : Fin 11) : ∀ a, (![0, 256 * n.val] : Fin 2 → Nat) a + (![8, 256] : Fin 2 → Nat) a ≤ S8x2816.size a :=
  Fin.forall_fin_two.mpr ⟨by show 0 + 8 ≤ 8; omega, by show 256 * n.val + 256 ≤ 2816; omega⟩
theorem inb_d (n : Fin 11) : ∀ a, (![256 * n.val, 0] : Fin 2 → Nat) a + (![256, 1024] : Fin 2 → Nat) a ≤ S2816x1024.size a :=
  Fin.forall_fin_two.mpr ⟨by show 256 * n.val + 256 ≤ 2816; omega, by show 0 + 1024 ≤ 1024; omega⟩

/-- The block of hidden columns `256 n …`, taken from the whole weights and the carried rows `xs`. -/
def stepAt (xb : FVec Ideal S512x1024 .bf16) (x1 x2 : FVec Ideal S1024x2816 .bf16) (x3 : FVec Ideal S3x2816 .f32) (x4 : FVec Ideal S1x2816 .f32)
    (x5 : FVec Ideal S2816x1024 .bf16) (xs : FVec Ideal S8x2816 .f32) (n : Fin 11) (acc : FVec Ideal S512x1024 .f32) : FVec Ideal S512x1024 .f32 :=
  step xb (View.ld (Val := Elt Ideal) (e' := .bf16) x1 (Rect.unit (s := S1024x2816) ![0, 256 * n.val] ![1024, 256] (inb_0 n))) (View.ld (Val := Elt Ideal) (e' := .bf16) x2 (Rect.unit (s := S1024x2816) ![0, 256 * n.val] ![1024, 256] (inb_0 n)))
    (View.ld (Val := Elt Ideal) (e' := .f32) x3 (Rect.unit (s := S3x2816) ![0, 256 * n.val] ![1, 256] (inb_3 n 0))) (View.ld (Val := Elt Ideal) (e' := .f32) x3 (Rect.unit (s := S3x2816) ![1, 256 * n.val] ![1, 256] (inb_3 n 1)))
    (View.ld (Val := Elt Ideal) (e' := .f32) x3 (Rect.unit (s := S3x2816) ![2, 256 * n.val] ![1, 256] (inb_3 n 2))) (View.ld (Val := Elt Ideal) (e' := .f32) x4 (Rect.unit (s := S1x2816) ![0, 256 * n.val] ![1, 256] (inb_1 n)))
    (View.ld (Val := Elt Ideal) (e' := .f32) xs (Rect.unit (s := S8x2816) ![0, 256 * n.val] ![8, 256] (inb_8 n)))
    (View.ld (Val := Elt Ideal) (e' := .bf16) x5 (Rect.unit (s := S2816x1024) ![256 * n.val, 0] ![256, 1024] (inb_d n))) acc

/-- The residual and the layer norm, after the last block of hidden columns. -/
def finish (x acc : FVec Ideal S512x1024 .f32) (g b : FVec Ideal S1x1024 .f32) : FVec Ideal S1x512x1024 .f32 :=
  have cst_362 : Ideal .f32 := Scalar.ofBits .f32 0x3F9837F0#32
  have v568 : FVec Ideal S512x1024 .f32 := broadcast S512x1024 cst_362
  have v569 : FVec Ideal S512x1024 .f32 := mulf v568 x
  have v570 : FVec Ideal S512x1024 .f32 := addf v569 acc
  have v572 : FVec Ideal S1x1024 .f32 := shapeCast S1x1024 g shapeCasts_S1x1024_S1x1024
  have v575 : FVec Ideal S512 .f32 := multiReduction .add [1] S512 v570 0x00000000#32 reduces_S512x1024_S512 (.inl rfl) rfl
  have v576 : FVec Ideal S512x1 .f32 := shapeCast S512x1 v575 shapeCasts_S512_S512x1
  have cst_368 : Ideal .f32 := Scalar.ofBits .f32 0x44800000#32
  have v577 : FVec Ideal S512x1 .f32 := broadcast S512x1 cst_368
  have v578 : FVec Ideal S512x1 .f32 := divf v576 v577
  have v579 : FVec Ideal S512x1024 .f32 := broadcastTo S512x1024 v578 broadcasts_S512x1_S512x1024
  have v580 : FVec Ideal S512x1024 .f32 := subf v570 v579
  have v581 : FVec Ideal S512x1024 .f32 := mulf v580 v580
  have v582 : FVec Ideal S512 .f32 := multiReduction .add [1] S512 v581 0x00000000#32 reduces_S512x1024_S512 (.inl rfl) rfl
  have v583 : FVec Ideal S512x1 .f32 := shapeCast S512x1 v582 shapeCasts_S512_S512x1
  have cst_370 : Ideal .f32 := Scalar.ofBits .f32 0x44800000#32
  have v584 : FVec Ideal S512x1 .f32 := broadcast S512x1 cst_370
  have v585 : FVec Ideal S512x1 .f32 := divf v583 v584
  have cst_371 : Ideal .f32 := Scalar.ofBits .f32 0x3727C5AC#32
  have v586 : FVec Ideal S512x1 .f32 := broadcast S512x1 cst_371
  have v587 : FVec Ideal S512x1 .f32 := addf v585 v586
  have v588 : FVec Ideal S512x1 .f32 := rsqrt v587
  have v589 : FVec Ideal S512x1024 .f32 := broadcastTo S512x1024 v588 broadcasts_S512x1_S512x1024
  have v590 : FVec Ideal S512x1024 .f32 := mulf v580 v589
  have v591 : FVec Ideal S512x1024 .f32 := broadcastTo S512x1024 v572 broadcasts_S1x1024_S512x1024
  have v592 : FVec Ideal S512x1024 .f32 := mulf v590 v591
  k0_pay1 v592 (k0_pay85 b)

/-- The block stored, from the block's arguments and the carried rows. -/
def block (x0 : FVec Ideal S1x512x1024 .f32) (x1 x2 : FVec Ideal S1024x2816 .bf16) (x3 : FVec Ideal S3x2816 .f32) (x4 : FVec Ideal S1x2816 .f32)
    (x5 : FVec Ideal S2816x1024 .bf16) (x6 x7 : FVec Ideal S1x1024 .f32) (xs : FVec Ideal S8x2816 .f32) : FVec Ideal S1x512x1024 .f32 :=
  finish (k0_pay3 x0) (stepAt (k0_pay4 x0) x1 x2 x3 x4 x5 xs 10 (stepAt (k0_pay4 x0) x1 x2 x3 x4 x5 xs 9 (stepAt (k0_pay4 x0) x1 x2 x3 x4 x5 xs 8 (stepAt (k0_pay4 x0) x1 x2 x3 x4 x5 xs 7 (stepAt (k0_pay4 x0) x1 x2 x3 x4 x5 xs 6 (stepAt (k0_pay4 x0) x1 x2 x3 x4 x5 xs 5 (stepAt (k0_pay4 x0) x1 x2 x3 x4 x5 xs 4 (stepAt (k0_pay4 x0) x1 x2 x3 x4 x5 xs 3 (stepAt (k0_pay4 x0) x1 x2 x3 x4 x5 xs 2 (stepAt (k0_pay4 x0) x1 x2 x3 x4 x5 xs 1 (stepAt (k0_pay4 x0) x1 x2 x3 x4 x5 xs 0 k0_pay5))))))))))) x6 x7

variable (c : Dev nD) (i : grid0.Coords) (arg2 : Memref sig .tc .vmem S1x512x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x256 .f32) (harg11 : arg11.IsWhole) (arg12 : Memref sig .tc .vmem S8x2816 .f32) (harg12 : arg12.IsWhole)
  (x0 : Vec Ideal S1x512x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32)

theorem out_A (hc0 : cond0_0 i) (j) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 j = block x0 x1 x2 x3 x4 x5 x6 x7 k0_pay2 j := by
  frame_out
  simp (disch := decide) only [read_window, read_tail, read_carry, read_whole]
  rfl

theorem out_B (hc0 : ¬cond0_0 i) (xs : Vec Ideal S8x2816 .f32) (j) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs j = block x0 x1 x2 x3 x4 x5 x6 x7 xs j := by
  frame_out
  simp (disch := decide) only [read_window, read_tail, read_carry, read_whole]
  rfl

end Cert.FfnIdeal.Hand

end
-- ==== Proof.FfnMath.lean ====
/- The feed-forward sub-layer's arithmetic: one hidden entry from the gate's three rows, the short convolution and the linear part. -/
module

public import proofs.«01_k».proof.Proof.LayerNorm

@[expose] public section

noncomputable section

namespace Cert.FfnMath

open Idealize.ShloMosaic

/-- The literal one half. -/
abbrev half : EReal := Ideal.ofBits .f32 0x3F000000#32
/-- The literal for the square root of one half. -/
abbrev root : EReal := Ideal.ofBits .f32 0x3F3504F3#32

/-- The convolution's entry: the gate's entry `a`, one row back `a1`, two rows back `a2`, the taps and the bias. -/
def conv (a a1 a2 w0 w1 w2 cb : EReal) : EReal := a * w2 + cb + a2 * w0 + a1 * w1

/-- The hidden entry: the convolution's exact activation times the linear part `u`. -/
def hid (a a1 a2 w0 w1 w2 cb u : EReal) : EReal :=
  half * conv a a1 a2 w0 w1 w2 cb * (1 + Ideal.erf (conv a a1 a2 w0 w1 w2 cb * root)) * u

end Cert.FfnMath

end
-- ==== Proof.FfnBlock.lean ====
/- The feed-forward kernel's block and carried rows read at an index. -/
module

public import proofs.«01_k».proof.Proof.FfnKernel
public import proofs.«01_k».proof.Proof.FfnMath

@[expose] public section

set_option maxRecDepth 16384

noncomputable section

namespace Cert.FfnIdeal.Hand

open Cert.FfnIdeal Cert.FfnIdeal.Gen Idealize.ShloMosaic Cert.LayerNorm Cert.FfnMath

/-- A block's linear product at an index. -/
theorem gate_apply (xb : FVec Ideal S512x1024 .bf16) (wg : FVec Ideal S1024x256 .bf16) (r : Fin 512) (d : Fin 256) :
    k0_pay58 (F := Ideal) xb wg (ix2 r d) = ∑ k : Fin 1024, xb (ix2 r k) * wg (ix2 k d) := by
  pointwise [k0_pay58]

theorem up_apply (xb : FVec Ideal S512x1024 .bf16) (wu : FVec Ideal S1024x256 .bf16) (r : Fin 512) (d : Fin 256) :
    k0_pay59 (F := Ideal) xb wu (ix2 r d) = ∑ k : Fin 1024, xb (ix2 r k) * wu (ix2 k d) := by
  pointwise [k0_pay59]

theorem gate_cast (xb : FVec Ideal S512x1024 .bf16) (wg : FVec Ideal S1024x256 .bf16) (r : Fin 512) (d : Fin 256) :
    k0_pay61 (F := Ideal) xb wg (ix2 r d) = ∑ k : Fin 1024, xb (ix2 r k) * wg (ix2 k d) := by
  refine Eq.trans ?_ (gate_apply xb wg r d)
  unfold k0_pay61
  generalize k0_pay58 (F := Ideal) xb wg = G
  pointwise []

theorem halo_cast (H : FVec Ideal S8x256 .f32) (r : Fin 8) (d : Fin 256) : k0_pay60 (F := Ideal) H (ix2 r d) = H (ix2 r d) := by
  pointwise [k0_pay60]

/-- The input block's rows, as the products read them. -/
theorem input_apply (x0 : FVec Ideal S1x512x1024 .f32) (r : Fin 512) (k : Fin 1024) : k0_pay4 (F := Ideal) x0 (ix2 r k) = x0 (ix3 0 r k) := by
  pointwise [k0_pay4, k0_pay3]

/-- One block's contribution at an index. -/
theorem pay_apply (acc : FVec Ideal S512x1024 .f32) (G U W2 W1 : FVec Ideal S512x256 .f32) (w0 w1 w2 cb : FVec Ideal S1x256 .f32)
    (wd : FVec Ideal S256x1024 .bf16) (r : Fin 512) (j : Fin 1024) :
    k0_pay63 (F := Ideal) acc G U w2 cb W2 w0 W1 w1 wd (ix2 r j)
      = acc (ix2 r j) + ∑ d : Fin 256, hid (G (ix2 r d)) (W1 (ix2 r d)) (W2 (ix2 r d)) (w0 (ix2 0 d)) (w1 (ix2 0 d)) (w2 (ix2 0 d)) (cb (ix2 0 d)) (U (ix2 r d))
          * wd (ix2 d j) := by
  unfold hid conv
  pointwise [k0_pay63]
  rfl

/-- The residual and the layer norm at an index. -/
theorem finish_apply (x acc : FVec Ideal S512x1024 .f32) (g b : FVec Ideal S1x1024 .f32) (r : Fin 512) (j : Fin 1024) :
    finish x acc g b (ix3 0 r j) = normed (fun k => alpha * x (ix2 r k) + acc (ix2 r k)) (g (ix2 0 j)) (b (ix2 0 j)) j := by
  unfold normed variance mean
  pointwise [finish, k0_pay1, k0_pay85]

/-- A load of a rectangle of a matrix, at an index. -/
theorem ld_at {M N m w : Nat} {t : EltTy} (X : (⟨2, ![M, N]⟩ : Shape).Idx → Elt Ideal t) (o p : Nat) (inb) (r : Fin m) (d : Fin w) (r' : Fin M) (d' : Fin N)
    (hr : r'.val = o + r.val) (hd : d'.val = p + d.val) :
    View.ld (Val := Elt Ideal) (e' := t) X (Rect.unit (s := ⟨2, ![M, N]⟩) ![o, p] ![m, w] inb) (ix2 r d) = X (ix2 r' d') :=
  View.ld_unit_apply_of (Val := Elt Ideal) (e := t) X ![o, p] ![m, w] inb (ix2 r d) (ix2 r' d') (Fin.forall_fin_two.mpr ⟨hr, hd⟩)

variable (x0 : FVec Ideal S1x512x1024 .f32) (x1 x2 : FVec Ideal S1024x2816 .bf16) (x3 : FVec Ideal S3x2816 .f32) (x4 : FVec Ideal S1x2816 .f32)
    (x5 : FVec Ideal S2816x1024 .bf16) (x6 x7 : FVec Ideal S1x1024 .f32) (xs : FVec Ideal S8x2816 .f32)

/-- The linear product of the block's row `r` with column `f` of a weight. -/
def lin (w : FVec Ideal S1024x2816 .bf16) (r : Fin 512) (f : Fin 2816) : EReal := ∑ k : Fin 1024, x0 (ix3 0 r k) * w (ix2 k f)

/-- The gate `k` rows back: of the block, or of the carried rows. -/
def back (k : Nat) (hk : k ≤ 8) (r : Fin 512) (f : Fin 2816) : EReal :=
  if h : k ≤ r.val then lin x0 x1 ⟨r.val - k, by omega⟩ f else xs (ix2 ⟨8 - k + r.val, by omega⟩ f)

/-- One hidden column's contribution to the output's column `j`. -/
def term (r : Fin 512) (j : Fin 1024) (f : Fin 2816) : EReal :=
  hid (lin x0 x1 r f) (back x0 x1 xs 1 (by decide) r f) (back x0 x1 xs 2 (by decide) r f) (x3 (ix2 0 f)) (x3 (ix2 1 f)) (x3 (ix2 2 f)) (x4 (ix2 0 f))
    (lin x0 x2 r f) * x5 (ix2 f j)

theorem window_apply (k : Nat) (hk : k ≤ 8) (n : Fin 11) (r : Fin 512) (d : Fin 256) (f : Fin 2816) (hf : f.val = 256 * n.val + d.val) :
    window k hk (k0_pay61 (F := Ideal) (k0_pay4 x0) (View.ld (Val := Elt Ideal) (e' := .bf16) x1 (Rect.unit (s := S1024x2816) ![0, 256 * n.val] ![1024, 256] (inb_0 n))))
        (k0_pay60 (F := Ideal) (View.ld (Val := Elt Ideal) (e' := .f32) xs (Rect.unit (s := S8x2816) ![0, 256 * n.val] ![8, 256] (inb_8 n)))) (ix2 r d)
      = back x0 x1 xs k hk r f := by
  show (if h : k ≤ r.val then _ else _) = _
  unfold back lin
  split
  · next h =>
    refine (gate_cast _ _ _ _).trans (Finset.sum_congr rfl fun i _ => ?_)
    exact congrArg₂ _ (input_apply x0 _ i) (ld_at (t := .bf16) x1 _ _ _ i d i f (Nat.zero_add _).symm hf)
  · exact (halo_cast _ _ _).trans (ld_at (t := .f32) xs _ _ _ _ d _ f (Nat.zero_add _).symm hf)

theorem stepAt_apply (n : Fin 11) (acc : FVec Ideal S512x1024 .f32) (r : Fin 512) (j : Fin 1024) :
    stepAt (k0_pay4 x0) x1 x2 x3 x4 x5 xs n acc (ix2 r j)
      = acc (ix2 r j) + ∑ d : Fin 256, term x0 x1 x2 x3 x4 x5 xs r j ⟨256 * n.val + d.val, by omega⟩ := by
  unfold stepAt step
  refine (pay_apply _ _ _ _ _ _ _ _ _ _ r j).trans (congrArg _ (Finset.sum_congr rfl fun d _ => ?_))
  unfold term
  rw [window_apply x0 x1 xs (8 - 6) (by decide) n r d ⟨256 * n.val + d.val, by omega⟩ rfl, window_apply x0 x1 xs (8 - 7) (by decide) n r d ⟨256 * n.val + d.val, by omega⟩ rfl,
    gate_apply, up_apply, ld_at (t := .f32) x3 0 _ _ 0 d 0 ⟨256 * n.val + d.val, by omega⟩ rfl rfl, ld_at (t := .f32) x3 1 _ _ 0 d 1 ⟨256 * n.val + d.val, by omega⟩ rfl rfl,
    ld_at (t := .f32) x3 2 _ _ 0 d 2 ⟨256 * n.val + d.val, by omega⟩ rfl rfl, ld_at (t := .f32) x4 0 _ _ 0 d 0 ⟨256 * n.val + d.val, by omega⟩ rfl rfl,
    ld_at (t := .bf16) x5 _ 0 _ d j ⟨256 * n.val + d.val, by omega⟩ j rfl (Nat.zero_add _).symm]
  have hl : ∀ w : FVec Ideal S1024x2816 .bf16, (∑ k : Fin 1024, k0_pay4 (F := Ideal) x0 (ix2 r k)
        * View.ld (Val := Elt Ideal) (e' := .bf16) w (Rect.unit (s := S1024x2816) ![0, 256 * n.val] ![1024, 256] (inb_0 n)) (ix2 k d))
      = lin x0 w r ⟨256 * n.val + d.val, by omega⟩ := fun w =>
    Finset.sum_congr rfl fun i _ => congrArg₂ _ (input_apply x0 r i) (ld_at (t := .bf16) w _ _ _ i d i _ (Nat.zero_add _).symm rfl)
  rw [hl x1, hl x2]

/-- The first accumulator is zero. -/
theorem zero_apply (r : Fin 512) (j : Fin 1024) : k0_pay5 (F := Ideal) (ix2 r j) = 0 := by
  pointwise [k0_pay5]

/-- A sum over the hidden columns, by blocks of 256. -/
theorem sum_blocks (g : Fin 2816 → EReal) : ∑ f, g f = ∑ n : Fin 11, ∑ d : Fin 256, g ⟨256 * n.val + d.val, by omega⟩ := by
  rw [← Fintype.sum_prod_type', ← (finProdFinEquiv (m := 11) (n := 256)).sum_comp]
  exact Finset.sum_congr rfl fun p _ => congrArg g (Fin.ext (by simp [finProdFinEquiv, Nat.add_comm]))

/-- The residual row before the norm. -/
def row (r : Fin 512) (j : Fin 1024) : EReal := alpha * x0 (ix3 0 r j) + ∑ f, term x0 x1 x2 x3 x4 x5 xs r j f

theorem x_apply (r : Fin 512) (k : Fin 1024) : k0_pay3 (F := Ideal) x0 (ix2 r k) = x0 (ix3 0 r k) := by
  pointwise [k0_pay3]

/-- The stored block at an index. -/
theorem block_apply (r : Fin 512) (j : Fin 1024) :
    block x0 x1 x2 x3 x4 x5 x6 x7 xs (ix3 0 r j) = normed (row x0 x1 x2 x3 x4 x5 xs r) (x6 (ix2 0 j)) (x7 (ix2 0 j)) j := by
  unfold block
  rw [finish_apply]
  congr 1
  funext k
  unfold row
  rw [x_apply, sum_blocks]
  congr 1
  simp only [stepAt_apply, zero_apply, Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3), Fin.sum_univ_castSucc (n := 2),
    Fin.sum_univ_castSucc (n := 1), Fin.sum_univ_castSucc (n := 0), Finset.univ_eq_empty, Finset.sum_empty]
  rfl

end Cert.FfnIdeal.Hand

end
-- ==== Proof.FfnCarry.lean ====
/- The rows the feed-forward kernel carries to its next block, read at an index. -/
module

public import proofs.«01_k».proof.Proof.FfnBlock

@[expose] public section

set_option maxRecDepth 16384

noncomputable section

namespace Cert.FfnIdeal.Hand

open Cert.FfnIdeal Cert.FfnIdeal.Gen Idealize.ShloMosaic

/-- The carried rows after a block of columns is stored: the stored block's columns hold `G`, the others what they held. -/
theorem canon_cols (o : Nat) (w : FVec Ideal S8x256 .f32) (L : List (View.Piece (Elt Ideal) S8x2816 .f32)) (inb) (G : Fin 8 → Fin 2816 → EReal)
    (r : Fin 8) (f : Fin 2816) (hf : f.val < o + 256) (hw : ∀ d : Fin 256, f.val = o + d.val → w (ix2 r d) = G r f)
    (hL : f.val < o → View.canon L (ix2 r f) = G r f) :
    View.canon (Val := Elt Ideal) (⟨Rect.unit (s := S8x2816) ![0, o] ![8, 256] inb, w⟩ :: L) (ix2 r f) = G r f := by
  by_cases h : f.val < o
  · rw [View.canon_cons_of_not_mem]
    · exact hL h
    · intro hm
      have e : o ≤ f.val := ((Rect.mem_set_unit (s := S8x2816) (inb := inb)).mp hm 1).1
      omega
  · refine (canon_at (e := .f32) (Rect.unit (s := S8x2816) ![0, o] ![8, 256] inb) w L _ (ix2 r ⟨f.val - o, by omega⟩) ?_).trans (hw ⟨f.val - o, by omega⟩ ?_)
    · funext a
      apply Fin.ext
      fin_cases a
      · show r.val = 0 + 1 * r.val; omega
      · show f.val = o + 1 * (f.val - o); omega
    · show f.val = o + (f.val - o); omega

/-- What the body stores of the carried rows: the gate's last eight rows. -/
theorem tail_apply (x0 : FVec Ideal S1x512x1024 .f32) (x1 : FVec Ideal S1024x2816 .bf16) (o : Nat) (inb) (r : Fin 8) (d : Fin 256) (f : Fin 2816) (hf : f.val = o + d.val) :
    k0_pay62 (F := Ideal) (tail (k0_pay61 (F := Ideal) (k0_pay4 x0) (View.ld (Val := Elt Ideal) (e' := .bf16) x1 (Rect.unit (s := S1024x2816) ![0, o] ![1024, 256] inb)))) (ix2 r d)
      = lin x0 x1 ⟨504 + r.val, by omega⟩ f := by
  refine (halo_cast _ r d).trans ?_
  refine (gate_cast _ _ _ _).trans (Finset.sum_congr rfl fun i _ => ?_)
  exact congrArg₂ _ (input_apply x0 _ i) (ld_at (t := .bf16) x1 _ _ _ i d i f (Nat.zero_add _).symm hf)

variable (c : Dev nD) (i : grid0.Coords) (arg2 : Memref sig .tc .vmem S1x512x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x256 .f32) (harg11 : arg11.IsWhole) (arg12 : Memref sig .tc .vmem S8x2816 .f32) (harg12 : arg12.IsWhole)
  (x0 : Vec Ideal S1x512x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32)

theorem carry_A (hc0 : cond0_0 i) (r : Fin 8) (f : Fin 2816) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 r f) = lin x0 x1 ⟨504 + r.val, by omega⟩ f := by
  frame_out
  simp (disch := decide) only [read_window, read_tail, read_carry, read_whole]
  iterate 11
    refine canon_cols _ _ _ _ (fun r f => lin x0 x1 ⟨504 + r.val, by omega⟩ f) r f (by omega) (fun d hd => tail_apply x0 x1 _ _ r d f hd) fun h => ?_
  exact absurd h (Nat.not_lt_zero _)

theorem carry_B (hc0 : ¬cond0_0 i) (xs : Vec Ideal S8x2816 .f32) (r : Fin 8) (f : Fin 2816) :
    sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs (ix2 r f) = lin x0 x1 ⟨504 + r.val, by omega⟩ f := by
  frame_out
  simp (disch := decide) only [read_window, read_tail, read_carry, read_whole]
  iterate 11
    refine canon_cols _ _ _ _ (fun r f => lin x0 x1 ⟨504 + r.val, by omega⟩ f) r f (by omega) (fun d hd => tail_apply x0 x1 _ _ r d f hd) fun h => ?_
  exact absurd h (Nat.not_lt_zero _)

end Cert.FfnIdeal.Hand

end
-- ==== Proof.FfnRef.lean ====
/- The feed-forward reference read at an index: the layer norm of the residual row. -/
module

public import proofs.«01_k».proof.Proof.FfnMath
public import proofs.«01_k».proof.Proof.Gen.FfnRefIdeal.Read

@[expose] public section

set_option maxRecDepth 16384

noncomputable section

namespace Cert.FfnRefIdeal.Hand

open Cert.FfnRefIdeal Cert.FfnRefIdeal.Read Idealize.ShloMosaic Cert.LayerNorm Cert.FfnMath

variable (x0 : FVec Ideal S8x2048x1024 .f32) (x1 x2 : FVec Ideal S1x1024x2816 .f32) (x3 : FVec Ideal S1x3x2816 .f32) (x4 : FVec Ideal S1x2816 .f32)
  (x5 : FVec Ideal S1x2816x1024 .f32) (x6 x7 : FVec Ideal S1x1024 .f32)

/-- The linear product of token `(b, s)` with column `f` of a weight. -/
def lin (w : FVec Ideal S1x1024x2816 .f32) (b : Fin 8) (s : Fin 2048) (f : Fin 2816) : EReal := ∑ k : Fin 1024, x0 (ix3 b s k) * w (ix3 0 k f)

/-- The gate `k` tokens back, zero before the first token. -/
def back (k : Nat) (b : Fin 8) (s : Fin 2048) (f : Fin 2816) : EReal :=
  if h : k ≤ s.val then lin x0 x1 b ⟨s.val - k, by omega⟩ f else 0

/-- One hidden column's contribution to the output's column `j`. -/
def term (b : Fin 8) (s : Fin 2048) (j : Fin 1024) (f : Fin 2816) : EReal :=
  hid (lin x0 x1 b s f) (back x0 x1 1 b s f) (back x0 x1 2 b s f) (x3 (ix3 0 0 f)) (x3 (ix3 0 1 f)) (x3 (ix3 0 2 f)) (x4 (ix2 0 f))
    (lin x0 x2 b s f) * x5 (ix3 0 f j)

/-- The residual row of token `(b, s)`. -/
def row (b : Fin 8) (s : Fin 2048) (j : Fin 1024) : EReal := alpha * x0 (ix3 b s j) + ∑ f, term x0 x1 x2 x3 x4 x5 b s j f

theorem gate_apply (b : Fin 8) (s : Fin 2048) (f : Fin 2816) : val_main_v1 (F := Ideal) x0 x1 (ix3 b s f) = lin x0 x1 b s f := by
  unfold lin
  pointwise [val_main_v1, val_main_v0]

theorem up_apply (b : Fin 8) (s : Fin 2048) (f : Fin 2816) : val_main_v3 (F := Ideal) x0 x2 (ix3 b s f) = lin x0 x2 b s f := by
  unfold lin
  pointwise [val_main_v3, val_main_v2]

/-- The padded gate. -/
theorem pad_apply (b : Fin 8) (p : Fin 2050) (f : Fin 2816) :
    val_main_v4 (F := Ideal) x0 x1 (ix3 b p f) = if h : 2 ≤ p.val then lin x0 x1 b ⟨p.val - 2, by omega⟩ f else 0 := by
  have hg := gate_apply x0 x1 b
  unfold val_main_v4
  generalize val_main_v1 (F := Ideal) x0 x1 = G at hg ⊢
  pointwise [val_main_call0_v0, val_main_c, hg]
  have hz : (FloatOps.sitofp .f32 (0#32) : Ideal .f32) = (0 : EReal) := by
    show (((0#32 : BitVec 32).toInt : ℝ) : EReal) = 0
    simp
  rw [hz]
  by_cases h : 2 ≤ p.val
  · rw [dif_pos h, dif_pos ⟨h, by omega⟩]
  · rw [dif_neg h, dif_neg fun hh => h hh.1]

theorem back2_apply (b : Fin 8) (s : Fin 2048) (f : Fin 2816) : val_main_v5 (F := Ideal) x0 x1 (ix3 b s f) = back x0 x1 2 b s f := by
  have hp := pad_apply x0 x1 b
  unfold back val_main_v5
  generalize val_main_v4 (F := Ideal) x0 x1 = G at hp ⊢
  pointwise [hp]

theorem back1_apply (b : Fin 8) (s : Fin 2048) (f : Fin 2816) : val_main_v14 (F := Ideal) x0 x1 (ix3 b s f) = back x0 x1 1 b s f := by
  have hp := pad_apply x0 x1 b
  unfold back val_main_v14
  generalize val_main_v4 (F := Ideal) x0 x1 = G at hp ⊢
  pointwise [hp]
  by_cases h : 1 ≤ s.val
  · rw [dif_pos h, dif_pos (show 2 ≤ 1 + s.val by omega)]
    exact congrArg (fun q => lin x0 x1 b q f) (Fin.ext (show 1 + s.val - 2 = s.val - 1 by omega))
  · rw [dif_neg h, dif_neg (show ¬2 ≤ 1 + s.val by omega)]

theorem back0_apply (b : Fin 8) (s : Fin 2048) (f : Fin 2816) : val_main_v22 (F := Ideal) x0 x1 (ix3 b s f) = lin x0 x1 b s f := by
  have hp := pad_apply x0 x1 b
  unfold val_main_v22
  generalize val_main_v4 (F := Ideal) x0 x1 = G at hp ⊢
  pointwise [hp]

/-- The two orders in which the convolution is added up. -/
theorem sum_order (p q t z : EReal) : p + q + t + z = t + z + p + q := by ac_rfl

/-- The convolution. -/
theorem conv_apply (b : Fin 8) (s : Fin 2048) (f : Fin 2816) :
    val_main_v33 (F := Ideal) x0 x1 x3 x4 (ix3 b s f)
      = conv (lin x0 x1 b s f) (back x0 x1 1 b s f) (back x0 x1 2 b s f) (x3 (ix3 0 0 f)) (x3 (ix3 0 1 f)) (x3 (ix3 0 2 f)) (x4 (ix2 0 f)) := by
  have h2 := back2_apply x0 x1 b s f
  have h1 := back1_apply x0 x1 b s f
  have h0 := back0_apply x0 x1 b s f
  unfold conv val_main_v33 val_main_v29 val_main_v28 val_main_v21 val_main_v20 val_main_v13 val_main_v11
  generalize val_main_v5 (F := Ideal) x0 x1 = G2 at h2 ⊢
  generalize val_main_v14 (F := Ideal) x0 x1 = G1 at h1 ⊢
  generalize val_main_v22 (F := Ideal) x0 x1 = G0 at h0 ⊢
  pointwise [val_main_v12, val_main_cst, val_main_v10, val_main_v9, val_main_v8, val_main_v7, val_main_v6, val_main_v19, val_main_v18, val_main_v17, val_main_v16, val_main_v15,
    val_main_v27, val_main_v26, val_main_v25, val_main_v24, val_main_v23, val_main_v32, val_main_v31, val_main_v30, h0, h1, h2]
  exact sum_order _ _ _ _

/-- The hidden entry. -/
theorem hid_apply (b : Fin 8) (s : Fin 2048) (f : Fin 2816) :
    val_main_v41 (F := Ideal) x0 x1 x2 x3 x4 (ix3 b s f)
      = hid (lin x0 x1 b s f) (back x0 x1 1 b s f) (back x0 x1 2 b s f) (x3 (ix3 0 0 f)) (x3 (ix3 0 1 f)) (x3 (ix3 0 2 f)) (x4 (ix2 0 f)) (lin x0 x2 b s f) := by
  have hc := conv_apply x0 x1 x3 x4 b s f
  have hu := up_apply x0 x2 b s f
  unfold hid
  rw [← hc, ← hu]
  simp only [val_main_v41_apply, val_main_v40_apply, val_main_v39_apply, val_main_v38_apply, val_main_v37_apply, val_main_v36_apply, val_main_v35_apply, val_main_v34_apply,
    val_main_cst_0_apply, val_main_cst_1_apply, Ideal.mulf_def, Ideal.addf_def, Ideal.hostUnary_erfc_def, Ideal.hostNegf_def, Ideal.negf_def, neg_mul, Ideal.erfc_neg]
  rfl

/-- The reference's residual row is `row`. -/
theorem resid_apply (b : Fin 8) (s : Fin 2048) (j : Fin 1024) :
    val_main_v46 (F := Ideal) x0 x1 x2 x3 x4 x5 (ix3 b s j) = row x0 x1 x2 x3 x4 x5 b s j := by
  have hh := hid_apply x0 x1 x2 x3 x4 b s
  unfold row term val_main_v46 val_main_v43
  generalize val_main_v41 (F := Ideal) x0 x1 x2 x3 x4 = Y at hh ⊢
  simp only [← hh]
  pointwise [val_main_v45, val_main_v44, val_main_cst_2, val_main_v42]

/-- The reference's result at an index is the layer norm of the residual row there. -/
theorem result_apply (b : Fin 8) (s : Fin 2048) (j : Fin 1024) :
    val_main_v72 (F := Ideal) x0 x1 x2 x3 x4 x5 x6 x7 (ix3 b s j)
      = normed (row x0 x1 x2 x3 x4 x5 b s) (x6 (ix2 0 j)) (x7 (ix2 0 j)) j := by
  have hrow := resid_apply x0 x1 x2 x3 x4 x5 b s
  generalize row x0 x1 x2 x3 x4 x5 b s = y at hrow ⊢
  unfold normed variance mean
  pointwise [val_main_v72, val_main_v71, val_main_v70, val_main_v69, val_main_v68, val_main_v67, val_main_v66, val_main_v65, val_main_v64,
    val_main_v63, val_main_v62, val_main_cst_7, val_main_v61, val_main_v60, val_main_v59, val_main_v58, val_main_cst_6, val_main_v57, val_main_v56,
    val_main_cst_5, val_main_v55, val_main_v54, val_main_v53, val_main_v52, val_main_v51, val_main_cst_4, val_main_v50, val_main_v49, val_main_cst_3,
    val_main_v48, val_main_v47, hrow]

end Cert.FfnRefIdeal.Hand

end
-- ==== Proof.FfnValue.lean ====
/- The feed-forward's result array after the kernel's run is the reference's result of the same arguments. -/
module

public import proofs.«01_k».proof.Proof.FfnCarry
public import proofs.«01_k».proof.Proof.FfnRef
public import proofs.«01_k».proof.Proof.Gen.FfnIdeal.Value

@[expose] public section

set_option maxRecDepth 16384

noncomputable section

namespace Cert.FfnIdeal.Hand

open Cert.FfnIdeal Cert.FfnIdeal.Gen Idealize.ShloMosaic Idealize.ShloMosaic.TcCoe Idealize.SL.Sem Cert.LayerNorm Cert.FfnMath
open Idealize.ShloMosaic.Pipeline (Dat)

variable (m : (ℓ : Loc nD τ sig) → Buf (Elt Ideal) ℓ)

/-- Where each window's block sits at grid point `t`. -/
theorem idx_val : ∀ t : Fin cfg0.N, win0_0.index t = ![t.val / 4, t.val % 4, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val / 4, t.val % 4, 0] :=
  (by decide +kernel : ∀ t : Fin grid0.N, _)

/-- The linear product of a block's row is the reference's at the token the block places there. -/
theorem gate_at (c : Dev nD) (t : Fin cfg0.N) (r : Fin 512) (f : Fin 2816) (b : Fin 8) (s : Fin 2048) (hb : b.val = t.val / 4) (hs : s.val = t.val % 4 * 512 + r.val) :
    lin (iblk m c 0 t) (iblk m c 1 t) r f = Cert.FfnRefIdeal.Hand.lin (m ((c : Thread nD τ).loc main_arg0)) (m ((c : Thread nD τ).loc main_arg1)) b s f := by
  unfold lin Cert.FfnRefIdeal.Hand.lin
  blk_point [iblk, V, idx_val t]

theorem up_at (c : Dev nD) (t : Fin cfg0.N) (r : Fin 512) (f : Fin 2816) (b : Fin 8) (s : Fin 2048) (hb : b.val = t.val / 4) (hs : s.val = t.val % 4 * 512 + r.val) :
    lin (iblk m c 0 t) (iblk m c 2 t) r f = Cert.FfnRefIdeal.Hand.lin (m ((c : Thread nD τ).loc main_arg0)) (m ((c : Thread nD τ).loc main_arg2)) b s f := by
  unfold lin Cert.FfnRefIdeal.Hand.lin
  blk_point [iblk, V, idx_val t]

/-- After every point the carried rows are the gate's last eight rows of that point's block. -/
theorem carry_at (c : Dev nD) (t : Fin cfg0.N) (r : Fin 8) (f : Fin 2816) :
    (outsAt0 m c t.val t.isLt).2 (ix2 r f) = lin (iblk m c 0 t) (iblk m c 1 t) ⟨504 + r.val, by omega⟩ f := by
  by_cases h0 : t.val % 4 = 0
  · have hA := congrArg Prod.snd (outsAt0_A m c t h0)
    dsimp only at hA
    rw [hA]
    exact carry_A _ _ _ _ _ _ _ _ _ _ _ _ _ _ _ _ _ _ _ _ _ _ _ _ _ _ _ _ _ _ _ _ _ r f
  · have hB := congrArg Prod.snd (outsAt0_B m c t h0)
    dsimp only at hB
    rw [hB]
    exact carry_B _ _ _ _ _ _ _ _ _ _ _ _ _ _ _ _ _ _ _ _ _ _ _ _ _ _ _ _ _ _ _ _ _ _ r f

/-- The gate `k` rows back, from the rows carried into a point, is the reference's. -/
theorem back_at (c : Dev nD) (t : Fin cfg0.N) (k : Nat) (hk : k ≤ 8) (xs : FVec Ideal S8x2816 .f32) (r : Fin 512) (f : Fin 2816) (b : Fin 8) (s : Fin 2048)
    (hb : b.val = t.val / 4) (hs : s.val = t.val % 4 * 512 + r.val)
    (hxs : ∀ q : Fin 8, xs (ix2 q f) = if h : t.val % 4 = 0 then 0 else
      Cert.FfnRefIdeal.Hand.lin (m ((c : Thread nD τ).loc main_arg0)) (m ((c : Thread nD τ).loc main_arg1)) b ⟨(t.val % 4 - 1) * 512 + 504 + q.val, by omega⟩ f) :
    back (iblk m c 0 t) (iblk m c 1 t) xs k hk r f
      = Cert.FfnRefIdeal.Hand.back (m ((c : Thread nD τ).loc main_arg0)) (m ((c : Thread nD τ).loc main_arg1)) k b s f := by
  unfold back Cert.FfnRefIdeal.Hand.back
  by_cases h : k ≤ r.val
  · rw [dif_pos h, dif_pos (show k ≤ s.val by omega)]
    exact gate_at m c t _ f b _ hb (show s.val - k = t.val % 4 * 512 + (r.val - k) by omega)
  · rw [dif_neg h, hxs]
    by_cases h0 : t.val % 4 = 0
    · rw [dif_pos h0, dif_neg (show ¬k ≤ s.val by omega)]
    · rw [dif_neg h0, dif_pos (show k ≤ s.val by omega)]
      exact congrArg (fun q => Cert.FfnRefIdeal.Hand.lin _ _ b q f) (Fin.ext (show (t.val % 4 - 1) * 512 + 504 + (8 - k + r.val) = s.val - k by omega))

/-- The block over the rows carried into a point is the reference's entries where the block places them. -/
theorem block_at (c : Dev nD) (t : Fin cfg0.N) (xs : FVec Ideal S8x2816 .f32) (r : Fin 512) (j : Fin 1024) (b : Fin 8) (s : Fin 2048)
    (hb : b.val = t.val / 4) (hs : s.val = t.val % 4 * 512 + r.val)
    (hxs : ∀ (f : Fin 2816) (q : Fin 8), xs (ix2 q f) = if h : t.val % 4 = 0 then 0 else
      Cert.FfnRefIdeal.Hand.lin (m ((c : Thread nD τ).loc main_arg0)) (m ((c : Thread nD τ).loc main_arg1)) b ⟨(t.val % 4 - 1) * 512 + 504 + q.val, by omega⟩ f) :
    block (iblk m c 0 t) (iblk m c 1 t) (iblk m c 2 t) (iblk m c 3 t) (iblk m c 4 t) (iblk m c 5 t) (iblk m c 6 t) (iblk m c 7 t) xs (ix3 0 r j)
      = Cert.FfnRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s j) := by
  refine (block_apply _ _ _ _ _ _ _ _ _ r j).trans ?_
  refine Eq.trans ?_ (Cert.FfnRefIdeal.Hand.result_apply _ _ _ _ _ _ _ _ b s j).symm
  have hrow : row (iblk m c 0 t) (iblk m c 1 t) (iblk m c 2 t) (iblk m c 3 t) (iblk m c 4 t) (iblk m c 5 t) xs r
      = Cert.FfnRefIdeal.Hand.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s := by
    funext j
    unfold row Cert.FfnRefIdeal.Hand.row term Cert.FfnRefIdeal.Hand.term
    simp only [gate_at m c t r _ b s hb hs, up_at m c t r _ b s hb hs, fun f => back_at m c t 1 (by decide) xs r f b s hb hs (hxs f),
      fun f => back_at m c t 2 (by decide) xs r f b s hb hs (hxs f)]
    blk_point [iblk, V, idx_val t]
  rw [hrow]
  blk_point [iblk, V, idx_val t]

/-- What point `t` stores at a row and column of its block is the reference's entry where the block places them. -/
theorem point (c : Dev nD) (t : Fin cfg0.N) (r : Fin 512) (j : Fin 1024) (b : Fin 8) (s : Fin 2048) (hb : b.val = t.val / 4) (hs : s.val = t.val % 4 * 512 + r.val) :
    (outsAt0 m c t.val t.isLt).1 (ix3 0 r j)
      = Cert.FfnRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s j) := by
  by_cases h0 : t.val % 4 = 0
  · have hA := congrArg Prod.fst (outsAt0_A m c t h0)
    dsimp only at hA
    rw [hA]
    refine (out_A _ _ _ _ _ _ _ _ _ _ _ _ _ _ _ _ _ _ _ _ _ _ _ _ _ _ _ _ _ _ _ _ _ _).trans (block_at m c t _ r j b s hb hs fun f q => ?_)
    rw [dif_pos h0]
    pointwise [k0_pay2]
  · have hB := congrArg Prod.fst (outsAt0_B m c t h0)
    dsimp only at hB
    rw [hB]
    refine (out_B _ _ _ _ _ _ _ _ _ _ _ _ _ _ _ _ _ _ _ _ _ _ _ _ _ _ _ _ _ _ _ _ _ _ _).trans (block_at m c t _ r j b s hb hs fun f q => ?_)
    rw [dif_neg h0]
    have hN : t.val < 32 := lt_of_lt_of_eq t.isLt N_0
    refine (carry_at m c ⟨t.val - 1, Nat.lt_of_le_of_lt (Nat.sub_le _ _) t.isLt⟩ q f).trans (gate_at m c _ _ f b _ ?_ ?_)
    · show b.val = (t.val - 1) / 4; omega
    · show (t.val % 4 - 1) * 512 + 504 + q.val = (t.val - 1) % 4 * 512 + (504 + q.val); omega

/-- The result array after the run. -/
theorem final (c : Dev nD) : (dats m 0 c).arrAt 8 (cfgs 0).N
      = Cert.FfnRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  have hN : t.val < 32 := lt_of_lt_of_eq t.isLt N_0
  let r : Fin 512 := ⟨(y 1).val, (y 1).isLt⟩
  let j : Fin 1024 := ⟨(y 2).val, (y 2).isLt⟩
  have hr : r.val < 512 := r.isLt
  have ey : y = ix3 (0 : Fin 1) r j := by
    blk_ext <;> rfl
  have e : (win0_8.blk t).view.emb y = ix3 (⟨t.val / 4, by omega⟩ : Fin 8) (⟨t.val % 4 * 512 + r.val, by omega⟩ : Fin 2048) j := by
    blk_ext [idx_val t] <;> rfl
  rw [e]
  exact (congrArg _ ey).trans (point m c t r j _ _ rfl rfl)

end Cert.FfnIdeal.Hand

end
-- ==== Proof.InprojRope.lean ====
/- The rotation of the projected queries and keys, as the kernel computes it, read at an index. -/
module

public import proofs.«01_k».proof.Proof.LayerNorm
public import Idealize.ShloMosaic.Lib.KernelVsHost
public import proofs.«01_k».proof.Proof.Gen.InprojIdeal.Frame

@[expose] public section

set_option maxRecDepth 16384

noncomputable section

namespace Cert.InprojIdeal.Hand

open Cert.InprojIdeal Cert.InprojIdeal.Gen Idealize.ShloMosaic

/-- The lane a lane is rotated with: the same place in the other half of its head. -/
def partner (l : Fin 128) : Fin 128 := if h : l.val % 64 < 32 then ⟨l.val + 32, by omega⟩ else ⟨l.val - 32, by omega⟩

/-- The mask of the first halves. -/
theorem half_apply (r : Fin 512) (l : Fin 128) : k0_pay4 (ix2 r l) = if l.val % 64 < 32 then 1#1 else 0#1 := by
  pointwise [k0_pay4]
  revert l
  decide +kernel

/-- The rotated lane. -/
theorem partner_apply (T : FVec Ideal S512x128 .f32) (r : Fin 512) (l : Fin 128) :
    select k0_pay4 (dynamicRotate 1 96#32 none T rotates_S512x128_d1) (dynamicRotate 1 32#32 none T rotates_S512x128_d1) (ix2 r l) = T (ix2 r (partner l)) := by
  have hl := l.isLt
  have h96 : dynamicRotate 1 96#32 none T rotates_S512x128_d1 (ix2 r l) = T (ix2 r ⟨(l.val + 128 - 96) % 128, Nat.mod_lt _ (by decide)⟩) :=
    dynamicRotate_apply 1 96#32 T _ _ _ fun b => by fin_cases b <;> rfl
  have h32 : dynamicRotate 1 32#32 none T rotates_S512x128_d1 (ix2 r l) = T (ix2 r ⟨(l.val + 128 - 32) % 128, Nat.mod_lt _ (by decide)⟩) :=
    dynamicRotate_apply 1 32#32 T _ _ _ fun b => by fin_cases b <;> rfl
  show (if k0_pay4 (ix2 r l) = 1#1 then _ else _) = _
  rw [half_apply, h96, h32]
  unfold partner
  by_cases h : l.val % 64 < 32
  · rw [if_pos h, dif_pos h, if_pos rfl]
    exact congrArg (fun q => T (ix2 r q)) (Fin.ext (by show (l.val + 128 - 96) % 128 = l.val + 32; omega))
  · rw [if_neg h, dif_neg h, if_neg (by decide)]
    exact congrArg (fun q => T (ix2 r q)) (Fin.ext (by show (l.val + 128 - 32) % 128 = l.val - 32; omega))

/-- The rotation of 128 lanes. -/
theorem rope_apply (T C S : FVec Ideal S512x128 .f32) (r : Fin 512) (l : Fin 128) :
    addf (mulf T C) (mulf (select k0_pay4 (dynamicRotate 1 96#32 none T rotates_S512x128_d1) (dynamicRotate 1 32#32 none T rotates_S512x128_d1)) S) (ix2 r l)
      = (T (ix2 r l) * C (ix2 r l) + T (ix2 r (partner l)) * S (ix2 r l) : EReal) := by
  rw [← partner_apply T r l]
  rfl

/-- The input times a block of the weights. -/
def lin (x : FVec Ideal S1x512x1024 .f32) (w : FVec Ideal S1024x4096 .bf16) (r : Fin 512) (f : Fin 4096) : EReal := ∑ k : Fin 1024, x (ix3 0 r k) * w (ix2 k f)

theorem prod_apply (x : FVec Ideal S1x512x1024 .f32) (w : FVec Ideal S1024x512 .bf16) (r : Fin 512) (d : Fin 512) :
    k0_pay14 (F := Ideal) (k0_pay3 x) w (ix2 r d) = ∑ k : Fin 1024, x (ix3 0 r k) * w (ix2 k d) := by
  pointwise [k0_pay14, k0_pay3]

/-- The rotated lanes of a product, as stored. -/
def turned (Z : FVec Ideal S512x512 .f32) (C S : FVec Ideal S512x128 .f32) (o : Nat) (ho : o + 128 ≤ 512) (r : Fin 512) (l : Fin 128) : EReal :=
  Z (ix2 r ⟨o + l.val, by omega⟩) * C (ix2 r l) + Z (ix2 r ⟨o + (partner l).val, by omega⟩) * S (ix2 r l)

theorem slice_apply (Z : FVec Ideal S512x512 .f32) (o : Nat) (ho : o + 128 ≤ 512) (h) (r : Fin 512) (l : Fin 128) :
    extractStridedSlice S512x128 ![0, o] Z h (ix2 r l) = Z (ix2 r ⟨o + l.val, by omega⟩) :=
  extractStridedSlice_apply ![0, o] Z h (ix2 r l) (ix2 r ⟨o + l.val, by omega⟩) fun a => by fin_cases a <;> simp [ix2]

theorem turn_apply (Z : FVec Ideal S512x512 .f32) (C S : FVec Ideal S512x128 .f32) (o : Nat) (ho : o + 128 ≤ 512) (h) (r : Fin 512) (l : Fin 128) :
    addf (mulf (extractStridedSlice S512x128 ![0, o] Z h) C) (mulf (select k0_pay4 (dynamicRotate 1 96#32 none (extractStridedSlice S512x128 ![0, o] Z h) rotates_S512x128_d1)
      (dynamicRotate 1 32#32 none (extractStridedSlice S512x128 ![0, o] Z h) rotates_S512x128_d1)) S) (ix2 r l) = turned Z C S o ho r l := by
  rw [rope_apply, slice_apply Z o ho, slice_apply Z o ho]
  rfl

theorem lanes_cast (T : FVec Ideal S512x128 .bf16) (r : Fin 512) (l : Fin 128) : shapeCast S1x512x128 T shapeCasts_S512x128_S1x512x128 (ix3 0 r l) = T (ix2 r l) := by
  pointwise []

theorem table_cast (T : FVec Ideal S512x128 .f32) : shapeCast S512x128 T shapeCasts_S512x128_S512x128 = T := by
  funext j
  pointwise []

theorem key_0 (x : FVec Ideal S512x1024 .bf16) (C S : FVec Ideal S512x128 .f32) (w : FVec Ideal S1024x512 .bf16) (r : Fin 512) (l : Fin 128) :
    k0_pay15 (F := Ideal) x k0_pay4 (k0_pay5 C) (k0_pay6 S) w (ix3 0 r l) = turned (k0_pay14 x w) C S 0 (by decide) r l := by
  unfold k0_pay15 k0_pay5 k0_pay6
  rw [table_cast, table_cast]
  exact (lanes_cast _ r l).trans (turn_apply _ _ _ 0 _ _ r l)

theorem key_1 (x : FVec Ideal S512x1024 .bf16) (C S : FVec Ideal S512x128 .f32) (w : FVec Ideal S1024x512 .bf16) (r : Fin 512) (l : Fin 128) :
    k0_pay16 (F := Ideal) x k0_pay4 (k0_pay5 C) (k0_pay6 S) w (ix3 0 r l) = turned (k0_pay14 x w) C S 128 (by decide) r l := by
  unfold k0_pay16 k0_pay5 k0_pay6
  rw [table_cast, table_cast]
  exact (lanes_cast _ r l).trans (turn_apply _ _ _ 128 _ _ r l)

theorem key_2 (x : FVec Ideal S512x1024 .bf16) (C S : FVec Ideal S512x128 .f32) (w : FVec Ideal S1024x512 .bf16) (r : Fin 512) (l : Fin 128) :
    k0_pay18 (F := Ideal) (k0_pay17 (F := Ideal) x k0_pay4 (k0_pay5 C) (k0_pay6 S) w) (ix3 0 r l) = turned (k0_pay14 x w) C S 256 (by decide) r l := by
  unfold k0_pay18 k0_pay17 k0_pay5 k0_pay6
  rw [table_cast, table_cast]
  exact (lanes_cast _ r l).trans (turn_apply _ _ _ 256 _ _ r l)

theorem key_3 (Z : FVec Ideal S512x512 .f32) (C S : FVec Ideal S512x128 .f32) (r : Fin 512) (l : Fin 128) :
    k0_pay19 (F := Ideal) k0_pay4 (k0_pay5 C) (k0_pay6 S) Z (ix3 0 r l) = turned Z C S 384 (by decide) r l := by
  unfold k0_pay19 k0_pay5 k0_pay6
  rw [table_cast, table_cast]
  exact (lanes_cast _ r l).trans (turn_apply _ _ _ 384 _ _ r l)

/-- The scores' scale. -/
def scale : EReal := Ideal.ofBits .f32 0x3E000000#32

theorem query_0 (x : FVec Ideal S1x512x1024 .f32) (C S : FVec Ideal S512x128 .f32) (w : FVec Ideal S1024x512 .bf16) (r : Fin 512) (l : Fin 128) :
    k0_pay9 (F := Ideal) (k0_pay8 (F := Ideal) x C S w) (ix3 0 r l) = turned (k0_pay14 (k0_pay3 x) w) C S 0 (by decide) r l * scale := by
  unfold k0_pay9 k0_pay8 k0_pay5 k0_pay6
  rw [table_cast, table_cast]
  exact (lanes_cast _ r l).trans (congrArg (fun q : EReal => q * scale) (turn_apply _ _ _ 0 _ _ r l))

theorem query_1 (Z : FVec Ideal S512x512 .f32) (C S : FVec Ideal S512x128 .f32) (r : Fin 512) (l : Fin 128) :
    k0_pay10 (F := Ideal) k0_pay4 (k0_pay5 C) (k0_pay6 S) Z (ix3 0 r l) = turned Z C S 128 (by decide) r l * scale := by
  unfold k0_pay10 k0_pay5 k0_pay6
  rw [table_cast, table_cast]
  exact (lanes_cast _ r l).trans (congrArg (fun q : EReal => q * scale) (turn_apply _ _ _ 128 _ _ r l))

theorem query_2 (Z : FVec Ideal S512x512 .f32) (C S : FVec Ideal S512x128 .f32) (r : Fin 512) (l : Fin 128) :
    k0_pay11 (F := Ideal) k0_pay4 (k0_pay5 C) (k0_pay6 S) Z (ix3 0 r l) = turned Z C S 256 (by decide) r l * scale := by
  unfold k0_pay11 k0_pay5 k0_pay6
  rw [table_cast, table_cast]
  exact (lanes_cast _ r l).trans (congrArg (fun q : EReal => q * scale) (turn_apply _ _ _ 256 _ _ r l))

theorem query_3 (Z : FVec Ideal S512x512 .f32) (C S : FVec Ideal S512x128 .f32) (r : Fin 512) (l : Fin 128) :
    k0_pay13 (F := Ideal) (k0_pay12 (F := Ideal) k0_pay4 (k0_pay5 C) (k0_pay6 S) Z) (ix3 0 r l) = turned Z C S 384 (by decide) r l * scale := by
  unfold k0_pay13 k0_pay12 k0_pay5 k0_pay6
  rw [table_cast, table_cast]
  exact (lanes_cast _ r l).trans (congrArg (fun q : EReal => q * scale) (turn_apply _ _ _ 384 _ _ r l))

end Cert.InprojIdeal.Hand

end
-- ==== Proof.InprojKernel.lean ====
/- What the projection kernel stores of queries, keys, values and gates, read at an index. -/
module

public import proofs.«01_k».proof.Proof.InprojRope

@[expose] public section

set_option maxRecDepth 16384

noncomputable section

namespace Cert.InprojIdeal.Hand

open Cert.InprojIdeal Cert.InprojIdeal.Gen Idealize.ShloMosaic

/-- The newest store's payload, read at an index the store covers. -/
theorem canon_at {s : Shape} {e : EltTy} (r : Rect s) (w : r.shape.Idx → Elt Ideal e) (L : List (View.Piece (Elt Ideal) s e)) (y : s.Idx)
    (x : r.shape.Idx) (h : y = r.emb x) : View.canon (⟨r, w⟩ :: L) y = w x := by
  subst h; exact View.canon_cons_emb r w L x

/-- A row block after a block of its columns is stored: the stored columns hold `G`, the others what they held. -/
theorem canon_lanes {N M : Nat} (o : Nat) (w : FVec Ideal ⟨3, ![1, 512, M]⟩ .bf16) (L : List (View.Piece (Elt Ideal) ⟨3, ![1, 512, N]⟩ .bf16)) (inb) (G : Fin 512 → Fin N → EReal)
    (r : Fin 512) (f : Fin N) (hf : f.val < o + M) (hw : ∀ d : Fin M, f.val = o + d.val → w (ix3 0 r d) = G r f)
    (hL : f.val < o → View.canon L (ix3 (0 : Fin 1) r f) = G r f) :
    View.canon (Val := Elt Ideal) (⟨Rect.unit (s := ⟨3, ![1, 512, N]⟩) ![0, 0, o] ![1, 512, M] inb, w⟩ :: L) (ix3 (0 : Fin 1) r f) = G r f := by
  by_cases h : f.val < o
  · rw [View.canon_cons_of_not_mem]
    · exact hL h
    · intro hm
      have e : o ≤ f.val := ((Rect.mem_set_unit (s := ⟨3, ![1, 512, N]⟩) (inb := inb)).mp hm 2).1
      omega
  · refine (canon_at (e := .bf16) (Rect.unit (s := ⟨3, ![1, 512, N]⟩) ![0, 0, o] ![1, 512, M] inb) w L _ (ix3 (0 : Fin 1) r (⟨f.val - o, by omega⟩ : Fin M)) ?_).trans (hw ⟨f.val - o, by omega⟩ ?_)
    · funext a
      apply Fin.ext
      fin_cases a
      · rfl
      · show r.val = 0 + 1 * r.val; omega
      · show f.val = o + 1 * (f.val - o); omega
    · show f.val = o + (f.val - o); omega

/-- A load of a rectangle of a matrix, read at an index. -/
theorem ld_at {M N m w : Nat} {t : EltTy} (X : (⟨2, ![M, N]⟩ : Shape).Idx → Elt Ideal t) (o p : Nat) (inb) (r : Fin m) (d : Fin w) (r' : Fin M) (d' : Fin N)
    (hr : r'.val = o + r.val) (hd : d'.val = p + d.val) :
    View.ld (Val := Elt Ideal) (e' := t) X (Rect.unit (s := ⟨2, ![M, N]⟩) ![o, p] ![m, w] inb) (ix2 r d) = X (ix2 r' d') :=
  View.ld_unit_apply_of (Val := Elt Ideal) (e := t) X ![o, p] ![m, w] inb (ix2 r d) (ix2 r' d') (Fin.forall_fin_two.mpr ⟨hr, hd⟩)

/-- The column a column is rotated with. -/
def mate (f : Fin 512) : Fin 512 := if h : f.val % 64 < 32 then ⟨f.val + 32, by omega⟩ else ⟨f.val - 32, by omega⟩

theorem partner_val (l : Fin 128) : (partner l).val = if l.val % 64 < 32 then l.val + 32 else l.val - 32 := by
  unfold partner
  split <;> rfl

theorem mate_val (f : Fin 512) : (mate f).val = if f.val % 64 < 32 then f.val + 32 else f.val - 32 := by
  unfold mate
  split <;> rfl

/-- A rotated column of the product, from the column `base` of the weights on. -/
def spin (x : FVec Ideal S1x512x1024 .f32) (w : FVec Ideal S1024x4096 .bf16) (C S : FVec Ideal S512x128 .f32) (base : Nat) (hb : base + 512 ≤ 4096) (r : Fin 512) (f : Fin 512) : EReal :=
  lin x w r ⟨base + f.val, by omega⟩ * C (ix2 r ⟨f.val % 128, by omega⟩) + lin x w r ⟨base + (mate f).val, by omega⟩ * S (ix2 r ⟨f.val % 128, by omega⟩)

theorem lin_apply (x : FVec Ideal S1x512x1024 .f32) (w : FVec Ideal S1024x4096 .bf16) (base : Nat) (hb : base + 512 ≤ 4096) (inb) (r : Fin 512) (d : Fin 512) :
    k0_pay14 (F := Ideal) (k0_pay3 x) (View.ld (Val := Elt Ideal) (e' := .bf16) w (Rect.unit (s := S1024x4096) ![0, base] ![1024, 512] inb)) (ix2 r d)
      = lin x w r ⟨base + d.val, by omega⟩ :=
  (prod_apply x _ r d).trans (Finset.sum_congr rfl fun k _ => congrArg _ (ld_at (t := .bf16) w 0 base _ k d k ⟨base + d.val, by omega⟩ (Nat.zero_add _).symm rfl))

theorem turned_spin (x : FVec Ideal S1x512x1024 .f32) (w : FVec Ideal S1024x4096 .bf16) (C S : FVec Ideal S512x128 .f32) (base : Nat) (hb : base + 512 ≤ 4096) (inb) (o : Nat) (ho : o + 128 ≤ 512)
    (hm : o % 128 = 0) (r : Fin 512) (l : Fin 128) (f : Fin 512) (hf : f.val = o + l.val) :
    turned (k0_pay14 (F := Ideal) (k0_pay3 x) (View.ld (Val := Elt Ideal) (e' := .bf16) w (Rect.unit (s := S1024x4096) ![0, base] ![1024, 512] inb))) C S o ho r l
      = spin x w C S base hb r f := by
  have e1 : (⟨o + l.val, by omega⟩ : Fin 512) = f := Fin.ext hf.symm
  have e2 : (⟨o + (partner l).val, by omega⟩ : Fin 512) = mate f := by
    apply Fin.ext
    show o + (partner l).val = (mate f).val
    rw [partner_val, mate_val]
    by_cases h : l.val % 64 < 32
    · rw [if_pos h, if_pos (show f.val % 64 < 32 by omega)]; omega
    · rw [if_neg h, if_neg (show ¬f.val % 64 < 32 by omega)]; omega
  have e3 : l = ⟨f.val % 128, by omega⟩ := Fin.ext (show l.val = f.val % 128 by omega)
  unfold turned spin
  rw [e1, e2, lin_apply x w base hb inb, lin_apply x w base hb inb, ← e3]

theorem value_apply (x : FVec Ideal S1x512x1024 .f32) (w : FVec Ideal S1024x4096 .bf16) (inb) (r : Fin 512) (f : Fin 512) :
    k0_pay20 (F := Ideal) (k0_pay3 x) (View.ld (Val := Elt Ideal) (e' := .bf16) w (Rect.unit (s := S1024x4096) ![0, 1024] ![1024, 512] inb)) (ix3 0 r f)
      = lin x w r ⟨1024 + f.val, by omega⟩ := by
  refine Eq.trans ?_ (lin_apply x w 1024 (by decide) inb r f)
  generalize View.ld (Val := Elt Ideal) (e' := .bf16) w (Rect.unit (s := S1024x4096) ![0, 1024] ![1024, 512] inb) = W
  pointwise [k0_pay20, k0_pay14]

/-- The gate of a product's entry and its bias. -/
def gated (a b : EReal) : EReal := FloatOps.logistic (F := Ideal) (φ := .f32) (a + b)

theorem gate_cast (Z : FVec Ideal S512x512 .f32) (b : FVec Ideal S1x512 .f32) (r : Fin 512) (d : Fin 512) :
    k0_pay1 (F := Ideal) Z b (ix3 0 r d) = gated (Z (ix2 r d)) (b (ix2 0 d)) := by
  unfold gated
  pointwise [k0_pay1]

/-- A column of the gates. -/
def gate (x : FVec Ideal S1x512x1024 .f32) (w : FVec Ideal S1024x4096 .bf16) (b : FVec Ideal S1x2048 .f32) (r : Fin 512) (f : Fin 2048) : EReal :=
  gated (lin x w r ⟨2048 + f.val, by omega⟩) (b (ix2 0 f))

theorem gate_apply (x : FVec Ideal S1x512x1024 .f32) (w : FVec Ideal S1024x4096 .bf16) (b : FVec Ideal S1x2048 .f32) (o : Nat) (ho : o + 512 ≤ 2048) (base : Nat) (hb : base = 2048 + o) (inb inb')
    (r : Fin 512) (d : Fin 512) (f : Fin 2048) (hf : f.val = o + d.val) :
    k0_pay1 (F := Ideal) (k0_pay14 (F := Ideal) (k0_pay3 x) (View.ld (Val := Elt Ideal) (e' := .bf16) w (Rect.unit (s := S1024x4096) ![0, base] ![1024, 512] inb)))
      (View.ld (Val := Elt Ideal) (e' := .f32) b (Rect.unit (s := S1x2048) ![0, o] ![1, 512] inb')) (ix3 0 r d) = gate x w b r f := by
  refine (gate_cast _ _ r d).trans ?_
  unfold gate
  rw [lin_apply x w base (by omega) inb r d]
  refine congrArg₂ gated (congrArg (lin x w r) (Fin.ext ?_)) (ld_at (t := .f32) b _ _ _ 0 d 0 f rfl hf)
  show base + d.val = 2048 + f.val
  omega

variable (c : Dev nD) (i : grid0.Coords) (arg2 : Memref sig .tc .vmem S1x512x1024 .f32) (harg2 : arg2.IsWhole) (arg3 : Memref sig .tc .vmem S1024x4096 .bf16) (harg3 : arg3.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x2048 .bf16) (harg13 : arg13.IsWhole) (arg14 : Memref sig .tc .vmem S528x512 .f32) (harg14 : arg14.IsWhole)
  (x0 : Vec Ideal S1x512x1024 .f32) (x1 : Vec Ideal S1024x4096 .bf16) (x2 : Vec Ideal S1x2048 .f32) (x3 : Vec Ideal S512x128 .f32) (x4 : Vec Ideal S512x128 .f32) (x5 : Vec Ideal S4x128x128 .bf16) (x6 : Vec Ideal S1x512 .f32)

theorem query_A (hc0 : cond0_0 i) (r : Fin 512) (f : Fin 512) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r f) = spin x0 x1 x3 x4 0 (by decide) r f * scale := by
  frame_out
  refine canon_lanes 384 _ _ _ (fun r f => spin x0 x1 x3 x4 0 (by decide) r f * scale) r f (by omega) (fun d hd => (query_3 _ _ _ r d).trans (congrArg (fun q : EReal => q * scale) (turned_spin x0 x1 x3 x4 0 (by decide) _ 384 (by decide) (by decide) r d f hd))) fun h => ?_
  refine canon_lanes 256 _ _ _ (fun r f => spin x0 x1 x3 x4 0 (by decide) r f * scale) r f (by omega) (fun d hd => (query_2 _ _ _ r d).trans (congrArg (fun q : EReal => q * scale) (turned_spin x0 x1 x3 x4 0 (by decide) _ 256 (by decide) (by decide) r d f hd))) fun h => ?_
  refine canon_lanes 128 _ _ _ (fun r f => spin x0 x1 x3 x4 0 (by decide) r f * scale) r f (by omega) (fun d hd => (query_1 _ _ _ r d).trans (congrArg (fun q : EReal => q * scale) (turned_spin x0 x1 x3 x4 0 (by decide) _ 128 (by decide) (by decide) r d f hd))) fun h => ?_
  refine canon_lanes 0 _ _ _ (fun r f => spin x0 x1 x3 x4 0 (by decide) r f * scale) r f (by omega) (fun d hd => (query_0 _ _ _ _ r d).trans (congrArg (fun q : EReal => q * scale) (turned_spin x0 x1 x3 x4 0 (by decide) _ 0 (by decide) (by decide) r d f hd))) fun h => ?_
  exact absurd h (Nat.not_lt_zero _)

theorem key_A (hc0 : cond0_0 i) (r : Fin 512) (f : Fin 512) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r f) = spin x0 x1 x3 x4 512 (by decide) r f := by
  frame_out
  refine canon_lanes 384 _ _ _ (fun r f => spin x0 x1 x3 x4 512 (by decide) r f) r f (by omega) (fun d hd => (key_3 _ _ _ r d).trans (turned_spin x0 x1 x3 x4 512 (by decide) _ 384 (by decide) (by decide) r d f hd)) fun h => ?_
  refine canon_lanes 256 _ _ _ (fun r f => spin x0 x1 x3 x4 512 (by decide) r f) r f (by omega) (fun d hd => (key_2 _ _ _ _ r d).trans (turned_spin x0 x1 x3 x4 512 (by decide) _ 256 (by decide) (by decide) r d f hd)) fun h => ?_
  refine canon_lanes 128 _ _ _ (fun r f => spin x0 x1 x3 x4 512 (by decide) r f) r f (by omega) (fun d hd => (key_1 _ _ _ _ r d).trans (turned_spin x0 x1 x3 x4 512 (by decide) _ 128 (by decide) (by decide) r d f hd)) fun h => ?_
  refine canon_lanes 0 _ _ _ (fun r f => spin x0 x1 x3 x4 512 (by decide) r f) r f (by omega) (fun d hd => (key_0 _ _ _ _ r d).trans (turned_spin x0 x1 x3 x4 512 (by decide) _ 0 (by decide) (by decide) r d f hd)) fun h => ?_
  exact absurd h (Nat.not_lt_zero _)

theorem value_A (hc0 : cond0_0 i) (r : Fin 512) (f : Fin 512) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r f) = lin x0 x1 r ⟨1024 + f.val, by omega⟩ := by
  frame_out
  exact value_apply x0 x1 _ r f

theorem gates_A (hc0 : cond0_0 i) (r : Fin 512) (f : Fin 2048) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r f) = gate x0 x1 x2 r f := by
  frame_out
  refine canon_lanes 1536 _ _ _ (fun r f => gate x0 x1 x2 r f) r f (by omega) (fun d hd => gate_apply x0 x1 x2 1536 (by decide) 3584 (by decide) _ _ r d f hd) fun h => ?_
  refine canon_lanes 1024 _ _ _ (fun r f => gate x0 x1 x2 r f) r f (by omega) (fun d hd => gate_apply x0 x1 x2 1024 (by decide) 3072 (by decide) _ _ r d f hd) fun h => ?_
  refine canon_lanes 512 _ _ _ (fun r f => gate x0 x1 x2 r f) r f (by omega) (fun d hd => gate_apply x0 x1 x2 512 (by decide) 2560 (by decide) _ _ r d f hd) fun h => ?_
  refine canon_lanes 0 _ _ _ (fun r f => gate x0 x1 x2 r f) r f (by omega) (fun d hd => gate_apply x0 x1 x2 0 (by decide) 2048 (by decide) _ _ r d f hd) fun h => ?_
  exact absurd h (Nat.not_lt_zero _)

theorem query_B (hc0 : ¬cond0_0 i) (xs : Vec Ideal S528x512 .f32) (r : Fin 512) (f : Fin 512) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix3 0 r f) = spin x0 x1 x3 x4 0 (by decide) r f * scale := by
  frame_out
  refine canon_lanes 384 _ _ _ (fun r f => spin x0 x1 x3 x4 0 (by decide) r f * scale) r f (by omega) (fun d hd => (query_3 _ _ _ r d).trans (congrArg (fun q : EReal => q * scale) (turned_spin x0 x1 x3 x4 0 (by decide) _ 384 (by decide) (by decide) r d f hd))) fun h => ?_
  refine canon_lanes 256 _ _ _ (fun r f => spin x0 x1 x3 x4 0 (by decide) r f * scale) r f (by omega) (fun d hd => (query_2 _ _ _ r d).trans (congrArg (fun q : EReal => q * scale) (turned_spin x0 x1 x3 x4 0 (by decide) _ 256 (by decide) (by decide) r d f hd))) fun h => ?_
  refine canon_lanes 128 _ _ _ (fun r f => spin x0 x1 x3 x4 0 (by decide) r f * scale) r f (by omega) (fun d hd => (query_1 _ _ _ r d).trans (congrArg (fun q : EReal => q * scale) (turned_spin x0 x1 x3 x4 0 (by decide) _ 128 (by decide) (by decide) r d f hd))) fun h => ?_
  refine canon_lanes 0 _ _ _ (fun r f => spin x0 x1 x3 x4 0 (by decide) r f * scale) r f (by omega) (fun d hd => (query_0 _ _ _ _ r d).trans (congrArg (fun q : EReal => q * scale) (turned_spin x0 x1 x3 x4 0 (by decide) _ 0 (by decide) (by decide) r d f hd))) fun h => ?_
  exact absurd h (Nat.not_lt_zero _)

theorem key_B (hc0 : ¬cond0_0 i) (xs : Vec Ideal S528x512 .f32) (r : Fin 512) (f : Fin 512) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix3 0 r f) = spin x0 x1 x3 x4 512 (by decide) r f := by
  frame_out
  refine canon_lanes 384 _ _ _ (fun r f => spin x0 x1 x3 x4 512 (by decide) r f) r f (by omega) (fun d hd => (key_3 _ _ _ r d).trans (turned_spin x0 x1 x3 x4 512 (by decide) _ 384 (by decide) (by decide) r d f hd)) fun h => ?_
  refine canon_lanes 256 _ _ _ (fun r f => spin x0 x1 x3 x4 512 (by decide) r f) r f (by omega) (fun d hd => (key_2 _ _ _ _ r d).trans (turned_spin x0 x1 x3 x4 512 (by decide) _ 256 (by decide) (by decide) r d f hd)) fun h => ?_
  refine canon_lanes 128 _ _ _ (fun r f => spin x0 x1 x3 x4 512 (by decide) r f) r f (by omega) (fun d hd => (key_1 _ _ _ _ r d).trans (turned_spin x0 x1 x3 x4 512 (by decide) _ 128 (by decide) (by decide) r d f hd)) fun h => ?_
  refine canon_lanes 0 _ _ _ (fun r f => spin x0 x1 x3 x4 512 (by decide) r f) r f (by omega) (fun d hd => (key_0 _ _ _ _ r d).trans (turned_spin x0 x1 x3 x4 512 (by decide) _ 0 (by decide) (by decide) r d f hd)) fun h => ?_
  exact absurd h (Nat.not_lt_zero _)

theorem value_B (hc0 : ¬cond0_0 i) (xs : Vec Ideal S528x512 .f32) (r : Fin 512) (f : Fin 512) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix3 0 r f) = lin x0 x1 r ⟨1024 + f.val, by omega⟩ := by
  frame_out
  exact value_apply x0 x1 _ r f

theorem gates_B (hc0 : ¬cond0_0 i) (xs : Vec Ideal S528x512 .f32) (r : Fin 512) (f : Fin 2048) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix3 0 r f) = gate x0 x1 x2 r f := by
  frame_out
  refine canon_lanes 1536 _ _ _ (fun r f => gate x0 x1 x2 r f) r f (by omega) (fun d hd => gate_apply x0 x1 x2 1536 (by decide) 3584 (by decide) _ _ r d f hd) fun h => ?_
  refine canon_lanes 1024 _ _ _ (fun r f => gate x0 x1 x2 r f) r f (by omega) (fun d hd => gate_apply x0 x1 x2 1024 (by decide) 3072 (by decide) _ _ r d f hd) fun h => ?_
  refine canon_lanes 512 _ _ _ (fun r f => gate x0 x1 x2 r f) r f (by omega) (fun d hd => gate_apply x0 x1 x2 512 (by decide) 2560 (by decide) _ _ r d f hd) fun h => ?_
  refine canon_lanes 0 _ _ _ (fun r f => gate x0 x1 x2 r f) r f (by omega) (fun d hd => gate_apply x0 x1 x2 0 (by decide) 2048 (by decide) _ _ r d f hd) fun h => ?_
  exact absurd h (Nat.not_lt_zero _)

end Cert.InprojIdeal.Hand

end
-- ==== Proof.InprojPool.lean ====
/- What the projection kernel stores of the pooled rows, and the rows it carries, read at an index. -/
module

public import proofs.«01_k».proof.Proof.InprojKernel
public import Idealize.ShloMosaic.Lib.WritesUnit

@[expose] public section

set_option maxRecDepth 16384

noncomputable section

namespace Cert.InprojIdeal.Hand

open Cert.InprojIdeal Cert.InprojIdeal.Gen Idealize.ShloMosaic

/-- Rows `back` rows above those of `A`, in the columns from `o` on, with the rows of `H` above `A`. -/
def window (back : Nat) (hb : back ≤ 16) (o : Nat) (ho : o + 128 ≤ 512) (A : FVec Ideal S512x512 .f32) (H : Fin 16 → Fin 512 → EReal) : FVec Ideal S512x128 .f32 := fun j =>
  if h : back ≤ (j 0).val then A (ix2 ⟨(j 0).val - back, by have : (j 0).val < 512 := (j 0).isLt; omega⟩ ⟨o + (j 1).val, by have : (j 1).val < 128 := (j 1).isLt; omega⟩)
  else H ⟨16 - back + (j 0).val, by omega⟩ ⟨o + (j 1).val, by have : (j 1).val < 128 := (j 1).isLt; omega⟩

/-- The last sixteen rows of `A`. -/
def tail (A : FVec Ideal S512x512 .f32) : FVec Ideal S16x512 .f32 := fun j =>
  A (ix2 ⟨496 + (j 0).val, by have : (j 0).val < 16 := (j 0).isLt; omega⟩ (j 1))

/-- The row buffer read where `A` was stored. -/
theorem read_here (v : Memref sig .tc .vmem S528x512 .f32) (o : Nat) (ho : o + 128 ≤ 512) (A : FVec Ideal S512x512 .f32) (H : Fin 16 → Fin 512 → EReal)
    (L : List (View.Piece (Elt Ideal) S528x512 .f32)) (inb16 inb) :
    v.view.readCov (Val := Elt Ideal) (⟨Rect.unit (s := S528x512) ![16, 0] ![512, 512] inb16, A⟩ :: L)
        (Rect.unit (s := S528x512) ![16, o] ![512, 128] inb).toLoadRect
      = window 0 (by decide) o ho A H := by
  refine (View.readCov_eq_canon' _ _ _).trans (funext fun j => ?_)
  have h0 : (j 0).val < 512 := (j 0).isLt
  have h1 : (j 1).val < 128 := (j 1).isLt
  unfold window
  rw [dif_pos (Nat.zero_le _)]
  refine canon_at (e := .f32) (Rect.unit (s := S528x512) ![16, 0] ![512, 512] inb16) A _ _ (ix2 ⟨(j 0).val - 0, by omega⟩ ⟨o + (j 1).val, by omega⟩) ?_
  funext a
  apply Fin.ext
  fin_cases a
  · show 16 + 1 * (j 0).val = 16 + 1 * ((j 0).val - 0); omega
  · show o + 1 * (j 1).val = 0 + 1 * (o + (j 1).val); omega

/-- The row buffer with `A` stored below `H` read from row `off`. -/
theorem read_window (v : Memref sig .tc .vmem S528x512 .f32) (off : Nat) (hoff : off ≤ 16) (o : Nat) (ho : o + 128 ≤ 512) (A : FVec Ideal S512x512 .f32) (H : FVec Ideal S16x512 .f32)
    (inb16 inb0 inb) :
    v.view.readCov (Val := Elt Ideal) [⟨Rect.unit (s := S528x512) ![16, 0] ![512, 512] inb16, A⟩, ⟨Rect.unit (s := S528x512) ![0, 0] ![16, 512] inb0, H⟩]
        (Rect.unit (s := S528x512) ![off, o] ![512, 128] inb).toLoadRect
      = window (16 - off) (by omega) o ho A fun q f => H (ix2 q f) := by
  refine (View.readCov_eq_canon' _ _ _).trans (funext fun j => ?_)
  have h0 : (j 0).val < 512 := (j 0).isLt
  have h1 : (j 1).val < 128 := (j 1).isLt
  unfold window
  split
  · next h =>
    refine canon_at (e := .f32) (Rect.unit (s := S528x512) ![16, 0] ![512, 512] inb16) A _ _ (ix2 ⟨(j 0).val - (16 - off), by omega⟩ ⟨o + (j 1).val, by omega⟩) ?_
    funext a
    apply Fin.ext
    fin_cases a
    · show off + 1 * (j 0).val = 16 + 1 * ((j 0).val - (16 - off)); omega
    · show o + 1 * (j 1).val = 0 + 1 * (o + (j 1).val); omega
  · next h =>
    rw [View.canon_cons_of_not_mem]
    · refine canon_at (e := .f32) (Rect.unit (s := S528x512) ![0, 0] ![16, 512] inb0) H _ _ (ix2 ⟨16 - (16 - off) + (j 0).val, by omega⟩ ⟨o + (j 1).val, by omega⟩) ?_
      funext a
      apply Fin.ext
      fin_cases a
      · show off + 1 * (j 0).val = 0 + 1 * (16 - (16 - off) + (j 0).val); omega
      · show o + 1 * (j 1).val = 0 + 1 * (o + (j 1).val); omega
    · intro hm
      have e : 16 ≤ off + 1 * (j 0).val := ((Rect.mem_set_unit (s := S528x512) (inb := inb16)).mp hm 0).1
      omega

/-- The row buffer with `A` stored over what the point before left, read from row `off`. -/
theorem read_over (v : Memref sig .tc .vmem S528x512 .f32) (hv : v.IsWhole) (off : Nat) (hoff : off ≤ 16) (o : Nat) (ho : o + 128 ≤ 512) (A : FVec Ideal S512x512 .f32) (X : FVec Ideal S528x512 .f32)
    (inb16 inb) :
    View.ld (Val := Elt Ideal) (e' := .f32) (View.read (Elt Ideal) v.view (v.view.writes (Elt Ideal) (hv.unread X) [⟨Rect.unit (s := S528x512) ![16, 0] ![512, 512] inb16, A⟩]))
        (Rect.unit (s := S528x512) ![off, o] ![512, 128] inb)
      = window (16 - off) (by omega) o ho A fun q f => X (ix2 ⟨q.val, by omega⟩ f) := by
  funext j
  have h0 : (j 0).val < 512 := (j 0).isLt
  have h1 : (j 1).val < 128 := (j 1).isLt
  unfold window
  split
  · next h =>
    refine View.read_writes_cons_unit_of_mem (s := S528x512) (e := .f32) (Val := Elt Ideal) (off := ![16, 0]) (off' := ![16, 0]) (size := ![512, 512]) v.view (hv.unread X) inb16 A []
      ((Rect.unit (s := S528x512) ![off, o] ![512, 128] inb).emb j) (ix2 ⟨(j 0).val - (16 - off), by omega⟩ ⟨o + (j 1).val, by omega⟩) rfl fun a => ?_
    fin_cases a
    · show off + 1 * (j 0).val = 16 + ((j 0).val - (16 - off)); omega
    · show o + 1 * (j 1).val = 0 + (o + (j 1).val); omega
  · next h =>
    refine (View.read_writes_cons_unit_of_not_mem (s := S528x512) (e := .f32) (Val := Elt Ideal) (off := ![16, 0]) (off' := ![16, 0]) (size := ![512, 512]) v.view (hv.unread X) inb16 A []
      ((Rect.unit (s := S528x512) ![off, o] ![512, 128] inb).emb j) rfl 0 (Or.inl ?_)).trans ?_
    · show off + 1 * (j 0).val < 16; omega
    · have e : v.view.read (Elt Ideal) (hv.unread X) = X := hv.read_unread (Val := Elt Ideal) X
      refine (congrFun e _).trans (congrArg (fun y => X y) (funext fun a => Fin.ext ?_))
      fin_cases a
      · show off + 1 * (j 0).val = 16 - (16 - off) + (j 0).val; omega
      · show o + 1 * (j 1).val = o + (j 1).val; omega

/-- Read from row 512, it is the last sixteen rows of `A`. -/
theorem read_tail (v : Memref sig .tc .vmem S528x512 .f32) (A : FVec Ideal S512x512 .f32)
    (L : List (View.Piece (Elt Ideal) S528x512 .f32)) (inb16 inb) :
    v.view.readCov (Val := Elt Ideal) (⟨Rect.unit (s := S528x512) ![16, 0] ![512, 512] inb16, A⟩ :: L)
        (Rect.unit (s := S528x512) ![512, 0] ![16, 512] inb).toLoadRect
      = tail A := by
  refine (View.readCov_eq_canon' _ _ _).trans (funext fun j => ?_)
  have h0 : (j 0).val < 16 := (j 0).isLt
  refine canon_at (e := .f32) (Rect.unit (s := S528x512) ![16, 0] ![512, 512] inb16) A _ _ (ix2 ⟨496 + (j 0).val, by omega⟩ (j 1)) ?_
  funext a
  apply Fin.ext
  fin_cases a
  · show 512 + 1 * (j 0).val = 16 + 1 * (496 + (j 0).val); omega
  · show 0 + 1 * (j 1).val = 0 + 1 * (j 1).val; rfl

theorem halo_cast (T : FVec Ideal S16x512 .f32) (q : Fin 16) (f : Fin 512) : k0_pay34 (F := Ideal) T (ix2 q f) = T (ix2 q f) := by
  pointwise [k0_pay34]

theorem rows_apply (x : FVec Ideal S1x512x1024 .f32) (w : FVec Ideal S1024x4096 .bf16) (inb) (r : Fin 512) (d : Fin 512) :
    k0_pay22 (F := Ideal) (k0_pay3 x) (View.ld (Val := Elt Ideal) (e' := .bf16) w (Rect.unit (s := S1024x4096) ![0, 1536] ![1024, 512] inb)) (ix2 r d)
      = lin x w r ⟨1536 + d.val, by omega⟩ := by
  refine Eq.trans ?_ (lin_apply x w 1536 (by decide) inb r d)
  generalize View.ld (Val := Elt Ideal) (e' := .bf16) w (Rect.unit (s := S1024x4096) ![0, 1536] ![1024, 512] inb) = W
  pointwise [k0_pay22, k0_pay14]

/-- The pooled column `k` rows above a row, with `H` above the block. -/
def back (x : FVec Ideal S1x512x1024 .f32) (w : FVec Ideal S1024x4096 .bf16) (H : Fin 16 → Fin 512 → EReal) (r : Fin 512) (f : Fin 512) (k : Nat) : EReal :=
  if h : k ≤ r.val then lin x w ⟨r.val - k, by omega⟩ ⟨1536 + f.val, by omega⟩ else if h' : k ≤ 16 then H ⟨16 - k + r.val, by omega⟩ f else 0

theorem window_apply (x : FVec Ideal S1x512x1024 .f32) (w : FVec Ideal S1024x4096 .bf16) (inb) (H : Fin 16 → Fin 512 → EReal) (k : Nat) (hk : k ≤ 16) (o : Nat) (ho : o + 128 ≤ 512)
    (r : Fin 512) (l : Fin 128) :
    window k hk o ho (k0_pay22 (F := Ideal) (k0_pay3 x) (View.ld (Val := Elt Ideal) (e' := .bf16) w (Rect.unit (s := S1024x4096) ![0, 1536] ![1024, 512] inb))) H (ix2 r l)
      = back x w H r ⟨o + l.val, by omega⟩ k := by
  unfold back
  change (if h : k ≤ r.val then _ else _) = _
  by_cases h : k ≤ r.val
  · rw [dif_pos h, dif_pos h]
    exact rows_apply x w inb _ _
  · rw [dif_neg h, dif_neg h, dif_pos hk]
    rfl

/-- The sum of `u 0`, …, `u n`, from the left. -/
def wsum (u : Nat → EReal) : Nat → EReal
  | 0 => u 0
  | n + 1 => wsum u n + u (n + 1)

/-- How many rows the window of `n` rows holds at row `r` of the block at `i`. -/
def cnt (n : BitVec 32) (i : BitVec 32) (r : Fin 512) : EReal :=
  FloatOps.sitofp (F := Ideal) .f32 (IntOp.minsi (IntOp.addi (IntOp.addi (Scalar.muli i 512#32) (BitVec.ofNat 32 r.val)) 1#32) n)

theorem mix_0 (i : BitVec 32) (A B : FVec Ideal S512x128 .f32) (W : FVec Ideal S1x128x128 .bf16) (p : FVec Ideal S1x128 .f32) (r : Fin 512) (j : Fin 128) :
    k0_pay24 (F := Ideal) (k0_pay23 i) A B W p (ix3 0 r j)
      = (∑ l : Fin 128, (Ideal.div (A (ix2 r l) + B (ix2 r l) : EReal) (cnt 2#32 i r) - A (ix2 r l) : EReal) * W (ix3 0 l j)) * p (ix2 0 j) := by
  unfold cnt
  pointwise [k0_pay24, k0_pay23]

theorem mix_1 (i : BitVec 32) (A Z : FVec Ideal S512x128 .f32) (W : FVec Ideal S1x128x128 .bf16) (p : FVec Ideal S1x128 .f32) (r : Fin 512) (j : Fin 128) :
    k0_pay27 (F := Ideal) A Z (k0_pay26 (k0_pay23 i)) W p (ix3 0 r j)
      = (∑ l : Fin 128, (Ideal.div (Z (ix2 r l)) (cnt 4#32 i r) - A (ix2 r l) : EReal) * W (ix3 0 l j)) * p (ix2 0 j) := by
  unfold cnt
  pointwise [k0_pay27, k0_pay26, k0_pay23]

theorem mix_2 (i : BitVec 32) (A Z : FVec Ideal S512x128 .f32) (W : FVec Ideal S1x128x128 .bf16) (p : FVec Ideal S1x128 .f32) (r : Fin 512) (j : Fin 128) :
    k0_pay30 (F := Ideal) A Z (k0_pay29 (k0_pay23 i)) 8#32 W p (ix3 0 r j)
      = (∑ l : Fin 128, (Ideal.div (Z (ix2 r l)) (cnt 8#32 i r) - A (ix2 r l) : EReal) * W (ix3 0 l j)) * p (ix2 0 j) := by
  unfold cnt
  pointwise [k0_pay30, k0_pay29, k0_pay23]

theorem mix_3 (i : BitVec 32) (A Z B1 B2 B3 B4 B5 B6 B7 B8 : FVec Ideal S512x128 .f32) (W : FVec Ideal S1x128x128 .bf16) (p : FVec Ideal S1x128 .f32) (r : Fin 512) (j : Fin 128) :
    k0_pay33 (F := Ideal) (k0_pay32 (k0_pay23 i) A Z B1 B2 B3 B4 B5 B6 B7 B8 W p) (ix3 0 r j)
      = (∑ l : Fin 128, (Ideal.div (Z (ix2 r l) + B1 (ix2 r l) + B2 (ix2 r l) + B3 (ix2 r l) + B4 (ix2 r l) + B5 (ix2 r l) + B6 (ix2 r l) + B7 (ix2 r l) + B8 (ix2 r l) : EReal) (cnt 16#32 i r) - A (ix2 r l) : EReal)
        * W (ix3 0 l j)) * p (ix2 0 j) := by
  unfold cnt
  pointwise [k0_pay33, k0_pay32, k0_pay23]

theorem add_at (A B : FVec Ideal S512x128 .f32) (r : Fin 512) (l : Fin 128) : addf A B (ix2 r l) = (A (ix2 r l) + B (ix2 r l) : EReal) := rfl

/-- A row of the pooled and mixed columns of one group: the mean of the window's rows less the row itself, times the group's weights and scale. -/
def mixed (x : FVec Ideal S1x512x1024 .f32) (w : FVec Ideal S1024x4096 .bf16) (W : FVec Ideal S4x128x128 .bf16) (p : FVec Ideal S1x512 .f32) (H : Fin 16 → Fin 512 → EReal) (i : BitVec 32)
    (r : Fin 512) (g : Fin 4) (j : Fin 128) : EReal :=
  (∑ l : Fin 128, (Ideal.div (wsum (back x w H r ⟨128 * g.val + l.val, by omega⟩) (2 ^ (g.val + 1) - 1)) (cnt (BitVec.ofNat 32 (2 ^ (g.val + 1))) i r)
    - back x w H r ⟨128 * g.val + l.val, by omega⟩ 0 : EReal) * W (ix3 g l j)) * p (ix2 0 ⟨128 * g.val + j.val, by omega⟩)

theorem ld3_at (X : FVec Ideal S4x128x128 .bf16) (p : Nat) (inb) (l j : Fin 128) (g : Fin 4) (hg : g.val = p) :
    View.ld (Val := Elt Ideal) (e' := .bf16) X (Rect.unit (s := S4x128x128) ![p, 0, 0] ![1, 128, 128] inb) (ix3 0 l j) = X (ix3 g l j) := by
  subst hg
  refine congrArg X (funext fun a => Fin.ext ?_)
  fin_cases a
  · rfl
  · show 0 + 1 * l.val = l.val; omega
  · show 0 + 1 * j.val = j.val; omega

/-- A column of the pooled and mixed columns. -/
def mixes (x : FVec Ideal S1x512x1024 .f32) (w : FVec Ideal S1024x4096 .bf16) (W : FVec Ideal S4x128x128 .bf16) (p : FVec Ideal S1x512 .f32) (H : Fin 16 → Fin 512 → EReal) (i : BitVec 32)
    (r : Fin 512) (f : Fin 512) : EReal := mixed x w W p H i r ⟨f.val / 128, by omega⟩ ⟨f.val % 128, by omega⟩

/-- A group's columns, from sums that are the windows' sums. -/
theorem mix_of (x : FVec Ideal S1x512x1024 .f32) (w : FVec Ideal S1024x4096 .bf16) (W : FVec Ideal S4x128x128 .bf16) (p : FVec Ideal S1x512 .f32) (H : Fin 16 → Fin 512 → EReal) (i : BitVec 32)
    (g : Fin 4) (o : Nat) (ho : o = 128 * g.val) (inb inb') (r : Fin 512) (j : Fin 128) (f : Fin 512) (hf : f.val = o + j.val) (Z A : Fin 128 → EReal) (n : BitVec 32) (hn : n = BitVec.ofNat 32 (2 ^ (g.val + 1)))
    (hZ : ∀ l : Fin 128, Z l = wsum (back x w H r ⟨128 * g.val + l.val, by omega⟩) (2 ^ (g.val + 1) - 1))
    (hA : ∀ l : Fin 128, A l = back x w H r ⟨128 * g.val + l.val, by omega⟩ 0) :
    (∑ l : Fin 128, (Ideal.div (Z l) (cnt n i r) - A l : EReal) * View.ld (Val := Elt Ideal) (e' := .bf16) W (Rect.unit (s := S4x128x128) ![g.val, 0, 0] ![1, 128, 128] inb) (ix3 0 l j))
      * View.ld (Val := Elt Ideal) (e' := .f32) p (Rect.unit (s := S1x512) ![0, o] ![1, 128] inb') (ix2 0 j) = mixes x w W p H i r f := by
  have eg : (⟨f.val / 128, by omega⟩ : Fin 4) = g := Fin.ext (show f.val / 128 = g.val by omega)
  have ej : (⟨f.val % 128, by omega⟩ : Fin 128) = j := Fin.ext (show f.val % 128 = j.val by omega)
  unfold mixes
  rw [eg, ej]
  unfold mixed
  subst hn
  refine congrArg₂ (fun a b : EReal => a * b) (Finset.sum_congr rfl fun l _ => ?_) (ld_at (t := .f32) p 0 o _ 0 j 0 _ rfl (show 128 * g.val + j.val = o + j.val by omega))
  rw [hZ, hA, ld3_at W g.val _ l j g rfl]

variable (c : Dev nD) (i : grid0.Coords) (arg2 : Memref sig .tc .vmem S1x512x1024 .f32) (harg2 : arg2.IsWhole) (arg3 : Memref sig .tc .vmem S1024x4096 .bf16) (harg3 : arg3.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x2048 .bf16) (harg13 : arg13.IsWhole) (arg14 : Memref sig .tc .vmem S528x512 .f32) (harg14 : arg14.IsWhole)
  (x0 : Vec Ideal S1x512x1024 .f32) (x1 : Vec Ideal S1024x4096 .bf16) (x2 : Vec Ideal S1x2048 .f32) (x3 : Vec Ideal S512x128 .f32) (x4 : Vec Ideal S512x128 .f32) (x5 : Vec Ideal S4x128x128 .bf16) (x6 : Vec Ideal S1x512 .f32)

theorem mixes_A (hc0 : cond0_0 i) (r : Fin 512) (f : Fin 512) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r f) = mixes x0 x1 x5 x6 (fun q f => k0_pay21 (F := Ideal) (ix2 q f)) (BitVec.ofNat 32 (i 1).val) r f := by
  frame_out
  simp (disch := decide) only [read_window, read_over, read_here _ _ _ _ (fun q f => k0_pay21 (F := Ideal) (ix2 q f))]
  refine canon_lanes 384 _ _ _ (fun r f => mixes x0 x1 x5 x6 (fun q f => k0_pay21 (F := Ideal) (ix2 q f)) (BitVec.ofNat 32 (i 1).val) r f) r f (by omega) (fun d hd => (mix_3 _ _ _ _ _ _ _ _ _ _ _ _ _ r d).trans (mix_of x0 x1 x5 x6 _ _ 3 384 rfl _ _ r d f hd (fun l => _) (fun l => _) _ rfl
    (fun l => by
      simp only [k0_pay31, add_at, window_apply]
      rfl) (fun l => window_apply _ _ _ _ _ _ _ _ _ _))) fun h => ?_
  refine canon_lanes 256 _ _ _ (fun r f => mixes x0 x1 x5 x6 (fun q f => k0_pay21 (F := Ideal) (ix2 q f)) (BitVec.ofNat 32 (i 1).val) r f) r f (by omega) (fun d hd => (mix_2 _ _ _ _ _ r d).trans (mix_of x0 x1 x5 x6 _ _ 2 256 rfl _ _ r d f hd (fun l => _) (fun l => _) _ rfl
    (fun l => by
      simp only [k0_pay28, add_at, window_apply]
      rfl) (fun l => window_apply _ _ _ _ _ _ _ _ _ _))) fun h => ?_
  refine canon_lanes 128 _ _ _ (fun r f => mixes x0 x1 x5 x6 (fun q f => k0_pay21 (F := Ideal) (ix2 q f)) (BitVec.ofNat 32 (i 1).val) r f) r f (by omega) (fun d hd => (mix_1 _ _ _ _ _ r d).trans (mix_of x0 x1 x5 x6 _ _ 1 128 rfl _ _ r d f hd (fun l => _) (fun l => _) _ rfl
    (fun l => by
      simp only [k0_pay25, add_at, window_apply]
      rfl) (fun l => window_apply _ _ _ _ _ _ _ _ _ _))) fun h => ?_
  refine canon_lanes 0 _ _ _ (fun r f => mixes x0 x1 x5 x6 (fun q f => k0_pay21 (F := Ideal) (ix2 q f)) (BitVec.ofNat 32 (i 1).val) r f) r f (by omega) (fun d hd => (mix_0 _ _ _ _ _ r d).trans (mix_of x0 x1 x5 x6 _ _ 0 0 rfl _ _ r d f hd (fun l => _) (fun l => _) _ rfl
    (fun l => by
      simp only [add_at, window_apply]
      rfl) (fun l => window_apply _ _ _ _ _ _ _ _ _ _))) fun h => ?_
  exact absurd h (Nat.not_lt_zero _)

theorem carry_A (hc0 : cond0_0 i) (q : Fin 16) (f : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 (⟨q.val, by omega⟩ : Fin 528) f) = lin x0 x1 ⟨496 + q.val, by omega⟩ ⟨1536 + f.val, by omega⟩ := by
  frame_out
  simp only [read_tail]
  refine (canon_at (e := .f32) (Rect.unit (s := S528x512) ![0, 0] ![16, 512] inb_S528x512_S16x512_0_0) _ _ _ (ix2 q f) ?_).trans ((halo_cast _ q f).trans (rows_apply x0 x1 _ _ f))
  funext a
  apply Fin.ext
  fin_cases a
  · show q.val = 0 + 1 * q.val; omega
  · show f.val = 0 + 1 * f.val; omega

theorem mixes_B (hc0 : ¬cond0_0 i) (xs : Vec Ideal S528x512 .f32) (r : Fin 512) (f : Fin 512) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix3 0 r f) = mixes x0 x1 x5 x6 (fun q f => xs (ix2 ⟨q.val, by omega⟩ f)) (BitVec.ofNat 32 (i 1).val) r f := by
  frame_out
  simp (disch := decide) only [read_window, read_over, read_here _ _ _ _ (fun q f => xs (ix2 ⟨q.val, by omega⟩ f))]
  refine canon_lanes 384 _ _ _ (fun r f => mixes x0 x1 x5 x6 (fun q f => xs (ix2 ⟨q.val, by omega⟩ f)) (BitVec.ofNat 32 (i 1).val) r f) r f (by omega) (fun d hd => (mix_3 _ _ _ _ _ _ _ _ _ _ _ _ _ r d).trans (mix_of x0 x1 x5 x6 _ _ 3 384 rfl _ _ r d f hd (fun l => _) (fun l => _) _ rfl
    (fun l => by
      simp only [k0_pay31, add_at, window_apply]
      rfl) (fun l => window_apply _ _ _ _ _ _ _ _ _ _))) fun h => ?_
  refine canon_lanes 256 _ _ _ (fun r f => mixes x0 x1 x5 x6 (fun q f => xs (ix2 ⟨q.val, by omega⟩ f)) (BitVec.ofNat 32 (i 1).val) r f) r f (by omega) (fun d hd => (mix_2 _ _ _ _ _ r d).trans (mix_of x0 x1 x5 x6 _ _ 2 256 rfl _ _ r d f hd (fun l => _) (fun l => _) _ rfl
    (fun l => by
      simp only [k0_pay28, add_at, window_apply]
      rfl) (fun l => window_apply _ _ _ _ _ _ _ _ _ _))) fun h => ?_
  refine canon_lanes 128 _ _ _ (fun r f => mixes x0 x1 x5 x6 (fun q f => xs (ix2 ⟨q.val, by omega⟩ f)) (BitVec.ofNat 32 (i 1).val) r f) r f (by omega) (fun d hd => (mix_1 _ _ _ _ _ r d).trans (mix_of x0 x1 x5 x6 _ _ 1 128 rfl _ _ r d f hd (fun l => _) (fun l => _) _ rfl
    (fun l => by
      simp only [k0_pay25, add_at, window_apply]
      rfl) (fun l => window_apply _ _ _ _ _ _ _ _ _ _))) fun h => ?_
  refine canon_lanes 0 _ _ _ (fun r f => mixes x0 x1 x5 x6 (fun q f => xs (ix2 ⟨q.val, by omega⟩ f)) (BitVec.ofNat 32 (i 1).val) r f) r f (by omega) (fun d hd => (mix_0 _ _ _ _ _ r d).trans (mix_of x0 x1 x5 x6 _ _ 0 0 rfl _ _ r d f hd (fun l => _) (fun l => _) _ rfl
    (fun l => by
      simp only [add_at, window_apply]
      rfl) (fun l => window_apply _ _ _ _ _ _ _ _ _ _))) fun h => ?_
  exact absurd h (Nat.not_lt_zero _)

theorem carry_B (hc0 : ¬cond0_0 i) (xs : Vec Ideal S528x512 .f32) (q : Fin 16) (f : Fin 512) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs (ix2 (⟨q.val, by omega⟩ : Fin 528) f) = lin x0 x1 ⟨496 + q.val, by omega⟩ ⟨1536 + f.val, by omega⟩ := by
  frame_out
  simp only [read_tail]
  refine (canon_at (e := .f32) (Rect.unit (s := S528x512) ![0, 0] ![16, 512] inb_S528x512_S16x512_0_0) _ _ _ (ix2 q f) ?_).trans ((halo_cast _ q f).trans (rows_apply x0 x1 _ _ f))
  funext a
  apply Fin.ext
  fin_cases a
  · show q.val = 0 + 1 * q.val; omega
  · show f.val = 0 + 1 * f.val; omega

end Cert.InprojIdeal.Hand

end
-- ==== Proof.InprojRef.lean ====
/- The projection reference read at an index: the products, the rotated queries and keys, the values and the gates. -/
module

public import proofs.«01_k».proof.Proof.LayerNorm
public import proofs.«01_k».proof.Proof.Gen.InprojRefIdeal.Read

@[expose] public section

set_option maxRecDepth 16384

noncomputable section

namespace Cert.InprojRefIdeal.Hand

open Cert.InprojRefIdeal Cert.InprojRefIdeal.Read Idealize.ShloMosaic

variable (x0 : FVec Ideal S8x2048x1024 .f32) (x1 : FVec Ideal S1x1024x4096 .f32) (x2 : FVec Ideal S1x2048 .f32)

/-- The product of token `(b, s)` with column `f` of the joined weight. -/
def lin (b : Fin 8) (s : Fin 2048) (f : Fin 4096) : EReal := ∑ k : Fin 1024, x0 (ix3 b s k) * x1 (ix3 0 k f)

/-- The rotation tables. -/
def cosT (s : Fin 2048) (d : Fin 32) : EReal := val_main_v13 (F := Ideal) (ix2 s d)
def sinT (s : Fin 2048) (d : Fin 32) : EReal := val_main_v14 (F := Ideal) (ix2 s d)

/-- A column of the rotated queries or keys, whose columns start at `base`. -/
def spin (base : Nat) (hb : base + 512 ≤ 4096) (b : Fin 8) (s : Fin 2048) (f : Fin 512) : EReal :=
  if h : f.val % 64 < 32 then
    lin x0 x1 b s ⟨base + f.val, by omega⟩ * cosT s ⟨f.val % 32, by omega⟩ - lin x0 x1 b s ⟨base + f.val + 32, by omega⟩ * sinT s ⟨f.val % 32, by omega⟩
  else lin x0 x1 b s ⟨base + f.val, by omega⟩ * cosT s ⟨f.val % 32, by omega⟩ + lin x0 x1 b s ⟨base + f.val - 32, by omega⟩ * sinT s ⟨f.val % 32, by omega⟩

theorem lin_apply (b : Fin 8) (s : Fin 2048) (f : Fin 4096) : val_main_v16 (F := Ideal) x0 x1 (ix3 b s f) = lin x0 x1 b s f := by
  unfold lin
  pointwise [val_main_v16, val_main_v15]

theorem q1_apply (b h : Fin 8) (s : Fin 2048) (d : Fin 32) :
    val_main_v20 (F := Ideal) x0 x1 (ix4 b h s d) = lin x0 x1 b s ⟨0 + (64 * h.val + d.val + 0), by omega⟩ := by
  have hp := lin_apply x0 x1 b s
  unfold val_main_v20 val_main_v19 val_main_v18 val_main_v17
  generalize val_main_v16 (F := Ideal) x0 x1 = G at hp ⊢
  pointwise [hp]
  exact congrArg (fun q => lin x0 x1 b s q) (Fin.ext (by dsimp only; omega))

theorem q2_apply (b h : Fin 8) (s : Fin 2048) (d : Fin 32) :
    val_main_v21 (F := Ideal) x0 x1 (ix4 b h s d) = lin x0 x1 b s ⟨0 + (64 * h.val + d.val + 32), by omega⟩ := by
  have hp := lin_apply x0 x1 b s
  unfold val_main_v21 val_main_v19 val_main_v18 val_main_v17
  generalize val_main_v16 (F := Ideal) x0 x1 = G at hp ⊢
  pointwise [hp]
  exact congrArg (fun q => lin x0 x1 b s q) (Fin.ext (by dsimp only; omega))

theorem k1_apply (b h : Fin 8) (s : Fin 2048) (d : Fin 32) :
    val_main_v44 (F := Ideal) x0 x1 (ix4 b h s d) = lin x0 x1 b s ⟨512 + (64 * h.val + d.val + 0), by omega⟩ := by
  have hp := lin_apply x0 x1 b s
  unfold val_main_v44 val_main_v43 val_main_v42 val_main_v41
  generalize val_main_v16 (F := Ideal) x0 x1 = G at hp ⊢
  pointwise [hp]
  exact congrArg (fun q => lin x0 x1 b s q) (Fin.ext (by dsimp only; omega))

theorem k2_apply (b h : Fin 8) (s : Fin 2048) (d : Fin 32) :
    val_main_v45 (F := Ideal) x0 x1 (ix4 b h s d) = lin x0 x1 b s ⟨512 + (64 * h.val + d.val + 32), by omega⟩ := by
  have hp := lin_apply x0 x1 b s
  unfold val_main_v45 val_main_v43 val_main_v42 val_main_v41
  generalize val_main_v16 (F := Ideal) x0 x1 = G at hp ⊢
  pointwise [hp]
  exact congrArg (fun q => lin x0 x1 b s q) (Fin.ext (by dsimp only; omega))

theorem q_low (b h : Fin 8) (s : Fin 2048) (d : Fin 32) :
    val_main_v28 (F := Ideal) x0 x1 (ix4 b h s d) = lin x0 x1 b s ⟨0 + (64 * h.val + d.val + 0), by omega⟩ * cosT s d - lin x0 x1 b s ⟨0 + (64 * h.val + d.val + 32), by omega⟩ * sinT s d := by
  have e1 := q1_apply x0 x1 b h s d
  have e2 := q2_apply x0 x1 b h s d
  rw [← e1, ← e2]
  unfold val_main_v28 cosT sinT val_main_v24 val_main_v27 val_main_v23 val_main_v22 val_main_v26 val_main_v25
  generalize val_main_v20 (F := Ideal) x0 x1 = A
  generalize val_main_v21 (F := Ideal) x0 x1 = B
  generalize val_main_v13 (F := Ideal) = C
  generalize val_main_v14 (F := Ideal) = S
  pointwise

theorem q_high (b h : Fin 8) (s : Fin 2048) (d : Fin 32) :
    val_main_v35 (F := Ideal) x0 x1 (ix4 b h s d) = lin x0 x1 b s ⟨0 + (64 * h.val + d.val + 32), by omega⟩ * cosT s d + lin x0 x1 b s ⟨0 + (64 * h.val + d.val + 0), by omega⟩ * sinT s d := by
  have e1 := q1_apply x0 x1 b h s d
  have e2 := q2_apply x0 x1 b h s d
  rw [← e1, ← e2]
  unfold val_main_v35 cosT sinT val_main_v31 val_main_v30 val_main_v29 val_main_v34 val_main_v33 val_main_v32
  generalize val_main_v20 (F := Ideal) x0 x1 = A
  generalize val_main_v21 (F := Ideal) x0 x1 = B
  generalize val_main_v13 (F := Ideal) = C
  generalize val_main_v14 (F := Ideal) = S
  pointwise

theorem q_apply (b : Fin 8) (s : Fin 2048) (f : Fin 512) : val_main_v196 (F := Ideal) x0 x1 (ix3 b s f) = spin x0 x1 0 (by decide) b s f * Ideal.ofBits .f32 0x3E000000#32 := by
  have hl := q_low x0 x1 b ⟨f.val / 64, by omega⟩ s
  have hh := q_high x0 x1 b ⟨f.val / 64, by omega⟩ s
  unfold val_main_v196 val_main_v40 val_main_v39 val_main_v38 val_main_v37 val_main_v36
  generalize val_main_v28 (F := Ideal) x0 x1 = A at hl ⊢
  generalize val_main_v35 (F := Ideal) x0 x1 = B at hh ⊢
  pointwise [val_main_cst_2]
  refine congrArg (fun q : EReal => q * Ideal.ofBits .f32 0x3E000000#32) ?_
  unfold spin
  by_cases h : f.val % 64 < 32
  · rw [dif_pos h, dif_pos h, hl]
    exact congrArg₂ (fun a b : EReal => a - b)
      (congrArg₂ (fun a b : EReal => a * b) (congrArg (fun q => lin x0 x1 b s q) (Fin.ext (by dsimp only; omega))) (congrArg (fun q => cosT s q) (Fin.ext (by dsimp only; omega))))
      (congrArg₂ (fun a b : EReal => a * b) (congrArg (fun q => lin x0 x1 b s q) (Fin.ext (by dsimp only; omega))) (congrArg (fun q => sinT s q) (Fin.ext (by dsimp only; omega))))
  · rw [dif_neg h, dif_neg h, hh]
    exact congrArg₂ (fun a b : EReal => a + b)
      (congrArg₂ (fun a b : EReal => a * b) (congrArg (fun q => lin x0 x1 b s q) (Fin.ext (by dsimp only; omega))) (congrArg (fun q => cosT s q) (Fin.ext (by dsimp only; omega))))
      (congrArg₂ (fun a b : EReal => a * b) (congrArg (fun q => lin x0 x1 b s q) (Fin.ext (by dsimp only; omega))) (congrArg (fun q => sinT s q) (Fin.ext (by dsimp only; omega))))

theorem k_low (b h : Fin 8) (s : Fin 2048) (d : Fin 32) :
    val_main_v52 (F := Ideal) x0 x1 (ix4 b h s d) = lin x0 x1 b s ⟨512 + (64 * h.val + d.val + 0), by omega⟩ * cosT s d - lin x0 x1 b s ⟨512 + (64 * h.val + d.val + 32), by omega⟩ * sinT s d := by
  have e1 := k1_apply x0 x1 b h s d
  have e2 := k2_apply x0 x1 b h s d
  rw [← e1, ← e2]
  unfold val_main_v52 cosT sinT val_main_v48 val_main_v47 val_main_v46 val_main_v51 val_main_v50 val_main_v49
  generalize val_main_v44 (F := Ideal) x0 x1 = A
  generalize val_main_v45 (F := Ideal) x0 x1 = B
  generalize val_main_v13 (F := Ideal) = C
  generalize val_main_v14 (F := Ideal) = S
  pointwise

theorem k_high (b h : Fin 8) (s : Fin 2048) (d : Fin 32) :
    val_main_v59 (F := Ideal) x0 x1 (ix4 b h s d) = lin x0 x1 b s ⟨512 + (64 * h.val + d.val + 32), by omega⟩ * cosT s d + lin x0 x1 b s ⟨512 + (64 * h.val + d.val + 0), by omega⟩ * sinT s d := by
  have e1 := k1_apply x0 x1 b h s d
  have e2 := k2_apply x0 x1 b h s d
  rw [← e1, ← e2]
  unfold val_main_v59 cosT sinT val_main_v55 val_main_v54 val_main_v53 val_main_v58 val_main_v57 val_main_v56
  generalize val_main_v44 (F := Ideal) x0 x1 = A
  generalize val_main_v45 (F := Ideal) x0 x1 = B
  generalize val_main_v13 (F := Ideal) = C
  generalize val_main_v14 (F := Ideal) = S
  pointwise

theorem k_apply (b : Fin 8) (s : Fin 2048) (f : Fin 512) : val_main_v197 (F := Ideal) x0 x1 (ix3 b s f) = spin x0 x1 512 (by decide) b s f := by
  have hl := k_low x0 x1 b ⟨f.val / 64, by omega⟩ s
  have hh := k_high x0 x1 b ⟨f.val / 64, by omega⟩ s
  unfold val_main_v197 val_main_v62 val_main_v61 val_main_v60
  generalize val_main_v52 (F := Ideal) x0 x1 = A at hl ⊢
  generalize val_main_v59 (F := Ideal) x0 x1 = B at hh ⊢
  pointwise
  unfold spin
  by_cases h : f.val % 64 < 32
  · rw [dif_pos h, dif_pos h, hl]
    exact congrArg₂ (fun a b : EReal => a - b)
      (congrArg₂ (fun a b : EReal => a * b) (congrArg (fun q => lin x0 x1 b s q) (Fin.ext (by dsimp only; omega))) (congrArg (fun q => cosT s q) (Fin.ext (by dsimp only; omega))))
      (congrArg₂ (fun a b : EReal => a * b) (congrArg (fun q => lin x0 x1 b s q) (Fin.ext (by dsimp only; omega))) (congrArg (fun q => sinT s q) (Fin.ext (by dsimp only; omega))))
  · rw [dif_neg h, dif_neg h, hh]
    exact congrArg₂ (fun a b : EReal => a + b)
      (congrArg₂ (fun a b : EReal => a * b) (congrArg (fun q => lin x0 x1 b s q) (Fin.ext (by dsimp only; omega))) (congrArg (fun q => cosT s q) (Fin.ext (by dsimp only; omega))))
      (congrArg₂ (fun a b : EReal => a * b) (congrArg (fun q => lin x0 x1 b s q) (Fin.ext (by dsimp only; omega))) (congrArg (fun q => sinT s q) (Fin.ext (by dsimp only; omega))))

theorem v_apply (b : Fin 8) (s : Fin 2048) (f : Fin 512) : val_main_v198 (F := Ideal) x0 x1 (ix3 b s f) = lin x0 x1 b s ⟨1024 + f.val, by omega⟩ := by
  have hp := lin_apply x0 x1 b s
  unfold val_main_v198 val_main_v63
  generalize val_main_v16 (F := Ideal) x0 x1 = G at hp ⊢
  pointwise [hp]

theorem u_apply (b : Fin 8) (s : Fin 2048) (f : Fin 512) : val_main_v64 (F := Ideal) x0 x1 (ix3 b s f) = lin x0 x1 b s ⟨1536 + f.val, by omega⟩ := by
  have hp := lin_apply x0 x1 b s
  unfold val_main_v64
  generalize val_main_v16 (F := Ideal) x0 x1 = G at hp ⊢
  pointwise [hp]

theorem gate_apply (b : Fin 8) (s : Fin 2048) (f : Fin 2048) :
    val_main_v200 (F := Ideal) x0 x1 x2 (ix3 b s f) = FloatOps.logistic (F := Ideal) (φ := .f32) (lin x0 x1 b s ⟨2048 + f.val, by omega⟩ + x2 (ix2 0 f) : EReal) := by
  have hp := lin_apply x0 x1 b s
  unfold val_main_v200 val_main_v195 val_main_v193 val_main_v191 val_main_v190 val_main_v189 val_main_v185
  generalize val_main_v16 (F := Ideal) x0 x1 = G at hp ⊢
  pointwise [hp, val_main_v194, val_main_v192, val_main_v188, val_main_v187, val_main_v186, val_main_cst_31, val_main_cst_32]
  rfl

end Cert.InprojRefIdeal.Hand

end
-- ==== Proof.InprojSum.lean ====
/- The projection reference's running sum, its zero row and the reads of it at a window's start, at an index. -/
module

public import proofs.«01_k».proof.Proof.InprojRef

@[expose] public section

set_option maxRecDepth 16384

noncomputable section

namespace Cert.InprojRefIdeal.Hand

open Cert.InprojRefIdeal Cert.InprojRefIdeal.Read Idealize.ShloMosaic

theorem foldl_add {N : Nat} (g : Fin N → EReal) (z : EReal) : (List.finRange N).foldl (fun r n => r + g n) z = z + ∑ n, g n := by
  rw [← List.sum_ofFn, List.ofFn_eq_map]
  generalize List.finRange N = L
  induction L generalizing z with
  | nil => simp
  | cons a L ih => rw [List.foldl_cons, ih, List.map_cons, List.sum_cons, add_assoc]

/-- A window sum, as a sum over the window's indices. -/
theorem window_sum {s t u : Shape} (window strides lo hi : Fin s.rank → Nat) (x : s.Idx → EReal) (z : u.Idx → EReal) (h : s.ReduceWindows window strides lo hi t) (hu : 0 < u.numel) (j : t.Idx) :
    Host.reduceWindowAdd (F := Ideal) (φ := .f32) window strides lo hi x z h hu j
      = z (Shape.Idx.first hu) + ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else z (Shape.Idx.first hu)) :=
  (foldl_add _ _).trans (congrArg (fun q => z (Shape.Idx.first hu) + q) ((Finset.sum_congr rfl fun n _ => by dsimp only; congr).trans (Equiv.sum_comp (⟨s.rank, window⟩ : Shape).rowMajor.symm fun w : (⟨s.rank, window⟩ : Shape).Idx =>
    (if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else z (Shape.Idx.first hu)))))

/-- The row `d` above row `s` of a column, zero above the first. -/
def above (u : Fin 2048 → EReal) (s : Nat) (d : Nat) : EReal := if h : d ≤ s ∧ s < 2048 then u ⟨s - d, by omega⟩ else 0

/-- The running sum down the rows. -/
theorem running (x : FVec Ideal S8x2048x512 .f32) (z : S_.Idx → EReal) (hz : ∀ i, z i = 0) (h hu) (b : Fin 8) (s : Fin 2048) (f : Fin 512) :
    Host.reduceWindowAdd (F := Ideal) (φ := .f32) (s := S8x2048x512) (t := S8x2048x512) (u := S_) ![1, 2048, 1] ![1, 1, 1] ![0, 2047, 0] ![0, 0, 0] x z h hu (ix3 b s f)
      = ∑ d ∈ Finset.range 2048, above (fun k => x (ix3 b k f)) s.val d := by
  have hs := s.isLt
  have hb := b.isLt
  have hf := f.isLt
  have hv : z (Shape.Idx.first hu) = 0 := hz _
  refine (window_sum (s := S8x2048x512) (t := S8x2048x512) (u := S_) ![1, 2048, 1] ![1, 1, 1] ![0, 2047, 0] ![0, 0, 0] x z h hu (ix3 b s f)).trans ?_
  rw [hv, zero_add]
  refine (Finset.sum_congr rfl fun w _ => (?_ : _ = above (fun k => x (ix3 b k f)) s.val (2047 - (w 1).val))).trans ?_
  · have w0 : (w 0).val < 1 := (w 0).isLt
    have w1 : (w 1).val < 2048 := (w 1).isLt
    have w2 : (w 2).val < 1 := (w 2).isLt
    unfold above
    by_cases hd : 2047 - (w 1).val ≤ s.val
    · rw [dif_pos (fun a => by
        match a with
        | ⟨0, _⟩ => show 0 ≤ b.val * 1 + (w 0).val ∧ b.val * 1 + (w 0).val - 0 < 8; omega
        | ⟨1, _⟩ => show 2047 ≤ s.val * 1 + (w 1).val ∧ s.val * 1 + (w 1).val - 2047 < 2048; omega
        | ⟨2, _⟩ => show 0 ≤ f.val * 1 + (w 2).val ∧ f.val * 1 + (w 2).val - 0 < 512; omega), dif_pos ⟨hd, hs⟩]
      refine congrArg x (funext fun a => Fin.ext ?_)
      match a with
      | ⟨0, _⟩ => show b.val * 1 + (w 0).val - 0 = b.val; omega
      | ⟨1, _⟩ => show s.val * 1 + (w 1).val - 2047 = s.val - (2047 - (w 1).val); omega
      | ⟨2, _⟩ => show f.val * 1 + (w 2).val - 0 = f.val; omega
    · rw [dif_neg fun hh => hd (by
        have h1 : 2047 ≤ s.val * 1 + (w 1).val ∧ s.val * 1 + (w 1).val - 2047 < 2048 := hh 1
        omega), dif_neg fun hh => hd hh.1]
  · refine (sum_idx3 (n0 := 1) (n1 := 2048) (n2 := 1) fun w => above (fun k => x (ix3 b k f)) s.val (2047 - (w 1).val)).trans ?_
    rw [Fin.sum_univ_one, Finset.sum_range]
    refine ((Equiv.sum_comp Fin.revPerm _).symm).trans (Finset.sum_congr rfl fun d _ => ?_)
    rw [Fin.sum_univ_one]
    show above _ s.val (2047 - (2048 - (d.val + 1))) = above _ s.val d.val
    congr 1
    omega

variable (x0 : FVec Ideal S8x2048x1024 .f32) (x1 : FVec Ideal S1x1024x4096 .f32)

/-- A pooled column of the products. -/
def col (b : Fin 8) (f : Fin 512) (s : Fin 2048) : EReal := lin x0 x1 b s ⟨1536 + f.val, by omega⟩

theorem running_apply (b : Fin 8) (s : Fin 2048) (f : Fin 512) :
    val_main_v67 (F := Ideal) x0 x1 (ix3 b s f) = ∑ d ∈ Finset.range 2048, above (col x0 x1 b f) s.val d := by
  have hp := u_apply x0 x1 b
  unfold val_main_v67
  generalize val_main_v64 (F := Ideal) x0 x1 = G at hp ⊢
  refine (running G _ (fun i => ?_) _ _ b s f).trans ?_
  · show Ideal.ofBits .f32 0x00000000#32 = 0
    exact Ideal.ofBits_zero _
  · have e : (fun k => G (ix3 b k f)) = col x0 x1 b f := funext fun k => hp k f
    rw [e]

/-- The sum of the first `p` rows of a column, last row first. -/
def first (u : Fin 2048 → EReal) (p : Nat) : EReal := if 1 ≤ p then ∑ d ∈ Finset.range 2048, above u (p - 1) d else 0

theorem first_apply (b : Fin 8) (p : Fin 2049) (f : Fin 512) :
    val_main_v68 (F := Ideal) x0 x1 (ix3 b p f) = first (col x0 x1 b f) p.val := by
  have hp := running_apply x0 x1 b
  unfold val_main_v68
  generalize val_main_v67 (F := Ideal) x0 x1 = G at hp ⊢
  pointwise [val_main_call1_v0, val_main_c, hp]
  have hz : (FloatOps.sitofp .f32 (0#32) : Ideal .f32) = (0 : EReal) := by
    show (((0#32 : BitVec 32).toInt : ℝ) : EReal) = 0
    simp
  unfold first
  rw [hz]
  by_cases h : 1 ≤ p.val
  · rw [if_pos h, dif_pos ⟨h, by omega⟩]
  · rw [if_neg h, dif_neg fun hh => h hh.1]

/-- The gather reads the row its start names. -/
theorem gather_at (X : FVec Ideal S8x2049x512 .f32) (idx : IVec S2048x2 32) (b : Fin 8) (s : Fin 2048) (l : Fin 128) (p : Fin 2049) (o : Fin 385)
    (hp : (idx (ix2 s 0)).toInt.toNat = p.val) (ho : (idx (ix2 s 1)).toInt.toNat = o.val) :
    Host.gather gather_S8x2049x512_S2048x2_S8x2048x128_02_1_n_n_12_1_81128 X idx (ix3 b s l) = X (ix3 b p ⟨o.val + l.val, by omega⟩) := by
  unfold Host.gather
  refine congrArg X (funext fun a => Fin.ext ?_)
  have s0 : gather_S8x2049x512_S2048x2_S8x2048x128_02_1_n_n_12_1_81128.siIdx (ix3 b s l) ⟨0, by decide⟩ = ix2 s 0 := by
    funext c; refine Fin.ext ?_
    match c with
    | ⟨0, _⟩ => rfl
    | ⟨1, _⟩ => rfl
  have s1 : gather_S8x2049x512_S2048x2_S8x2048x128_02_1_n_n_12_1_81128.siIdx (ix3 b s l) ⟨1, by decide⟩ = ix2 s 1 := by
    funext c; refine Fin.ext ?_
    match c with
    | ⟨0, _⟩ => rfl
    | ⟨1, _⟩ => rfl
  match a with
  | ⟨0, _⟩ =>
    show 0 + 0 + b.val = b.val
    omega
  | ⟨1, _⟩ =>
    show min (idx (gather_S8x2049x512_S2048x2_S8x2048x128_02_1_n_n_12_1_81128.siIdx (ix3 b s l) ⟨0, by decide⟩)).toInt.toNat (2049 - 1) + 0 + 0 = p.val
    rw [s0, hp]; omega
  | ⟨2, _⟩ =>
    show min (idx (gather_S8x2049x512_S2048x2_S8x2048x128_02_1_n_n_12_1_81128.siIdx (ix3 b s l) ⟨1, by decide⟩)).toInt.toNat (512 - 128) + 0 + l.val = o.val + l.val
    rw [s1, ho]; omega

end Cert.InprojRefIdeal.Hand

end
-- ==== Proof.InprojMix.lean ====
/- The projection reference's pooled columns and their mix, read at an index. -/
module

public import proofs.«01_k».proof.Proof.InprojSum

@[expose] public section

set_option maxRecDepth 16384

noncomputable section

namespace Cert.InprojRefIdeal.Hand

open Cert.InprojRefIdeal Cert.InprojRefIdeal.Read Idealize.ShloMosaic

variable (x0 : FVec Ideal S8x2048x1024 .f32) (x1 : FVec Ideal S1x1024x4096 .f32) (x3 : FVec Ideal S1x4x128x128 .f32) (x4 : FVec Ideal S1x512 .f32)

/-- How many rows the window of `n` rows holds at row `s`. -/
def tally (n : Nat) (s : Nat) : EReal := FloatOps.sitofp (F := Ideal) .f32 (BitVec.ofNat 32 (min (s + 1) n))

/-- The mean of the window's rows less the row itself, as a difference of two running sums. -/
def pooled (b : Fin 8) (s : Fin 2048) (g : Fin 4) (l : Fin 128) : EReal :=
  (Ideal.div (first (col x0 x1 b ⟨128 * g.val + l.val, by omega⟩) (s.val + 1) - first (col x0 x1 b ⟨128 * g.val + l.val, by omega⟩) (s.val + 1 - 2 ^ (g.val + 1)) : EReal) (tally (2 ^ (g.val + 1)) s.val)
    - col x0 x1 b ⟨128 * g.val + l.val, by omega⟩ s : EReal)

theorem start_0 (s : Fin 2048) : (val_main_v88 (F := Ideal) (ix2 s 0)).toInt.toNat = s.val + 1 - 2 := by
  pointwise [val_main_v88, val_main_v86, val_main_v85, val_main_v84, val_main_v83, val_main_v82, val_main_v81, val_main_v75, val_main_v74, val_main_v73, val_main_v72, val_main_v71, val_main_v70, val_main_v69, val_main_c_3, val_main_c_4, val_main_c_5, val_main_c_7, val_main_c_8]
  revert s
  decide +kernel

theorem lane_0 (s : Fin 2048) : (val_main_v88 (F := Ideal) (ix2 s 1)).toInt.toNat = 0 := by
  pointwise [val_main_v88, val_main_v87, val_main_c_9]
  decide

theorem count_0 (s : Fin 2048) : val_main_v79 (F := Ideal) (ix1 s) = tally 2 s.val := by
  unfold tally
  pointwise [val_main_v79, val_main_v78, val_main_v77, val_main_v76, val_main_v75, val_main_v74, val_main_v73, val_main_v72, val_main_v71, val_main_v70, val_main_v69, val_main_c_3, val_main_c_4, val_main_c_5, val_main_c_6]
  refine congrArg (FloatOps.sitofp (F := Ideal) .f32) ?_
  revert s
  decide +kernel

theorem pooled_0 (b : Fin 8) (s : Fin 2048) (l : Fin 128) : val_main_v95 (F := Ideal) x0 x1 (ix3 b s l) = pooled x0 x1 b s 0 l := by
  have hp := first_apply x0 x1 b
  have hu := u_apply x0 x1 b s
  have hc := count_0 s
  have hg := fun X => gather_at X (val_main_v88 (F := Ideal)) b s l ⟨s.val + 1 - 2, by omega⟩ 0 (start_0 s) (lane_0 s)
  unfold val_main_v95 val_main_v94 val_main_v93 val_main_v92 val_main_v91 val_main_v90 val_main_v89 val_main_v80 pooled
  generalize val_main_v68 (F := Ideal) x0 x1 = P at hp ⊢
  generalize val_main_v64 (F := Ideal) x0 x1 = U at hu ⊢
  generalize val_main_v79 (F := Ideal) = C at hc ⊢
  have hg := hg P
  generalize Host.gather gather_S8x2049x512_S2048x2_S8x2048x128_02_1_n_n_12_1_81128 P (val_main_v88 (F := Ideal)) = T at hg ⊢
  pointwise [hp, hu, hg, hc]
  rw [Nat.add_comm 1 s.val]
  rfl

theorem start_1 (s : Fin 2048) : (val_main_v114 (F := Ideal) (ix2 s 0)).toInt.toNat = s.val + 1 - 4 := by
  pointwise [val_main_v114, val_main_v112, val_main_v111, val_main_v110, val_main_v109, val_main_v108, val_main_v107, val_main_v101, val_main_v100, val_main_v99, val_main_v98, val_main_v97, val_main_v96, val_main_v69, val_main_c_10, val_main_c_11, val_main_c_12, val_main_c_14, val_main_c_15]
  revert s
  decide +kernel

theorem lane_1 (s : Fin 2048) : (val_main_v114 (F := Ideal) (ix2 s 1)).toInt.toNat = 128 := by
  pointwise [val_main_v114, val_main_v113, val_main_c_16]
  decide

theorem count_1 (s : Fin 2048) : val_main_v105 (F := Ideal) (ix1 s) = tally 4 s.val := by
  unfold tally
  pointwise [val_main_v105, val_main_v104, val_main_v103, val_main_v102, val_main_v101, val_main_v100, val_main_v99, val_main_v98, val_main_v97, val_main_v96, val_main_v69, val_main_c_10, val_main_c_11, val_main_c_12, val_main_c_13]
  refine congrArg (FloatOps.sitofp (F := Ideal) .f32) ?_
  revert s
  decide +kernel

theorem pooled_1 (b : Fin 8) (s : Fin 2048) (l : Fin 128) : val_main_v121 (F := Ideal) x0 x1 (ix3 b s l) = pooled x0 x1 b s 1 l := by
  have hp := first_apply x0 x1 b
  have hu := u_apply x0 x1 b s
  have hc := count_1 s
  have hg := fun X => gather_at X (val_main_v114 (F := Ideal)) b s l ⟨s.val + 1 - 4, by omega⟩ 128 (start_1 s) (lane_1 s)
  unfold val_main_v121 val_main_v120 val_main_v119 val_main_v118 val_main_v117 val_main_v116 val_main_v115 val_main_v106 pooled
  generalize val_main_v68 (F := Ideal) x0 x1 = P at hp ⊢
  generalize val_main_v64 (F := Ideal) x0 x1 = U at hu ⊢
  generalize val_main_v105 (F := Ideal) = C at hc ⊢
  have hg := hg P
  generalize Host.gather gather_S8x2049x512_S2048x2_S8x2048x128_02_1_n_n_12_1_81128 P (val_main_v114 (F := Ideal)) = T at hg ⊢
  pointwise [hp, hu, hg, hc]
  rw [Nat.add_comm 1 s.val]
  rfl

theorem start_2 (s : Fin 2048) : (val_main_v140 (F := Ideal) (ix2 s 0)).toInt.toNat = s.val + 1 - 8 := by
  pointwise [val_main_v140, val_main_v138, val_main_v137, val_main_v136, val_main_v135, val_main_v134, val_main_v133, val_main_v127, val_main_v126, val_main_v125, val_main_v124, val_main_v123, val_main_v122, val_main_v69, val_main_c_17, val_main_c_18, val_main_c_19, val_main_c_21, val_main_c_22]
  revert s
  decide +kernel

theorem lane_2 (s : Fin 2048) : (val_main_v140 (F := Ideal) (ix2 s 1)).toInt.toNat = 256 := by
  pointwise [val_main_v140, val_main_v139, val_main_c_23]
  decide

theorem count_2 (s : Fin 2048) : val_main_v131 (F := Ideal) (ix1 s) = tally 8 s.val := by
  unfold tally
  pointwise [val_main_v131, val_main_v130, val_main_v129, val_main_v128, val_main_v127, val_main_v126, val_main_v125, val_main_v124, val_main_v123, val_main_v122, val_main_v69, val_main_c_17, val_main_c_18, val_main_c_19, val_main_c_20]
  refine congrArg (FloatOps.sitofp (F := Ideal) .f32) ?_
  revert s
  decide +kernel

theorem pooled_2 (b : Fin 8) (s : Fin 2048) (l : Fin 128) : val_main_v147 (F := Ideal) x0 x1 (ix3 b s l) = pooled x0 x1 b s 2 l := by
  have hp := first_apply x0 x1 b
  have hu := u_apply x0 x1 b s
  have hc := count_2 s
  have hg := fun X => gather_at X (val_main_v140 (F := Ideal)) b s l ⟨s.val + 1 - 8, by omega⟩ 256 (start_2 s) (lane_2 s)
  unfold val_main_v147 val_main_v146 val_main_v145 val_main_v144 val_main_v143 val_main_v142 val_main_v141 val_main_v132 pooled
  generalize val_main_v68 (F := Ideal) x0 x1 = P at hp ⊢
  generalize val_main_v64 (F := Ideal) x0 x1 = U at hu ⊢
  generalize val_main_v131 (F := Ideal) = C at hc ⊢
  have hg := hg P
  generalize Host.gather gather_S8x2049x512_S2048x2_S8x2048x128_02_1_n_n_12_1_81128 P (val_main_v140 (F := Ideal)) = T at hg ⊢
  pointwise [hp, hu, hg, hc]
  rw [Nat.add_comm 1 s.val]
  rfl

theorem start_3 (s : Fin 2048) : (val_main_v166 (F := Ideal) (ix2 s 0)).toInt.toNat = s.val + 1 - 16 := by
  pointwise [val_main_v166, val_main_v164, val_main_v163, val_main_v162, val_main_v161, val_main_v160, val_main_v159, val_main_v153, val_main_v152, val_main_v151, val_main_v150, val_main_v149, val_main_v148, val_main_v69, val_main_c_24, val_main_c_25, val_main_c_26, val_main_c_28, val_main_c_29]
  revert s
  decide +kernel

theorem lane_3 (s : Fin 2048) : (val_main_v166 (F := Ideal) (ix2 s 1)).toInt.toNat = 384 := by
  pointwise [val_main_v166, val_main_v165, val_main_c_30]
  decide

theorem count_3 (s : Fin 2048) : val_main_v157 (F := Ideal) (ix1 s) = tally 16 s.val := by
  unfold tally
  pointwise [val_main_v157, val_main_v156, val_main_v155, val_main_v154, val_main_v153, val_main_v152, val_main_v151, val_main_v150, val_main_v149, val_main_v148, val_main_v69, val_main_c_24, val_main_c_25, val_main_c_26, val_main_c_27]
  refine congrArg (FloatOps.sitofp (F := Ideal) .f32) ?_
  revert s
  decide +kernel

theorem pooled_3 (b : Fin 8) (s : Fin 2048) (l : Fin 128) : val_main_v173 (F := Ideal) x0 x1 (ix3 b s l) = pooled x0 x1 b s 3 l := by
  have hp := first_apply x0 x1 b
  have hu := u_apply x0 x1 b s
  have hc := count_3 s
  have hg := fun X => gather_at X (val_main_v166 (F := Ideal)) b s l ⟨s.val + 1 - 16, by omega⟩ 384 (start_3 s) (lane_3 s)
  unfold val_main_v173 val_main_v172 val_main_v171 val_main_v170 val_main_v169 val_main_v168 val_main_v167 val_main_v158 pooled
  generalize val_main_v68 (F := Ideal) x0 x1 = P at hp ⊢
  generalize val_main_v64 (F := Ideal) x0 x1 = U at hu ⊢
  generalize val_main_v157 (F := Ideal) = C at hc ⊢
  have hg := hg P
  generalize Host.gather gather_S8x2049x512_S2048x2_S8x2048x128_02_1_n_n_12_1_81128 P (val_main_v166 (F := Ideal)) = T at hg ⊢
  pointwise [hp, hu, hg, hc]
  rw [Nat.add_comm 1 s.val]
  rfl

theorem four_apply (b : Fin 8) (s : Fin 2048) (g : Fin 4) (l : Fin 128) : val_main_v178 (F := Ideal) x0 x1 (ix4 b s g l) = pooled x0 x1 b s g l := by
  have h0 := pooled_0 x0 x1 b s l
  have h1 := pooled_1 x0 x1 b s l
  have h2 := pooled_2 x0 x1 b s l
  have h3 := pooled_3 x0 x1 b s l
  unfold val_main_v178 val_main_v177 val_main_v176 val_main_v175 val_main_v174
  generalize val_main_v95 (F := Ideal) x0 x1 = A at h0 ⊢
  generalize val_main_v121 (F := Ideal) x0 x1 = B at h1 ⊢
  generalize val_main_v147 (F := Ideal) x0 x1 = C at h2 ⊢
  generalize val_main_v173 (F := Ideal) x0 x1 = D at h3 ⊢
  fin_cases g
  · pointwise [h0]
  · pointwise [h1]
  · pointwise [h2]
  · pointwise [h3]

theorem pool_apply (b : Fin 8) (s : Fin 2048) (f : Fin 512) :
    val_main_v199 (F := Ideal) x0 x1 x3 x4 (ix3 b s f)
      = (∑ l : Fin 128, x3 (ix4 0 ⟨f.val / 128, by omega⟩ l ⟨f.val % 128, by omega⟩) * pooled x0 x1 b s ⟨f.val / 128, by omega⟩ l) * x4 (ix2 0 f) := by
  have hp := four_apply x0 x1 b s
  unfold val_main_v199 val_main_v184 val_main_v181 val_main_v180 val_main_v179
  generalize val_main_v178 (F := Ideal) x0 x1 = P at hp ⊢
  pointwise [hp, val_main_v183, val_main_v182, val_main_v66, val_main_v65]

end Cert.InprojRefIdeal.Hand

end
-- ==== Proof.InprojJoin.lean ====
/- The projection kernel's pooled columns are the reference's: sums of a window's rows and differences of running sums. -/
module

public import proofs.«01_k».proof.Proof.InprojPool
public import proofs.«01_k».proof.Proof.InprojMix

@[expose] public section

set_option maxRecDepth 16384

noncomputable section

namespace Cert.InprojJoin

open Idealize.ShloMosaic Cert.InprojRefIdeal.Hand

theorem above_real (u : Fin 2048 → EReal) (hu : ∀ k, ∃ r : ℝ, u k = r) (s d : Nat) : ∃ r : ℝ, above u s d = r := by
  unfold above
  split
  · exact hu _
  · exact ⟨0, rfl⟩

theorem sum_real {ι : Type} (S : Finset ι) (g : ι → EReal) (hg : ∀ d, ∃ r : ℝ, g d = r) : ∃ r : ℝ, ∑ d ∈ S, g d = r := by
  choose v hv using hg
  refine ⟨∑ d ∈ S, v d, ?_⟩
  rw [show g = fun d => (v d : EReal) from funext hv]
  induction S using Finset.cons_induction with
  | empty => simp
  | cons a S ha ih => rw [Finset.sum_cons, Finset.sum_cons, ih, EReal.coe_add]

theorem first_real (u : Fin 2048 → EReal) (hu : ∀ k, ∃ r : ℝ, u k = r) (p : Nat) : ∃ r : ℝ, first u p = r := by
  unfold first
  split
  · exact sum_real _ _ fun d => above_real u hu _ d
  · exact ⟨0, rfl⟩

/-- The rows past a window are the running sum up to it. -/
theorem rest_eq (u : Fin 2048 → EReal) (s : Fin 2048) (W m : Nat) (hm : W + m = 2048) : ∑ x ∈ Finset.range m, above u s.val (W + x) = first u (s.val + 1 - W) := by
  have hs := s.isLt
  unfold first
  by_cases h : 1 ≤ s.val + 1 - W
  · rw [if_pos h, show Finset.range 2048 = Finset.range (m + W) by rw [Nat.add_comm m W, hm], Finset.sum_range_add]
    rw [Finset.sum_eq_zero (s := Finset.range W) fun x _ => dif_neg (by omega), add_zero]
    refine Finset.sum_congr rfl fun x _ => ?_
    unfold above
    by_cases hx : W + x ≤ s.val
    · rw [dif_pos ⟨hx, hs⟩, dif_pos (by omega)]
      exact congrArg u (Fin.ext (by dsimp only; omega))
    · rw [dif_neg (by omega), dif_neg (by omega)]
  · rw [if_neg h]
    exact Finset.sum_eq_zero fun x _ => dif_neg (by omega)

/-- A difference of running sums is the sum of the window's rows. -/
theorem first_diff (u : Fin 2048 → EReal) (hu : ∀ k, ∃ r : ℝ, u k = r) (s : Fin 2048) (W : Nat) (hW : W ≤ 2048) :
    first u (s.val + 1) - first u (s.val + 1 - W) = ∑ d ∈ Finset.range W, above u s.val d := by
  obtain ⟨m, hm⟩ := Nat.exists_eq_add_of_le hW
  have e : first u (s.val + 1) = ∑ d ∈ Finset.range W, above u s.val d + first u (s.val + 1 - W) := by
    rw [← rest_eq u s W m hm.symm, ← Finset.sum_range_add, ← hm]
    unfold first
    rw [if_pos (by omega)]
    rfl
  rw [e]
  obtain ⟨r, hr⟩ := first_real u hu (s.val + 1 - W)
  rw [hr]
  exact EReal.add_sub_cancel_right

theorem wsum_eq (u : Nat → EReal) (n : Nat) : Cert.InprojIdeal.Hand.wsum u n = ∑ d ∈ Finset.range (n + 1), u d := by
  induction n with
  | zero => rw [Finset.sum_range_one]; rfl
  | succ n ih => rw [Finset.sum_range_succ, ← ih]; rfl

theorem cnt_tally (g : Fin 4) (i : Fin 4) (r : Fin 512) :
    Cert.InprojIdeal.Hand.cnt (BitVec.ofNat 32 (2 ^ (g.val + 1))) (BitVec.ofNat 32 i.val) r = tally (2 ^ (g.val + 1)) (512 * i.val + r.val) := by
  unfold Cert.InprojIdeal.Hand.cnt tally
  refine congrArg (FloatOps.sitofp (F := Ideal) .f32) ?_
  revert g i r
  decide +kernel

theorem sum_mul_comm {N : Nat} (a a' b b' : Fin N → EReal) (ha : ∀ l, a l = a' l) (hb : ∀ l, b l = b' l) : ∑ l, a l * b l = ∑ l, b' l * a' l :=
  Finset.sum_congr rfl fun l _ => by rw [ha, hb, mul_comm]

section
open Cert.InprojIdeal

variable (x0 : FVec Ideal S8x2048x1024 .f32) (x1 : FVec Ideal S1x1024x4096 .f32) (x3 : FVec Ideal S1x4x128x128 .f32) (x4 : FVec Ideal S1x512 .f32)
  (b : Fin 8) (i : Fin 4)
  (x : FVec Ideal S1x512x1024 .f32) (w : FVec Ideal S1024x4096 .bf16) (W : FVec Ideal S4x128x128 .bf16) (p : FVec Ideal S1x512 .f32) (H : Fin 16 → Fin 512 → EReal)

/-- The kernel's row `d` above a row is the reference's. -/
theorem back_above (hx : ∀ (r : Fin 512) (f : Fin 4096), Cert.InprojIdeal.Hand.lin x w r f = lin x0 x1 b ⟨512 * i.val + r.val, by omega⟩ f)
    (hH : ∀ q f, H q f = above (col x0 x1 b f) (512 * i.val + q.val) 16) (r : Fin 512) (f : Fin 512) (d : Nat) (hd : d ≤ 15) :
    Cert.InprojIdeal.Hand.back x w H r f d = above (col x0 x1 b f) (512 * i.val + r.val) d := by
  unfold Cert.InprojIdeal.Hand.back
  by_cases h : d ≤ r.val
  · rw [dif_pos h, hx]
    unfold above col
    rw [dif_pos (by omega)]
    exact congrArg (fun q => lin x0 x1 b q _) (Fin.ext (by dsimp only; omega))
  · rw [dif_neg h, dif_pos (by omega), hH]
    unfold above
    by_cases h' : d ≤ 512 * i.val + r.val
    · rw [dif_pos (by dsimp only; omega), dif_pos (by omega)]
      exact congrArg (fun q => col x0 x1 b f q) (Fin.ext (by dsimp only; omega))
    · rw [dif_neg (by dsimp only; omega), dif_neg (by omega)]

theorem mixes_eq (hx : ∀ (r : Fin 512) (f : Fin 4096), Cert.InprojIdeal.Hand.lin x w r f = lin x0 x1 b ⟨512 * i.val + r.val, by omega⟩ f)
    (hu : ∀ f k, ∃ r : ℝ, col x0 x1 b f k = r)
    (hH : ∀ q f, H q f = above (col x0 x1 b f) (512 * i.val + q.val) 16)
    (hW : ∀ g l j, W (ix3 g l j) = x3 (ix4 0 g l j)) (hp : ∀ f, p (ix2 0 f) = x4 (ix2 0 f)) (r : Fin 512) (f : Fin 512) :
    Cert.InprojIdeal.Hand.mixes x w W p H (BitVec.ofNat 32 i.val) r f
      = Cert.InprojRefIdeal.Read.val_main_v199 (F := Ideal) x0 x1 x3 x4 (ix3 b (⟨512 * i.val + r.val, by omega⟩ : Fin 2048) f) := by
  rw [pool_apply]
  unfold Cert.InprojIdeal.Hand.mixes Cert.InprojIdeal.Hand.mixed
  generalize hg : (⟨f.val / 128, by omega⟩ : Fin 4) = g
  have hgv : g.val = f.val / 128 := by rw [← hg]
  refine congrArg₂ (fun a b : EReal => a * b) (sum_mul_comm _ _ _ _ (fun l => ?_) (fun l => hW _ _ _)) ?_
  · unfold pooled
    have hW1 : 2 ^ (g.val + 1) - 1 + 1 = 2 ^ (g.val + 1) := Nat.sub_add_cancel Nat.one_le_two_pow
    have hW2 : 2 ^ (g.val + 1) ≤ 16 := Nat.pow_le_pow_right (n := 2) (by decide) (show g.val + 1 ≤ 4 by omega)
    have e0 := back_above x0 x1 b i x w H hx hH r ⟨128 * g.val + l.val, by omega⟩
    rw [cnt_tally, wsum_eq, hW1, first_diff _ (hu _) ⟨512 * i.val + r.val, by omega⟩ _ (by omega)]
    refine congrArg₂ (fun a b : EReal => a - b) (congrArg (fun q : EReal => Ideal.div q _) (Finset.sum_congr rfl fun d hd => e0 d ?_)) ((e0 0 (by decide)).trans ?_)
    · have := Finset.mem_range.mp hd
      omega
    · unfold above
      rw [dif_pos (by omega)]
      rfl
  · rw [hp]
    exact congrArg (fun q => x4 (ix2 0 q)) (Fin.ext (by dsimp only; omega))

end

end Cert.InprojJoin

end
-- ==== Proof.InprojValue.lean ====
/- The projection's result arrays after the kernel's run are the reference's results of the same arguments. -/
module

public import proofs.«01_k».proof.Proof.InprojJoin
public import proofs.«01_k».proof.Proof.Gen.InprojIdeal.Value

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx_val : ∀ t : Fin cfg0.N, win0_0.index t = ![t.val / 4, t.val % 4, 0] ∧ win0_1.index t = ![0, 0]
    ∧ win0_2.index t = ![0, 0] ∧ win0_3.index t = ![t.val % 4, 0] ∧ win0_4.index t = ![t.val % 4, 0]
    ∧ win0_5.index t = ![0, 0, 0] ∧ win0_6.index t = ![0, 0] ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] ∧ win0_11.index t = ![t.val / 4, t.val % 4, 0] :=
  (by decide +kernel : ∀ t : Fin grid0.N, _)

/-- The second grid coordinate of a point. -/
theorem coord_val : ∀ t : Fin cfg0.N, (grid0.coords t 1).val = t.val % 4 :=
  (by decide +kernel : ∀ t : Fin grid0.N, (grid0.coords t 1).val = t.val % 4)

/-- A product of a block's row is the reference's at the token the block places there. -/
theorem lin_at (c : Dev nD) (t : Fin cfg0.N) (r : Fin 512) (f : Fin 4096) (b : Fin 8) (s : Fin 2048) (hb : b.val = t.val / 4) (hs : s.val = 512 * (t.val % 4) + r.val) :
    lin (iblk m c 0 t) (iblk m c 1 t) r f = Cert.InprojRefIdeal.Hand.lin (m ((c : Thread nD τ).loc main_arg0)) (m ((c : Thread nD τ).loc main_arg1)) b s f := by
  unfold lin Cert.InprojRefIdeal.Hand.lin
  blk_point [iblk, V, idx_val t]

/-- The biases, the mixing weights and the scales at a point are the arguments' entries. -/
theorem bias_at (c : Dev nD) (t : Fin cfg0.N) (f : Fin 2048) : iblk m c 2 t (ix2 0 f) = m ((c : Thread nD τ).loc main_arg2) (ix2 0 f) := by
  blk_point [iblk, V, idx_val t]

theorem weights_at (c : Dev nD) (t : Fin cfg0.N) (g : Fin 4) (l j : Fin 128) : iblk m c 5 t (ix3 g l j) = m ((c : Thread nD τ).loc main_arg3) (ix4 0 g l j) := by
  blk_point [iblk, V, idx_val t]

theorem scales_at (c : Dev nD) (t : Fin cfg0.N) (f : Fin 512) : iblk m c 6 t (ix2 0 f) = m ((c : Thread nD τ).loc main_arg4) (ix2 0 f) := by
  blk_point [iblk, V, idx_val t]

/-- The angle by which row `s` turns the pair `d`. -/
def angle (s d : Nat) : EReal :=
  FloatOps.sitofp (F := Ideal) .f32 (BitVec.ofNat 32 s) * Ideal.div 1 (Ideal.pow (Ideal.ofBits .f32 1176256512#32)
    (Ideal.div (FloatOps.sitofp (F := Ideal) .f32 (BitVec.ofNat 32 d)) (Ideal.ofBits .f32 1107296256#32)))

section
open Cert.InprojRefIdeal.Read

theorem cosT_angle (s : Fin 2048) (d : Fin 32) : Cert.InprojRefIdeal.Hand.cosT s d = Ideal.cos (angle s.val d.val) := by
  unfold Cert.InprojRefIdeal.Hand.cosT angle
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem sinT_angle (s : Fin 2048) (d : Fin 32) : Cert.InprojRefIdeal.Hand.sinT s d = Ideal.sin (angle s.val d.val) := by
  unfold Cert.InprojRefIdeal.Hand.sinT angle
  pointwise [val_main_v14, val_main_v12, val_main_v11, val_main_v10, val_main_v9, val_main_v8, val_main_v7, val_main_v6, val_main_v5, val_main_v4, val_main_v3, val_main_v2, val_main_v1, val_main_v0, val_main_cst, val_main_cst_0, val_main_cst_1]

end

theorem cos_low (c : Dev nD) (t : Fin cfg0.N) (r : Fin 512) (l : Fin 128) (h : l.val % 64 < 32) :
    iblk m c 3 t (ix2 r l) = Ideal.cos (angle (t.val % 4 * 512 + r.val) (l.val % 64)) := by
  unfold angle
  blk_simp [iblk, idx_val t]
  entry_read
  have e : ((View.whole main_v18).slice (win0_3.rect t)).emb (ix2 r l) = ix2 (⟨t.val % 4 * 512 + r.val, by omega⟩ : Fin 2048) l := by
    blk_ext [idx_val t] <;> rfl
  rw [e]
  pointwise
  first | rw [dif_pos h] | rw [dif_neg h]

theorem cos_high (c : Dev nD) (t : Fin cfg0.N) (r : Fin 512) (l : Fin 128) (h : ¬l.val % 64 < 32) :
    iblk m c 3 t (ix2 r l) = Ideal.cos (angle (t.val % 4 * 512 + r.val) (l.val % 64 - 32)) := by
  unfold angle
  blk_simp [iblk, idx_val t]
  entry_read
  have e : ((View.whole main_v18).slice (win0_3.rect t)).emb (ix2 r l) = ix2 (⟨t.val % 4 * 512 + r.val, by omega⟩ : Fin 2048) l := by
    blk_ext [idx_val t] <;> rfl
  rw [e]
  pointwise
  first | rw [dif_pos h] | rw [dif_neg h]

theorem sin_low (c : Dev nD) (t : Fin cfg0.N) (r : Fin 512) (l : Fin 128) (h : l.val % 64 < 32) :
    iblk m c 4 t (ix2 r l) = -Ideal.sin (angle (t.val % 4 * 512 + r.val) (l.val % 64)) := by
  unfold angle
  blk_simp [iblk, idx_val t]
  entry_read
  have e : ((View.whole main_v23).slice (win0_4.rect t)).emb (ix2 r l) = ix2 (⟨t.val % 4 * 512 + r.val, by omega⟩ : Fin 2048) l := by
    blk_ext [idx_val t] <;> rfl
  rw [e]
  pointwise
  first | rw [dif_pos h] | rw [dif_neg h]

theorem sin_high (c : Dev nD) (t : Fin cfg0.N) (r : Fin 512) (l : Fin 128) (h : ¬l.val % 64 < 32) :
    iblk m c 4 t (ix2 r l) = Ideal.sin (angle (t.val % 4 * 512 + r.val) (l.val % 64 - 32)) := by
  unfold angle
  blk_simp [iblk, idx_val t]
  entry_read
  have e : ((View.whole main_v23).slice (win0_4.rect t)).emb (ix2 r l) = ix2 (⟨t.val % 4 * 512 + r.val, by omega⟩ : Fin 2048) l := by
    blk_ext [idx_val t] <;> rfl
  rw [e]
  pointwise
  first | rw [dif_pos h] | rw [dif_neg h]

/-- A rotated column of a block's row is the reference's at the token the block places there. -/
theorem spin_at (c : Dev nD) (t : Fin cfg0.N) (base : Nat) (hbase : base + 512 ≤ 4096) (r : Fin 512) (f : Fin 512) (b : Fin 8) (s : Fin 2048) (hb : b.val = t.val / 4) (hs : s.val = 512 * (t.val % 4) + r.val) :
    spin (iblk m c 0 t) (iblk m c 1 t) (iblk m c 3 t) (iblk m c 4 t) base hbase r f
      = Cert.InprojRefIdeal.Hand.spin (m ((c : Thread nD τ).loc main_arg0)) (m ((c : Thread nD τ).loc main_arg1)) base hbase b s f := by
  unfold spin Cert.InprojRefIdeal.Hand.spin
  have hm := mate_val f
  have es : t.val % 4 * 512 + r.val = s.val := by omega
  rw [lin_at m c t r _ b s hb hs, lin_at m c t r _ b s hb hs, cosT_angle, sinT_angle]
  by_cases h : f.val % 64 < 32
  · have hl : (⟨f.val % 128, by omega⟩ : Fin 128).val % 64 < 32 := by dsimp only; omega
    rw [if_pos h] at hm
    rw [dif_pos h, cos_low m c t r _ hl, sin_low m c t r _ hl, es, mul_neg, sub_eq_add_neg]
    refine congrArg₂ (fun p q : EReal => p + -q) (congrArg (fun n => _ * Ideal.cos (angle s.val n)) (by dsimp only; omega)) (congrArg₂ (fun n k => Cert.InprojRefIdeal.Hand.lin _ _ b s n * Ideal.sin (angle s.val k)) (Fin.ext (by dsimp only; omega)) (by dsimp only; omega))
  · have hl : ¬(⟨f.val % 128, by omega⟩ : Fin 128).val % 64 < 32 := by dsimp only; omega
    rw [if_neg h] at hm
    rw [dif_neg h, cos_high m c t r _ hl, sin_high m c t r _ hl, es]
    refine congrArg₂ (fun p q : EReal => p + q) (congrArg (fun n => _ * Ideal.cos (angle s.val n)) (by dsimp only; omega)) (congrArg₂ (fun n k => Cert.InprojRefIdeal.Hand.lin _ _ b s n * Ideal.sin (angle s.val k)) (Fin.ext (by dsimp only; omega)) (by dsimp only; omega))

/-- After every point the carried rows are the last sixteen rows of that point's block. -/
theorem carry_at (c : Dev nD) (t : Fin cfg0.N) (q : Fin 16) (f : Fin 512) :
    (outsAt0 m c t.val t.isLt).2.2.2.2.2 (ix2 (⟨q.val, by omega⟩ : Fin 528) f) = lin (iblk m c 0 t) (iblk m c 1 t) ⟨496 + q.val, by omega⟩ ⟨1536 + f.val, by omega⟩ := by
  by_cases h0 : t.val % 4 = 0
  · have hA := congrArg (fun p => p.2.2.2.2.2) (outsAt0_A m c t h0)
    dsimp only at hA
    rw [hA]
    exact carry_A _ _ _ _ _ _ _ _ _ _ _ _ _ _ _ _ _ _ _ _ _ _ _ _ _ _ _ _ _ _ _ _ _ _ _ _ q f
  · have hB := congrArg (fun p => p.2.2.2.2.2) (outsAt0_B m c t h0)
    dsimp only at hB
    rw [hB]
    exact carry_B _ _ _ _ _ _ _ _ _ _ _ _ _ _ _ _ _ _ _ _ _ _ _ _ _ _ _ _ _ _ _ _ _ _ _ _ _ q f

/-- What point `t` stores of the queries. -/
theorem query_point (c : Dev nD) (t : Fin cfg0.N) (r : Fin 512) (f : Fin 512) (b : Fin 8) (s : Fin 2048) (hb : b.val = t.val / 4) (hs : s.val = 512 * (t.val % 4) + r.val) :
    (outsAt0 m c t.val t.isLt).1 (ix3 0 r f) = Cert.InprojRefIdeal.Read.val_main_v196 (F := Ideal) (m ((c : Thread nD τ).loc main_arg0)) (m ((c : Thread nD τ).loc main_arg1)) (ix3 b s f) := by
  rw [Cert.InprojRefIdeal.Hand.q_apply, ← spin_at m c t 0 (by decide) r f b s hb hs]
  by_cases h0 : t.val % 4 = 0
  · have hA := congrArg (fun p => p.1) (outsAt0_A m c t h0)
    dsimp only at hA
    rw [hA]
    exact query_A _ _ _ _ _ _ _ _ _ _ _ _ _ _ _ _ _ _ _ _ _ _ _ _ _ _ _ _ _ _ _ _ _ _ _ _ r f
  · have hB := congrArg (fun p => p.1) (outsAt0_B m c t h0)
    dsimp only at hB
    rw [hB]
    exact query_B _ _ _ _ _ _ _ _ _ _ _ _ _ _ _ _ _ _ _ _ _ _ _ _ _ _ _ _ _ _ _ _ _ _ _ _ _ r f

/-- What point `t` stores of the keys. -/
theorem key_point (c : Dev nD) (t : Fin cfg0.N) (r : Fin 512) (f : Fin 512) (b : Fin 8) (s : Fin 2048) (hb : b.val = t.val / 4) (hs : s.val = 512 * (t.val % 4) + r.val) :
    (outsAt0 m c t.val t.isLt).2.1 (ix3 0 r f) = Cert.InprojRefIdeal.Read.val_main_v197 (F := Ideal) (m ((c : Thread nD τ).loc main_arg0)) (m ((c : Thread nD τ).loc main_arg1)) (ix3 b s f) := by
  rw [Cert.InprojRefIdeal.Hand.k_apply, ← spin_at m c t 512 (by decide) r f b s hb hs]
  by_cases h0 : t.val % 4 = 0
  · have hA := congrArg (fun p => p.2.1) (outsAt0_A m c t h0)
    dsimp only at hA
    rw [hA]
    exact key_A _ _ _ _ _ _ _ _ _ _ _ _ _ _ _ _ _ _ _ _ _ _ _ _ _ _ _ _ _ _ _ _ _ _ _ _ r f
  · have hB := congrArg (fun p => p.2.1) (outsAt0_B m c t h0)
    dsimp only at hB
    rw [hB]
    exact key_B _ _ _ _ _ _ _ _ _ _ _ _ _ _ _ _ _ _ _ _ _ _ _ _ _ _ _ _ _ _ _ _ _ _ _ _ _ r f

/-- What point `t` stores of the values. -/
theorem value_point (c : Dev nD) (t : Fin cfg0.N) (r : Fin 512) (f : Fin 512) (b : Fin 8) (s : Fin 2048) (hb : b.val = t.val / 4) (hs : s.val = 512 * (t.val % 4) + r.val) :
    (outsAt0 m c t.val t.isLt).2.2.1 (ix3 0 r f) = Cert.InprojRefIdeal.Read.val_main_v198 (F := Ideal) (m ((c : Thread nD τ).loc main_arg0)) (m ((c : Thread nD τ).loc main_arg1)) (ix3 b s f) := by
  rw [Cert.InprojRefIdeal.Hand.v_apply, ← lin_at m c t r _ b s hb hs]
  by_cases h0 : t.val % 4 = 0
  · have hA := congrArg (fun p => p.2.2.1) (outsAt0_A m c t h0)
    dsimp only at hA
    rw [hA]
    exact value_A _ _ _ _ _ _ _ _ _ _ _ _ _ _ _ _ _ _ _ _ _ _ _ _ _ _ _ _ _ _ _ _ _ _ _ _ r f
  · have hB := congrArg (fun p => p.2.2.1) (outsAt0_B m c t h0)
    dsimp only at hB
    rw [hB]
    exact value_B _ _ _ _ _ _ _ _ _ _ _ _ _ _ _ _ _ _ _ _ _ _ _ _ _ _ _ _ _ _ _ _ _ _ _ _ _ r f

/-- What point `t` stores of the gates. -/
theorem gate_point (c : Dev nD) (t : Fin cfg0.N) (r : Fin 512) (f : Fin 2048) (b : Fin 8) (s : Fin 2048) (hb : b.val = t.val / 4) (hs : s.val = 512 * (t.val % 4) + r.val) :
    (outsAt0 m c t.val t.isLt).2.2.2.2.1 (ix3 0 r f) = Cert.InprojRefIdeal.Read.val_main_v200 (F := Ideal) (m ((c : Thread nD τ).loc main_arg0)) (m ((c : Thread nD τ).loc main_arg1)) (m ((c : Thread nD τ).loc main_arg2)) (ix3 b s f) := by
  rw [Cert.InprojRefIdeal.Hand.gate_apply, ← lin_at m c t r _ b s hb hs, ← bias_at m c t f]
  by_cases h0 : t.val % 4 = 0
  · have hA := congrArg (fun p => p.2.2.2.2.1) (outsAt0_A m c t h0)
    dsimp only at hA
    rw [hA]
    exact gates_A _ _ _ _ _ _ _ _ _ _ _ _ _ _ _ _ _ _ _ _ _ _ _ _ _ _ _ _ _ _ _ _ _ _ _ _ r f
  · have hB := congrArg (fun p => p.2.2.2.2.1) (outsAt0_B m c t h0)
    dsimp only at hB
    rw [hB]
    exact gates_B _ _ _ _ _ _ _ _ _ _ _ _ _ _ _ _ _ _ _ _ _ _ _ _ _ _ _ _ _ _ _ _ _ _ _ _ _ r f

/-- Every entry of the pooled columns is a real number when the input's and their weights' are. -/
theorem col_real (x : FVec Ideal S8x2048x1024 .f32) (w : FVec Ideal S1x1024x4096 .f32) (hx : ∀ i, ∃ u : ℝ, x i = u) (hw : ∀ (k : Fin 1024) (f : Fin 512), ∃ u : ℝ, w (ix3 0 k (⟨1536 + f.val, by omega⟩ : Fin 4096)) = u)
    (b : Fin 8) (f : Fin 512) (k : Fin 2048) : ∃ u : ℝ, Cert.InprojRefIdeal.Hand.col x w b f k = u := by
  unfold Cert.InprojRefIdeal.Hand.col Cert.InprojRefIdeal.Hand.lin
  refine Cert.InprojJoin.sum_real _ _ fun d => ?_
  obtain ⟨p, hp⟩ := hx (ix3 b k d)
  obtain ⟨q, hq⟩ := hw d f
  exact ⟨p * q, by rw [hp, hq, EReal.coe_mul]⟩

/-- What point `t` stores of the mixed pools, over the rows carried into it. -/
theorem mixes_at (c : Dev nD) (t : Fin cfg0.N) (r : Fin 512) (f : Fin 512) (b : Fin 8) (s : Fin 2048) (hb : b.val = t.val / 4) (hs : s.val = 512 * (t.val % 4) + r.val) (H : Fin 16 → Fin 512 → EReal)
    (hx : ∀ i, ∃ u : ℝ, (m ((c : Thread nD τ).loc main_arg0)) i = (u : EReal)) (hw : ∀ (k : Fin 1024) (f : Fin 512), ∃ u : ℝ, (m ((c : Thread nD τ).loc main_arg1)) (ix3 0 k (⟨1536 + f.val, by omega⟩ : Fin 4096)) = (u : EReal))
    (hH : ∀ q f, H q f = Cert.InprojRefIdeal.Hand.above (Cert.InprojRefIdeal.Hand.col (m ((c : Thread nD τ).loc main_arg0)) (m ((c : Thread nD τ).loc main_arg1)) b f) (512 * (t.val % 4) + q.val) 16) :
    mixes (iblk m c 0 t) (iblk m c 1 t) (iblk m c 5 t) (iblk m c 6 t) H (BitVec.ofNat 32 (grid0.coords t 1).val) r f
      = Cert.InprojRefIdeal.Read.val_main_v199 (F := Ideal) (m ((c : Thread nD τ).loc main_arg0)) (m ((c : Thread nD τ).loc main_arg1)) (m ((c : Thread nD τ).loc main_arg3)) (m ((c : Thread nD τ).loc main_arg4)) (ix3 b s f) := by
  rw [coord_val t]
  refine (Cert.InprojJoin.mixes_eq (m ((c : Thread nD τ).loc main_arg0)) (m ((c : Thread nD τ).loc main_arg1)) (m ((c : Thread nD τ).loc main_arg3)) (m ((c : Thread nD τ).loc main_arg4)) b (⟨t.val % 4, by omega⟩ : Fin 4) _ _ _ _ H
    (fun r f => lin_at m c t r f b _ hb rfl) (fun f k => col_real _ _ hx hw b f k) hH (weights_at m c t) (scales_at m c t) r f).trans ?_
  exact congrArg (fun q => Cert.InprojRefIdeal.Read.val_main_v199 (F := Ideal) (m ((c : Thread nD τ).loc main_arg0)) (m ((c : Thread nD τ).loc main_arg1)) (m ((c : Thread nD τ).loc main_arg3)) (m ((c : Thread nD τ).loc main_arg4)) (ix3 b q f)) (Fin.ext hs.symm)

/-- What point `t` stores of the mixed pools. -/
theorem pool_point (c : Dev nD) (t : Fin cfg0.N) (r : Fin 512) (f : Fin 512) (b : Fin 8) (s : Fin 2048) (hb : b.val = t.val / 4) (hs : s.val = 512 * (t.val % 4) + r.val)
    (hx : ∀ i, ∃ u : ℝ, (m ((c : Thread nD τ).loc main_arg0)) i = (u : EReal)) (hw : ∀ (k : Fin 1024) (f : Fin 512), ∃ u : ℝ, (m ((c : Thread nD τ).loc main_arg1)) (ix3 0 k (⟨1536 + f.val, by omega⟩ : Fin 4096)) = (u : EReal)) :
    (outsAt0 m c t.val t.isLt).2.2.2.1 (ix3 0 r f) = Cert.InprojRefIdeal.Read.val_main_v199 (F := Ideal) (m ((c : Thread nD τ).loc main_arg0)) (m ((c : Thread nD τ).loc main_arg1)) (m ((c : Thread nD τ).loc main_arg3)) (m ((c : Thread nD τ).loc main_arg4)) (ix3 b s f) := by
  have hN : t.val < 32 := lt_of_lt_of_eq t.isLt N_0
  by_cases h0 : t.val % 4 = 0
  · have hA := congrArg (fun p => p.2.2.2.1) (outsAt0_A m c t h0)
    dsimp only at hA
    rw [hA]
    refine (mixes_A _ _ _ _ _ _ _ _ _ _ _ _ _ _ _ _ _ _ _ _ _ _ _ _ _ _ _ _ _ _ _ _ _ _ _ _ r f).trans (mixes_at m c t r f b s hb hs _ hx hw fun q f => ?_)
    unfold Cert.InprojRefIdeal.Hand.above
    rw [dif_neg (by omega)]
    pointwise [k0_pay21]
  · have hB := congrArg (fun p => p.2.2.2.1) (outsAt0_B m c t h0)
    dsimp only at hB
    rw [hB]
    refine (mixes_B _ _ _ _ _ _ _ _ _ _ _ _ _ _ _ _ _ _ _ _ _ _ _ _ _ _ _ _ _ _ _ _ _ _ _ _ _ r f).trans (mixes_at m c t r f b s hb hs _ hx hw fun q f => ?_)
    unfold Cert.InprojRefIdeal.Hand.above Cert.InprojRefIdeal.Hand.col
    rw [dif_pos (by omega)]
    refine (carry_at m c ⟨t.val - 1, Nat.lt_of_le_of_lt (Nat.sub_le _ _) t.isLt⟩ q f).trans (lin_at m c _ _ _ b _ ?_ ?_)
    · show b.val = (t.val - 1) / 4; omega
    · show 512 * (t.val % 4) + q.val - 16 = 512 * ((t.val - 1) % 4) + (496 + q.val); omega

/-- The queries' array after the run. -/
theorem final_7 (c : Dev nD) : (dats m 0 c).arrAt 7 (cfgs 0).N = Cert.InprojRefIdeal.Read.val_main_v196 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  have hN : t.val < 32 := lt_of_lt_of_eq t.isLt N_0
  let r : Fin 512 := ⟨(y 1).val, (y 1).isLt⟩
  let f : Fin 512 := ⟨(y 2).val, (y 2).isLt⟩
  have hr : r.val < 512 := r.isLt
  have ey : y = ix3 (0 : Fin 1) r f := by
    blk_ext <;> rfl
  have e : (win0_7.blk t).view.emb y = ix3 (⟨t.val / 4, by omega⟩ : Fin 8) (⟨t.val % 4 * 512 + r.val, by omega⟩ : Fin 2048) f := by
    blk_ext [idx_val t] <;> rfl
  rw [e]
  exact (congrArg _ ey).trans (query_point m c t r f _ _ rfl (show t.val % 4 * 512 + r.val = 512 * (t.val % 4) + r.val by omega))

/-- The keys' array after the run. -/
theorem final_8 (c : Dev nD) : (dats m 0 c).arrAt 8 (cfgs 0).N = Cert.InprojRefIdeal.Read.val_main_v197 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  have hN : t.val < 32 := lt_of_lt_of_eq t.isLt N_0
  let r : Fin 512 := ⟨(y 1).val, (y 1).isLt⟩
  let f : Fin 512 := ⟨(y 2).val, (y 2).isLt⟩
  have hr : r.val < 512 := r.isLt
  have ey : y = ix3 (0 : Fin 1) r f := by
    blk_ext <;> rfl
  have e : (win0_8.blk t).view.emb y = ix3 (⟨t.val / 4, by omega⟩ : Fin 8) (⟨t.val % 4 * 512 + r.val, by omega⟩ : Fin 2048) f := by
    blk_ext [idx_val t] <;> rfl
  rw [e]
  exact (congrArg _ ey).trans (key_point m c t r f _ _ rfl (show t.val % 4 * 512 + r.val = 512 * (t.val % 4) + r.val by omega))

/-- The values' array after the run. -/
theorem final_9 (c : Dev nD) : (dats m 0 c).arrAt 9 (cfgs 0).N = Cert.InprojRefIdeal.Read.val_main_v198 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  have hN : t.val < 32 := lt_of_lt_of_eq t.isLt N_0
  let r : Fin 512 := ⟨(y 1).val, (y 1).isLt⟩
  let f : Fin 512 := ⟨(y 2).val, (y 2).isLt⟩
  have hr : r.val < 512 := r.isLt
  have ey : y = ix3 (0 : Fin 1) r f := by
    blk_ext <;> rfl
  have e : (win0_9.blk t).view.emb y = ix3 (⟨t.val / 4, by omega⟩ : Fin 8) (⟨t.val % 4 * 512 + r.val, by omega⟩ : Fin 2048) f := by
    blk_ext [idx_val t] <;> rfl
  rw [e]
  exact (congrArg _ ey).trans (value_point m c t r f _ _ rfl (show t.val % 4 * 512 + r.val = 512 * (t.val % 4) + r.val by omega))

/-- The mixed pools' array after the run. -/
theorem final_10 (c : Dev nD) (hx : ∀ i, ∃ u : ℝ, (m ((c : Thread nD τ).loc main_arg0)) i = (u : EReal)) (hw : ∀ (k : Fin 1024) (f : Fin 512), ∃ u : ℝ, (m ((c : Thread nD τ).loc main_arg1)) (ix3 0 k (⟨1536 + f.val, by omega⟩ : Fin 4096)) = (u : EReal)) : (dats m 0 c).arrAt 10 (cfgs 0).N = Cert.InprojRefIdeal.Read.val_main_v199 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t _ y => ?_
  blk_simp
  rw [after0_10]
  have hN : t.val < 32 := lt_of_lt_of_eq t.isLt N_0
  let r : Fin 512 := ⟨(y 1).val, (y 1).isLt⟩
  let f : Fin 512 := ⟨(y 2).val, (y 2).isLt⟩
  have hr : r.val < 512 := r.isLt
  have ey : y = ix3 (0 : Fin 1) r f := by
    blk_ext <;> rfl
  have e : (win0_10.blk t).view.emb y = ix3 (⟨t.val / 4, by omega⟩ : Fin 8) (⟨t.val % 4 * 512 + r.val, by omega⟩ : Fin 2048) f := by
    blk_ext [idx_val t] <;> rfl
  rw [e]
  exact (congrArg _ ey).trans (pool_point m c t r f _ _ rfl (show t.val % 4 * 512 + r.val = 512 * (t.val % 4) + r.val by omega) hx hw)

/-- The gates' array after the run. -/
theorem final_11 (c : Dev nD) : (dats m 0 c).arrAt 11 (cfgs 0).N = Cert.InprojRefIdeal.Read.val_main_v200 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  have hN : t.val < 32 := lt_of_lt_of_eq t.isLt N_0
  let r : Fin 512 := ⟨(y 1).val, (y 1).isLt⟩
  let f : Fin 2048 := ⟨(y 2).val, (y 2).isLt⟩
  have hr : r.val < 512 := r.isLt
  have ey : y = ix3 (0 : Fin 1) r f := by
    blk_ext <;> rfl
  have e : (win0_11.blk t).view.emb y = ix3 (⟨t.val / 4, by omega⟩ : Fin 8) (⟨t.val % 4 * 512 + r.val, by omega⟩ : Fin 2048) f := by
    blk_ext [idx_val t] <;> rfl
  rw [e]
  exact (congrArg _ ey).trans (gate_point m c t r f _ _ rfl (show t.val % 4 * 512 + r.val = 512 * (t.val % 4) + r.val by omega))

end Cert.InprojIdeal.Hand

end
-- ==== Proof.lean ====
module

public import proofs.«01_k».proof.Defs
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MobaRefIdeal
public import proofs.«01_k».proof.Proof.Gen.MobaRefIdeal.Run
public import proofs.«01_k».proof.Proof.Gen.MobaRefIdeal.Read
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Pre
public import proofs.«01_k».proof.Proof.MobaValue
public import proofs.«01_k».proof.Proof.MergeValue
public import proofs.«01_k».proof.Proof.FfnValue
public import proofs.«01_k».proof.Proof.InprojValue
public import Idealize.ShloMosaic.Adequacy
public import Idealize.ShloMosaic.Init

@[expose] public section

noncomputable section

-- Every frame claim also says that the semaphore counters end at zero.

namespace Cert.Proof

open Idealize.ShloMosaic Idealize.SL.Sem

/-- The witnesses which the printed preconditions need. -/
theorem preFacts : Cert.Pre_scores_finite.Facts := ⟨by decide, by decide, by decide, by decide⟩

theorem projectionFacts : Cert.Pre_projection_finite.Facts := ⟨by decide, by decide, by decide, by decide, by decide, by decide⟩

/-- The attention reference runs, keeps its arguments, and has no semaphores to leave raised. -/
theorem frame_mobaRef : Cert.quiescent_MobaRefIdeal (hMobaRefIdeal := Cert.MobaRefIdeal.Gen.facts) := fun m ρ _ =>
  (θ_run Cert.MobaRefIdeal.defs _ _).mono (fun r h => ⟨fun c => (h c).2, sem_eq_zero_of_no_sems (by decide) r.2⟩)
    (Cert.MobaRefIdeal.Value.run (F := Ideal) m ρ)

/-- The feed-forward reference runs, keeps its arguments, and has no semaphores to leave raised. -/
theorem frame_ffnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The merge reference runs, keeps its arguments, and has no semaphores to leave raised. -/
theorem frame_mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The input-projection reference runs, keeps its arguments, and has no semaphores to leave raised. -/
theorem frame_inprojRef : Cert.quiescent_InprojRefIdeal (hInprojRefIdeal := Cert.InprojRefIdeal.Gen.facts) := fun m ρ _ =>
  (θ_run Cert.InprojRefIdeal.defs _ _).mono (fun r h => ⟨fun c => (h c).2.2.2.2.2, sem_eq_zero_of_no_sems (by decide) r.2⟩)
    (Cert.InprojRefIdeal.Value.run (F := Ideal) m ρ)

/-- The attention call and its reference end with the same array. -/
theorem algebraic_moba : Cert.algebraic_MobaIdeal_MobaRefIdeal_pre_scores_finite (hMobaIdeal := Cert.MobaIdeal.Gen.facts)
    (hMobaRefIdeal := Cert.MobaRefIdeal.Gen.facts) (hPre_scores_finite := preFacts) := fun m ρ m' ρ' hpre hag => by
  refine ⟨fun c => (Cert.MobaIdeal.Gen.dats m 0 c).arrAt 3 (Cert.MobaIdeal.cfgs 0).N, Cert.MobaIdeal.Value.run_blocks m ρ,
    (θ_run Cert.MobaRefIdeal.defs _ _).mono (fun r h c => ⟨(h c).1.trans ?_, (h c).2⟩) (Cert.MobaRefIdeal.Value.run (F := Ideal) m' ρ')⟩
  haveI := preFacts
  obtain ⟨hq, hk⟩ := Cert.Pre.scores_finite _ _ _ (hpre c)
  refine (Cert.MobaRefIdeal.Read.val_main_v78_eq m' c).trans ?_
  refine Eq.trans ?_ (Cert.MobaIdeal.Hand.final c hq hk).symm
  obtain ⟨h0, h1, h2⟩ := hag c
  rw [h0, h1, h2]

/-- The merge call and its reference end with the same array. -/
theorem algebraic_merge : Cert.algebraic_MergeIdeal_MergeRefIdeal (hMergeIdeal := Cert.MergeIdeal.Gen.facts)
    (hMergeRefIdeal := Cert.MergeRefIdeal.Gen.facts) := fun m ρ m' ρ' _ hag => by
  refine ⟨fun c => (Cert.MergeIdeal.Gen.dats m 0 c).arrAt 9 (Cert.MergeIdeal.cfgs 0).N, Cert.MergeIdeal.Value.run_blocks m ρ,
    (θ_run Cert.MergeRefIdeal.defs _ _).mono (fun r h c => ⟨(h c).1.trans ?_, (h c).2⟩) (Cert.MergeRefIdeal.Value.run (F := Ideal) m' ρ')⟩
  refine (Cert.MergeRefIdeal.Read.val_main_v43_eq m' c).trans ?_
  refine Eq.trans ?_ (Cert.MergeIdeal.Hand.final m c).symm
  obtain ⟨h0, h1, h2, h3, h4, h5, h6, h7, h8⟩ := hag c
  rw [h0, h1, h2, h3, h4, h5, h6, h7, h8]

theorem algebraic_ffn : Cert.algebraic_FfnIdeal_FfnRefIdeal (hFfnIdeal := Cert.FfnIdeal.Gen.facts)
    (hFfnRefIdeal := Cert.FfnRefIdeal.Gen.facts) := fun m ρ m' ρ' _ hag => by
  refine ⟨fun c => (Cert.FfnIdeal.Gen.dats m 0 c).arrAt 8 (Cert.FfnIdeal.cfgs 0).N, Cert.FfnIdeal.Value.run_blocks m ρ,
    (θ_run Cert.FfnRefIdeal.defs _ _).mono (fun r h c => ⟨(h c).1.trans ?_, (h c).2⟩) (Cert.FfnRefIdeal.Value.run (F := Ideal) m' ρ')⟩
  refine (Cert.FfnRefIdeal.Read.val_main_v72_eq m' c).trans ?_
  refine Eq.trans ?_ (Cert.FfnIdeal.Hand.final m c).symm
  obtain ⟨h0, h1, h2, h3, h4, h5, h6, h7⟩ := hag c
  rw [h0, h1, h2, h3, h4, h5, h6, h7]

/-- The projection call and its reference end with the same five arrays. -/
theorem algebraic_inproj : Cert.algebraic_InprojIdeal_InprojRefIdeal_pre_projection_finite (hInprojIdeal := Cert.InprojIdeal.Gen.facts)
    (hInprojRefIdeal := Cert.InprojRefIdeal.Gen.facts) (hPre_projection_finite := projectionFacts) := fun m ρ m' ρ' hpre hag => by
  refine ⟨fun c => (Cert.InprojIdeal.Gen.dats m 0 c).arrAt 7 (Cert.InprojIdeal.cfgs 0).N, fun c => (Cert.InprojIdeal.Gen.dats m 0 c).arrAt 8 (Cert.InprojIdeal.cfgs 0).N,
    fun c => (Cert.InprojIdeal.Gen.dats m 0 c).arrAt 9 (Cert.InprojIdeal.cfgs 0).N, fun c => (Cert.InprojIdeal.Gen.dats m 0 c).arrAt 10 (Cert.InprojIdeal.cfgs 0).N,
    fun c => (Cert.InprojIdeal.Gen.dats m 0 c).arrAt 11 (Cert.InprojIdeal.cfgs 0).N, Cert.InprojIdeal.Value.run_blocks m ρ,
    (θ_run Cert.InprojRefIdeal.defs _ _).mono (fun r h c => ?_) (Cert.InprojRefIdeal.Value.run (F := Ideal) m' ρ')⟩
  haveI := projectionFacts
  obtain ⟨hx, hw⟩ := Cert.Pre.projection_finite _ _ _ _ _ (hpre c)
  obtain ⟨h0, h1, h2, h3, h4⟩ := hag c
  refine ⟨(h c).1.trans ?_, (h c).2.1.trans ?_, (h c).2.2.1.trans ?_, (h c).2.2.2.1.trans ?_, (h c).2.2.2.2.1.trans ?_, (h c).2.2.2.2.2⟩
  · refine (Cert.InprojRefIdeal.Read.val_main_v196_eq _).trans ?_
    refine Eq.trans ?_ (Cert.InprojIdeal.Hand.final_7 m c).symm
    exact congrArg₂ (Cert.InprojRefIdeal.Read.val_main_v196 (F := Ideal)) h0 h1
  · refine (Cert.InprojRefIdeal.Read.val_main_v197_eq _).trans ?_
    refine Eq.trans ?_ (Cert.InprojIdeal.Hand.final_8 m c).symm
    exact congrArg₂ (Cert.InprojRefIdeal.Read.val_main_v197 (F := Ideal)) h0 h1
  · refine (Cert.InprojRefIdeal.Read.val_main_v198_eq _).trans ?_
    refine Eq.trans ?_ (Cert.InprojIdeal.Hand.final_9 m c).symm
    exact congrArg₂ (Cert.InprojRefIdeal.Read.val_main_v198 (F := Ideal)) h0 h1
  · refine (Cert.InprojRefIdeal.Read.val_main_v199_eq _).trans ?_
    refine Eq.trans ?_ (Cert.InprojIdeal.Hand.final_10 m c hx hw).symm
    exact congr (congr (congr (congrArg (Cert.InprojRefIdeal.Read.val_main_v199 (F := Ideal)) h0) h1) h3) h4
  · refine (Cert.InprojRefIdeal.Read.val_main_v200_eq _).trans ?_
    refine Eq.trans ?_ (Cert.InprojIdeal.Hand.final_11 m c).symm
    exact congr (congr (congrArg (Cert.InprojRefIdeal.Read.val_main_v200 (F := Ideal)) h0) h1) h2

/-- The named mask constant is the only replaced number. -/
theorem preserves_moba : Cert.preserves_Moba_MobaIdeal :=
  IdealRules.named_const.statement Cert.MobaIdeal.κ "mask" .f32 0xF149F2CA#32 ⊥ rfl

theorem claim : Cert.Claim :=
  ⟨Cert.Moba.Gen.facts, Cert.MobaIdeal.Gen.facts, Cert.MobaRefIdeal.Gen.facts, Cert.Ffn.Gen.facts, Cert.FfnIdeal.Gen.facts,
    Cert.FfnRefIdeal.Gen.facts, Cert.Merge.Gen.facts, Cert.MergeIdeal.Gen.facts, Cert.MergeRefIdeal.Gen.facts, Cert.Inproj.Gen.facts,
    Cert.InprojIdeal.Gen.facts, Cert.InprojRefIdeal.Gen.facts, preFacts, projectionFacts,
    fun m ρ _ => Cert.Moba.Gen.frame m ρ, fun m ρ _ => Cert.MobaIdeal.Gen.frame m ρ, fun m ρ _ => Cert.MobaIdeal.Gen.frame m ρ,
    frame_mobaRef, fun m ρ _ => frame_mobaRef m ρ trivial,
    fun m ρ _ => Cert.Ffn.Gen.frame m ρ, fun m ρ _ => Cert.FfnIdeal.Gen.frame m ρ, frame_ffnRef,
    fun m ρ _ => Cert.Merge.Gen.frame m ρ, fun m ρ _ => Cert.MergeIdeal.Gen.frame m ρ, frame_mergeRef,
    fun m ρ _ => Cert.Inproj.Gen.frame m ρ, fun m ρ _ => Cert.InprojIdeal.Gen.frame m ρ, fun m ρ _ => Cert.InprojIdeal.Gen.frame m ρ,
    frame_inprojRef, fun m ρ _ => frame_inprojRef m ρ trivial,
    preserves_moba, algebraic_moba, trivial, algebraic_ffn, trivial, algebraic_merge, trivial, algebraic_inproj⟩

end Cert.Proof

end
